-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15)
      ∧ r.2.mem ((c.tc : Thread Cert.MixReferenceIdeal.nD Cert.MixReferenceIdeal.τ).loc Cert.MixReferenceIdeal.main_arg16) = m ((c.tc : Thread Cert.MixReferenceIdeal.nD Cert.MixReferenceIdeal.τ).loc Cert.MixReferenceIdeal.main_arg16))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)
      ∧ m' ((c.tc : Thread Cert.MixReferenceIdeal.nD Cert.MixReferenceIdeal.τ).loc Cert.MixReferenceIdeal.main_arg16) = m ((c.tc : Thread Cert.MixIdeal.nD Cert.MixIdeal.τ).loc Cert.MixIdeal.main_arg16)) →
    ∃ (v0 : (c : Dev Cert.MixIdeal.nD) → Buf (Elt Ideal) ((c.tc : Thread Cert.MixIdeal.nD Cert.MixIdeal.τ).loc Cert.MixIdeal.main_v17_0)) (v1 : (c : Dev Cert.MixIdeal.nD) → Buf (Elt Ideal) ((c.tc : Thread Cert.MixIdeal.nD Cert.MixIdeal.τ).loc Cert.MixIdeal.main_v17_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v17_0) = v0 c
          ∧ r.2.mem ((c.tc : Thread Cert.MixIdeal.nD Cert.MixIdeal.τ).loc Cert.MixIdeal.main_v17_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v115) = v0 c
          ∧ r.2.mem ((c.tc : Thread Cert.MixReferenceIdeal.nD Cert.MixReferenceIdeal.τ).loc Cert.MixReferenceIdeal.main_v83) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15)
          ∧ r.2.mem ((c.tc : Thread Cert.MixReferenceIdeal.nD Cert.MixReferenceIdeal.τ).loc Cert.MixReferenceIdeal.main_arg16) = m' ((c.tc : Thread Cert.MixReferenceIdeal.nD Cert.MixReferenceIdeal.τ).loc Cert.MixReferenceIdeal.main_arg16))

def preserves_In_InIdeal : Prop :=
  IdealRules.named_const.Statement Cert.InIdeal.κ "scale" .f32 0x3E38AA3B#32 ((8⁻¹ * (Real.log 2)⁻¹ : ℝ) : EReal)

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)) (v3 : (c : Dev Cert.InIdeal.nD) → Buf (Elt Ideal) ((c.tc : Thread Cert.InIdeal.nD Cert.InIdeal.τ).loc Cert.InIdeal.main_v5_3)) (v4 : (c : Dev Cert.InIdeal.nD) → Buf (Elt Ideal) ((c.tc : Thread Cert.InIdeal.nD Cert.InIdeal.τ).loc Cert.InIdeal.main_v5_4)) (v5 : (c : Dev Cert.InIdeal.nD) → Buf (Elt Ideal) ((c.tc : Thread Cert.InIdeal.nD Cert.InIdeal.τ).loc Cert.InIdeal.main_v5_5)) (v6 : (c : Dev Cert.InIdeal.nD) → Buf (Elt Ideal) ((c.tc : Thread Cert.InIdeal.nD Cert.InIdeal.τ).loc Cert.InIdeal.main_v5_6)) (v7 : (c : Dev Cert.InIdeal.nD) → Buf (Elt Ideal) ((c.tc : Thread Cert.InIdeal.nD Cert.InIdeal.τ).loc Cert.InIdeal.main_v5_7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_v5_3) = v3 c
          ∧ r.2.mem ((c.tc : Thread Cert.InIdeal.nD Cert.InIdeal.τ).loc Cert.InIdeal.main_v5_4) = v4 c
          ∧ r.2.mem ((c.tc : Thread Cert.InIdeal.nD Cert.InIdeal.τ).loc Cert.InIdeal.main_v5_5) = v5 c
          ∧ r.2.mem ((c.tc : Thread Cert.InIdeal.nD Cert.InIdeal.τ).loc Cert.InIdeal.main_v5_6) = v6 c
          ∧ r.2.mem ((c.tc : Thread Cert.InIdeal.nD Cert.InIdeal.τ).loc Cert.InIdeal.main_v5_7) = v7 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v56) = v0 c
          ∧ r.2.mem ((c.tc : Thread Cert.InReferenceIdeal.nD Cert.InReferenceIdeal.τ).loc Cert.InReferenceIdeal.main_v58) = v1 c
          ∧ r.2.mem ((c.tc : Thread Cert.InReferenceIdeal.nD Cert.InReferenceIdeal.τ).loc Cert.InReferenceIdeal.main_v60) = v2 c
          ∧ r.2.mem ((c.tc : Thread Cert.InReferenceIdeal.nD Cert.InReferenceIdeal.τ).loc Cert.InReferenceIdeal.main_v61) = v3 c
          ∧ r.2.mem ((c.tc : Thread Cert.InReferenceIdeal.nD Cert.InReferenceIdeal.τ).loc Cert.InReferenceIdeal.main_v62) = v4 c
          ∧ r.2.mem ((c.tc : Thread Cert.InReferenceIdeal.nD Cert.InReferenceIdeal.τ).loc Cert.InReferenceIdeal.main_v63) = v5 c
          ∧ r.2.mem ((c.tc : Thread Cert.InReferenceIdeal.nD Cert.InReferenceIdeal.τ).loc Cert.InReferenceIdeal.main_v55) = v6 c
          ∧ r.2.mem ((c.tc : Thread Cert.InReferenceIdeal.nD Cert.InReferenceIdeal.τ).loc Cert.InReferenceIdeal.main_v64) = v7 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hIn : Cert.In.Facts) (hInIdeal : Cert.InIdeal.Facts) (hInReferenceIdeal : Cert.InReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixReferenceIdeal (hMixReferenceIdeal := hMixReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixReferenceIdeal (hMixIdeal := hMixIdeal) (hMixReferenceIdeal := hMixReferenceIdeal)
    ∧ preserves_In_InIdeal
    ∧ algebraic_InIdeal_InReferenceIdeal (hInIdeal := hInIdeal) (hInReferenceIdeal := hInReferenceIdeal)
-- ==== Pre_finite.lean ====
abbrev S1x16384x8x64 : Shape := ⟨4, ![1, 16384, 8, 64]⟩
abbrev S8x257 : Shape := ⟨2, ![8, 257]⟩
abbrev S_ : Shape := ⟨0, ![]⟩

class Facts : Prop where
  bcast_S_S1x16384x8x64 : S_.BroadcastsInDim S1x16384x8x64 (![] : Fin 0 → Fin S1x16384x8x64.rank)
  bcast_S_S8x257 : S_.BroadcastsInDim S8x257 (![] : Fin 0 → Fin S8x257.rank)

variable [Facts]

def fn {F : FTy → Type} [FloatOps F] (main_arg0 : FVec F S1x16384x8x64 .f32) (main_arg1 : FVec F S1x16384x8x64 .f32) (main_arg2 : FVec F S1x16384x8x64 .f32) (main_arg3 : FVec F S8x257 .f32) : IVec S1x16384x8x64 1 × IVec S1x16384x8x64 1 × IVec S8x257 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_v3 : FVec F S1x16384x8x64 .f32 := Host.absf main_arg1
  let main_cst_0 : FVec F S_ .f32 := constant S_ .f32 0x7F800000#32
  let main_v4 : FVec F S1x16384x8x64 .f32 := broadcastInDim S1x16384x8x64 ![] bcast_S_S1x16384x8x64 main_cst_0
  let main_v5 : IVec S1x16384x8x64 1 := cmpf .olt main_v3 main_v4
  let main_v6 : FVec F S8x257 .f32 := Host.absf main_arg3
  let main_cst_1 : FVec F S_ .f32 := constant S_ .f32 0x7F800000#32
  let main_v7 : FVec F S8x257 .f32 := broadcastInDim S8x257 ![] bcast_S_S8x257 main_cst_1
  let main_v8 : IVec S8x257 1 := cmpf .olt main_v6 main_v7
  (main_v2, main_v5, main_v8)
-- ==== Kernel.lean ====
abbrev S1x16384x8x64 : Shape := ⟨4, ![1, 16384, 8, 64]⟩
abbrev S8x257 : Shape := ⟨2, ![8, 257]⟩
abbrev S16384x512 : Shape := ⟨2, ![16384, 512]⟩
abbrev S_ : Shape := ⟨0, ![]⟩
abbrev S512x512 : Shape := ⟨2, ![512, 512]⟩
abbrev S16896x512 : Shape := ⟨2, ![16896, 512]⟩
abbrev S8x1 : Shape := ⟨2, ![8, 1]⟩
abbrev S8x448 : Shape := ⟨2, ![8, 448]⟩
abbrev S8x191 : Shape := ⟨2, ![8, 191]⟩
abbrev S8x639 : Shape := ⟨2, ![8, 639]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S4x128x576 : Shape := ⟨3, ![4, 128, 576]⟩
abbrev S1024x512 : Shape := ⟨2, ![1024, 512]⟩
abbrev S64x512 : Shape := ⟨2, ![64, 512]⟩
abbrev S64x128 : Shape := ⟨2, ![64, 128]⟩
abbrev S128x128 : Shape := ⟨2, ![128, 128]⟩
abbrev S576x128 : Shape := ⟨2, ![576, 128]⟩
abbrev S128x576 : Shape := ⟨2, ![128, 576]⟩
abbrev S1x128x576 : Shape := ⟨3, ![1, 128, 576]⟩
abbrev S128 : Shape := ⟨1, ![128]⟩
abbrev S128x1 : Shape := ⟨2, ![128, 1]⟩

abbrev nBuf : Space → Nat
  | .hbm => 44
  | .vmem => 9
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S8x257, .f32⟩
  | .hbm, ⟨4, _⟩ => ⟨S16384x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S_, .bf16⟩
  | .hbm, ⟨15, _⟩ => ⟨S512x512, .bf16⟩
  | .hbm, ⟨16, _⟩ => ⟨S16384x512, .f32⟩
  | .hbm, ⟨17, _⟩ => ⟨S16384x512, .bf16⟩
  | .hbm, ⟨18, _⟩ => ⟨S16896x512, .bf16⟩
  | .hbm, ⟨19, _⟩ => ⟨S16384x512, .f32⟩
  | .hbm, ⟨20, _⟩ => ⟨S16384x512, .bf16⟩
  | .hbm, ⟨21, _⟩ => ⟨S16896x512, .bf16⟩
  | .hbm, ⟨22, _⟩ => ⟨S8x1, .f32⟩
  | .hbm, ⟨23, _⟩ => ⟨S8x448, .f32⟩
  | .hbm, ⟨24, _⟩ => ⟨S8x191, .f32⟩
  | .hbm, ⟨25, _⟩ => ⟨S8x191, .f32⟩
  | .hbm, ⟨26, _⟩ => ⟨S8x639, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x639, .f32⟩
  | .hbm, ⟨32, _⟩ => ⟨S8x639, .f32⟩
  | .hbm, ⟨33, _⟩ => ⟨S_, .f32⟩
  | .hbm, ⟨34, _⟩ => ⟨S8x1, .f32⟩
  | .hbm, ⟨35, _⟩ => ⟨S8x640, .f32⟩
  | .hbm, ⟨36, _⟩ => ⟨S1x8x1x640, .f32⟩
  | .hbm, ⟨37, _⟩ => ⟨S1x8x64x640, .f32⟩
  | .hbm, ⟨38, _⟩ => ⟨S8x40960, .f32⟩
  | .hbm, ⟨39, _⟩ => ⟨S8x40896, .f32⟩
  | .hbm, ⟨40, _⟩ => ⟨S8x64x639, .f32⟩
  | .hbm, ⟨41, _⟩ => ⟨S8x64x576, .f32⟩
  | .hbm, ⟨42, _⟩ => ⟨S4x128x576, .f32⟩
  | .hbm, ⟨43, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S4x128x576, .f32⟩
  | .local _ .vmem, ⟨7, _⟩ => ⟨S512x512, .bf16⟩
  | .local _ .vmem, ⟨8, _⟩ => ⟨S512x512, .bf16⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .ne arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x16384x8x64 : Shape := ⟨4, ![1, 16384, 8, 64]⟩
abbrev S8x257 : Shape := ⟨2, ![8, 257]⟩
abbrev S_ : Shape := ⟨0, ![]⟩
abbrev S1x512x8x64 : Shape := ⟨4, ![1, 512, 8, 64]⟩
abbrev S1x16896x8x64 : Shape := ⟨4, ![1, 16896, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256 : Shape := ⟨1, ![256]⟩
abbrev S256x1 : Shape := ⟨2, ![256, 1]⟩
abbrev S256x4 : Shape := ⟨2, ![256, 4]⟩
abbrev S256x1x64x8x64 : Shape := ⟨5, ![256, 1, 64, 8, 64]⟩
abbrev S256x1x576x8x64 : Shape := ⟨5, ![256, 1, 576, 8, 64]⟩
abbrev S256x1x8x64x576 : Shape := ⟨5, ![256, 1, 8, 64, 576]⟩
abbrev S1x8x64x576 : Shape := ⟨4, ![1, 8, 64, 576]⟩
abbrev S1x1x8x64x576 : Shape := ⟨5, ![1, 1, 8, 64, 576]⟩
abbrev S256x576 : Shape := ⟨2, ![256, 576]⟩
abbrev S256x1x8x64 : Shape := ⟨4, ![256, 1, 8, 64]⟩
abbrev S256x1x8x64x1 : Shape := ⟨5, ![256, 1, 8, 64, 1]⟩
abbrev S256x1x8x64x64 : Shape := ⟨5, ![256, 1, 8, 64, 64]⟩
abbrev S1x256x64x8x64 : Shape := ⟨5, ![1, 256, 64, 8, 64]⟩
abbrev S16384x512 : Shape := ⟨2, ![16384, 512]⟩

abbrev nBuf : Space → Nat
  | .hbm => 132
  | .vmem => 0
  | .smem => 0
  | _ => 0

abbrev hbmTy0_0 (i : Nat) : BufTy := match i % 128 with
  | 0 => ⟨S1x16384x8x64, .f32⟩
  | 1 => ⟨S1x16384x8x64, .f32⟩
  | 2 => ⟨S1x16384x8x64, .f32⟩
  | 3 => ⟨S8x257, .f32⟩
  | 4 => ⟨S_, .f32⟩
  | 5 => ⟨S1x512x8x64, .f32⟩
  | 6 => ⟨S1x16896x8x64, .f32⟩
  | 7 => ⟨S1x16896x8x64, .f32⟩
  | 8 => ⟨S64, .i32⟩
  | 9 => ⟨S576, .i32⟩
  | 10 => ⟨S64x1, .i32⟩
  | 11 => ⟨S_, .i32⟩
  | 12 => ⟨S64x1, .i32⟩
  | 13 => ⟨S64x1, .i32⟩
  | 14 => ⟨S1x576, .i32⟩
  | 15 => ⟨S64x576, .i32⟩
  | 16 => ⟨S64x576, .i32⟩
  | 17 => ⟨S64x576, .i32⟩
  | 18 => ⟨S_, .i32⟩
  | 19 => ⟨S_, .i32⟩
  | 20 => ⟨S_, .i32⟩
  | 21 => ⟨S64x576, .i32⟩
  | 22 => ⟨S64x576, .i32⟩
  | 23 => ⟨S_, .i32⟩
  | 24 => ⟨S64x576, .i32⟩
  | 25 => ⟨S64x576, .i32⟩
  | 26 => ⟨S_, .i32⟩
  | 27 => ⟨S64x576, .i32⟩
  | 28 => ⟨S64x576, .i32⟩
  | 29 => ⟨S_, .i32⟩
  | 30 => ⟨S64x576, .i32⟩
  | 31 => ⟨S64x576, .i1⟩
  | 32 => ⟨S_, .i32⟩
  | 33 => ⟨S64x576, .i32⟩
  | 34 => ⟨S64x576, .i32⟩
  | 35 => ⟨S64x576, .i32⟩
  | 36 => ⟨S64x576x1, .i32⟩
  | 37 => ⟨S8x64x576, .f32⟩
  | 38 => ⟨S256, .i32⟩
  | 39 => ⟨S_, .i32⟩
  | 40 => ⟨S256, .i32⟩
  | 41 => ⟨S256, .i32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S_, .i32⟩
  | 50 => ⟨S256x1, .i32⟩
  | 51 => ⟨S256x1, .i32⟩
  | 52 => ⟨S_, .i32⟩
  | 53 => ⟨S256x1, .i32⟩
  | 54 => ⟨S_, .i32⟩
  | 55 => ⟨S256x1, .i32⟩
  | 56 => ⟨S256x4, .i32⟩
  | 57 => ⟨S256x1x64x8x64, .f32⟩
  | 58 => ⟨S_, .i32⟩
  | 59 => ⟨S256, .i32⟩
  | 60 => ⟨S256, .i1⟩
  | 61 => ⟨S_, .i32⟩
  | 62 => ⟨S256, .i32⟩
  | 63 => ⟨S256, .i32⟩
  | 64 => ⟨S256, .i32⟩
  | 65 => ⟨S_, .i32⟩
  | 66 => ⟨S256x1, .i32⟩
  | 67 => ⟨S256x1, .i32⟩
  | 68 => ⟨S_, .i32⟩
  | 69 => ⟨S256x1, .i32⟩
  | 70 => ⟨S_, .i32⟩
  | 71 => ⟨S256x1, .i32⟩
  | 72 => ⟨S256x4, .i32⟩
  | 73 => ⟨S256x1x576x8x64, .f32⟩
  | 74 => ⟨S_, .i32⟩
  | 75 => ⟨S256, .i32⟩
  | 76 => ⟨S256, .i1⟩
  | 77 => ⟨S_, .i32⟩
  | 78 => ⟨S256, .i32⟩
  | 79 => ⟨S256, .i32⟩
  | 80 => ⟨S256, .i32⟩
  | 81 => ⟨S_, .i32⟩
  | 82 => ⟨S256x1, .i32⟩
  | 83 => ⟨S256x1, .i32⟩
  | 84 => ⟨S_, .i32⟩
  | 85 => ⟨S256x1, .i32⟩
  | 86 => ⟨S_, .i32⟩
  | 87 => ⟨S256x1, .i32⟩
  | 88 => ⟨S256x4, .i32⟩
  | 89 => ⟨S256x1x576x8x64, .f32⟩
  | 90 => ⟨S256x1x8x64x576, .f32⟩
  | 91 => ⟨S_, .f32⟩
  | 92 => ⟨S256x1x8x64x576, .f32⟩
  | 93 => ⟨S256x1x8x64x576, .f32⟩
  | 94 => ⟨S1x8x64x576, .f32⟩
  | 95 => ⟨S1x1x8x64x576, .f32⟩
  | 96 => ⟨S256x1x8x64x576, .f32⟩
  | 97 => ⟨S256x1x8x64x576, .f32⟩
  | 98 => ⟨S1x576, .i32⟩
  | 99 => ⟨S256x1, .i32⟩
  | 100 => ⟨S256x576, .i32⟩
  | 101 => ⟨S256x576, .i32⟩
  | 102 => ⟨S256x576, .i32⟩
  | 103 => ⟨S_, .i32⟩
  | 104 => ⟨S256x576, .i32⟩
  | 105 => ⟨S256x576, .i1⟩
  | 106 => ⟨S_, .f32⟩
  | 107 => ⟨S_, .f32⟩
  | 108 => ⟨S256x1x8x64x576, .i1⟩
  | 109 => ⟨S1x8x64x576, .f32⟩
  | 110 => ⟨S256x1x8x64x576, .f32⟩
  | 111 => ⟨S256x1x8x64x576, .f32⟩
  | 112 => ⟨S_, .f32⟩
  | 113 => ⟨S256x1x8x64, .f32⟩
  | 114 => ⟨S_, .f32⟩
  | 115 => ⟨S256x1x8x64, .f32⟩
  | 116 => ⟨S256x1x8x64, .f32⟩
  | 117 => ⟨S256x1x8x64x1, .f32⟩
  | 118 => ⟨S256x1x8x64x576, .f32⟩
  | 119 => ⟨S256x1x8x64x576, .f32⟩
  | 120 => ⟨S256x1x8x64x576, .f32⟩
  | 121 => ⟨S_, .f32⟩
  | 122 => ⟨S256x1x8x64, .f32⟩
  | 123 => ⟨S256x1x8x64x1, .f32⟩
  | 124 => ⟨S256x1x8x64x576, .f32⟩
  | 125 => ⟨S256x1x8x64x576, .f32⟩
  | 126 => ⟨S256x1x8x64x64, .f32⟩
  | 127 => ⟨S256x1x64x8x64, .f32⟩
  | _ => ⟨S1x16384x8x64, .f32⟩

abbrev hbmTy0_1 (i : Nat) : BufTy := match i % 128 with
  | 0 => ⟨S1x256x64x8x64, .f32⟩
  | 1 => ⟨S1x16384x8x64, .f32⟩
  | 2 => ⟨S16384x512, .f32⟩
  | 3 => ⟨S16384x512, .bf16⟩
  | _ => ⟨S1x16384x8x64, .f32⟩

abbrev hbmTy (i : Nat) : BufTy := match i / 128 with
  | 0 => hbmTy0_0 i
  | 1 => hbmTy0_1 i
  | _ => ⟨S1x16384x8x64, .f32⟩

abbrev bufTy : (tb : Table) → Fin (tcTables nBuf tb) → BufTy
  | .hbm, ⟨i, _⟩ => hbmTy i
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_11 : Ref sig .tc := ⟨.hbm, 58, rfl⟩
abbrev main_v36 : Ref sig .tc := ⟨.hbm, 59, rfl⟩
abbrev main_v37 : Ref sig .tc := ⟨.hbm, 60, rfl⟩
abbrev main_c_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_13 : Ref sig .tc := ⟨.hbm, 65, rfl⟩
abbrev main_v41 : Ref sig .tc := ⟨.hbm, 66, rfl⟩
abbrev main_v42 : Ref sig .tc := ⟨.hbm, 67, rfl⟩
abbrev main_c_14 : Ref sig .tc := ⟨.hbm, 68, rfl⟩
abbrev main_v43 : Ref sig .tc := ⟨.hbm, 69, rfl⟩
abbrev main_c_15 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_16 : Ref sig .tc := ⟨.hbm, 74, rfl⟩
abbrev main_v47 : Ref sig .tc := ⟨.hbm, 75, rfl⟩
abbrev main_v48 : Ref sig .tc := ⟨.hbm, 76, rfl⟩
abbrev main_c_17 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_18 : Ref sig .tc := ⟨.hbm, 81, rfl⟩
abbrev main_v52 : Ref sig .tc := ⟨.hbm, 82, rfl⟩
abbrev main_v53 : Ref sig .tc := ⟨.hbm, 83, rfl⟩
abbrev main_c_19 : Ref sig .tc := ⟨.hbm, 84, rfl⟩
abbrev main_v54 : Ref sig .tc := ⟨.hbm, 85, rfl⟩
abbrev main_c_20 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_21 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_22 : Ref sig .tc := ⟨.hbm, 103, rfl⟩
abbrev main_v70 : Ref sig .tc := ⟨.hbm, 104, rfl⟩
abbrev main_v71 : Ref sig .tc := ⟨.hbm, 105, rfl⟩
abbrev main_cst_23 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_v72 : Ref sig .tc := ⟨.hbm, 111, rfl⟩
abbrev main_cst_24 : Ref sig .tc := ⟨.hbm, 112, rfl⟩
abbrev main_v73 : Ref sig .tc := ⟨.hbm, 113, rfl⟩
abbrev main_cst_25 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_26 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩

abbrev nD : Nat := 1
abbrev τ : Topo := Topo.v7x

variable {F : FTy → Type} [FloatOps F]
-- ==== Mix.lean ====
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x2048 : Shape := ⟨3, ![1, 16384, 2048]⟩
abbrev S1x6144 : Shape := ⟨2, ![1, 6144]⟩
abbrev S1x2x2816 : Shape := ⟨3, ![1, 2, 2816]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S16384x1024 : Shape := ⟨2, ![16384, 1024]⟩
abbrev S16384x512 : Shape := ⟨2, ![16384, 512]⟩
abbrev S16384x2048 : Shape := ⟨2, ![16384, 2048]⟩
abbrev S1x6x1024 : Shape := ⟨3, ![1, 6, 1024]⟩
abbrev S512x512 : Shape := ⟨2, ![512, 512]⟩
abbrev S512x2048 : Shape := ⟨2, ![512, 2048]⟩
abbrev S8x2816 : Shape := ⟨2, ![8, 2816]⟩
abbrev S512x2816 : Shape := ⟨2, ![512, 2816]⟩
abbrev S2x2816 : Shape := ⟨2, ![2, 2816]⟩
abbrev S256x512 : Shape := ⟨2, ![256, 512]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S8x256 : Shape := ⟨2, ![8, 256]⟩
abbrev S1024x256 : Shape := ⟨2, ![1024, 256]⟩
abbrev S512x256 : Shape := ⟨2, ![512, 256]⟩
abbrev S1x256 : Shape := ⟨2, ![1, 256]⟩
abbrev S504x256 : Shape := ⟨2, ![504, 256]⟩
abbrev S2x256 : Shape := ⟨2, ![2, 256]⟩
abbrev S1x2x256 : Shape := ⟨3, ![1, 2, 256]⟩
abbrev S256x2816 : Shape := ⟨2, ![256, 2816]⟩

abbrev nBuf : Space → Nat
  | .hbm => 36
  | .vmem => 28
  | .smem => 0
  | _ => 0

abbrev bufTy : (tb : Table) → Fin (tcTables nBuf tb) → BufTy
  | .hbm, ⟨0, _⟩ => ⟨S1x16384x1024, .f32⟩
  | .hbm, ⟨1, _⟩ => ⟨S1x16384x8x64, .f32⟩
  | .hbm, ⟨2, _⟩ => ⟨S1x16384x512, .f32⟩
  | .hbm, ⟨3, _⟩ => ⟨S1x16384x2048, .f32⟩
  | .hbm, ⟨4, _⟩ => ⟨S1x6144, .f32⟩
  | .hbm, ⟨5, _⟩ => ⟨S1x2x2816, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x5632, .f32⟩
  | .hbm, ⟨14, _⟩ => ⟨S3x2816, .f32⟩
  | .hbm, ⟨15, _⟩ => ⟨S2816, .f32⟩
  | .hbm, ⟨16, _⟩ => ⟨S2816x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1024x5632, .bf16⟩
  | .hbm, ⟨25, _⟩ => ⟨S1x2816, .f32⟩
  | .hbm, ⟨26, _⟩ => ⟨S2816x1024, .bf16⟩
  | .hbm, ⟨27, _⟩ => ⟨S16384x1024, .f32⟩
  | .hbm, ⟨28, _⟩ => ⟨S16384x512, .f32⟩
  | .hbm, ⟨29, _⟩ => ⟨S16384x512, .bf16⟩
  | .hbm, ⟨30, _⟩ => ⟨S16384x512, .f32⟩
  | .hbm, ⟨31, _⟩ => ⟨S16384x512, .bf16⟩
  | .hbm, ⟨32, _⟩ => ⟨S16384x2048, .f32⟩
  | .hbm, ⟨33, _⟩ => ⟨S1x6x1024, .f32⟩
  | .hbm, ⟨34, _⟩ => ⟨S16384x1024, .f32⟩
  | .hbm, ⟨35, _⟩ => ⟨S1x2x2816, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x6x1024, .f32⟩
  | .local _ .vmem, ⟨9, _⟩ => ⟨S1x2x2816, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x5632, .bf16⟩
  | .local _ .vmem, ⟨18, _⟩ => ⟨S3x2816, .f32⟩
  | .local _ .vmem, ⟨19, _⟩ => ⟨S1x2816, .f32⟩
  | .local _ .vmem, ⟨20, _⟩ => ⟨S2816x1024, .bf16⟩
  | .local _ .vmem, ⟨21, _⟩ => ⟨S512x1024, .f32⟩
  | .local _ .vmem, ⟨22, _⟩ => ⟨S512x1024, .f32⟩
  | .local _ .vmem, ⟨23, _⟩ => ⟨S1x2x2816, .f32⟩
  | .local _ .vmem, ⟨24, _⟩ => ⟨S8x2816, .f32⟩
  | .local _ .vmem, ⟨25, _⟩ => ⟨S512x2816, .bf16⟩
  | .local _ .vmem, ⟨26, _⟩ => ⟨S512x1024, .f32⟩
  | .local _ .vmem, ⟨27, _⟩ => ⟨S512x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17_0 : Ref sig .tc := ⟨.hbm, 34, rfl⟩
abbrev main_v17_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x5632 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x2816 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2816 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x2x2816 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixReferenceIdeal.lean ====
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x2048 : Shape := ⟨3, ![1, 16384, 2048]⟩
abbrev S1x6144 : Shape := ⟨2, ![1, 6144]⟩
abbrev S1x2x2816 : Shape := ⟨3, ![1, 2, 2816]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1x6144 : Shape := ⟨3, ![1, 1, 6144]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩
abbrev S1x16384x5632 : Shape := ⟨3, ![1, 16384, 5632]⟩
abbrev S1x16384x2816 : Shape := ⟨3, ![1, 16384, 2816]⟩
abbrev S1x16386x2816 : Shape := ⟨3, ![1, 16386, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 156
  | .vmem => 0
  | .smem => 0
  | _ => 0

abbrev hbmTy0_0 (i : Nat) : BufTy := match i % 128 with
  | 0 => ⟨S1x16384x1024, .f32⟩
  | 1 => ⟨S1x16384x8x64, .f32⟩
  | 2 => ⟨S1x16384x512, .f32⟩
  | 3 => ⟨S1x16384x2048, .f32⟩
  | 4 => ⟨S1x6144, .f32⟩
  | 5 => ⟨S1x2x2816, .f32⟩
  | 6 => ⟨S512x1024, .f32⟩
  | 7 => ⟨S512x1024, .f32⟩
  | 8 => ⟨S1024x1024, .f32⟩
  | 9 => ⟨S1024, .f32⟩
  | 10 => ⟨S1024, .f32⟩
  | 11 => ⟨S1024, .f32⟩
  | 12 => ⟨S1024, .f32⟩
  | 13 => ⟨S1024x5632, .f32⟩
  | 14 => ⟨S3x2816, .f32⟩
  | 15 => ⟨S2816, .f32⟩
  | 16 => ⟨S2816x1024, .f32⟩
  | 17 => ⟨S1x1x6144, .f32⟩
  | 18 => ⟨S1x1x1024, .f32⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S1x16384x1024, .f32⟩
  | 25 => ⟨S1x16384x512, .f32⟩
  | 26 => ⟨S1x16384x1024, .f32⟩
  | 27 => ⟨S1x16384x1024, .f32⟩
  | 28 => ⟨S1x16384x1024, .f32⟩
  | 29 => ⟨S1x16384x1024, .f32⟩
  | 30 => ⟨S1x16384x1024, .f32⟩
  | 31 => ⟨S1x16384x1024, .f32⟩
  | 32 => ⟨S1x16384x1024, .f32⟩
  | 33 => ⟨S_, .f32⟩
  | 34 => ⟨S1x16384x1024, .f32⟩
  | 35 => ⟨S1x16384x1024, .f32⟩
  | 36 => ⟨S_, .f32⟩
  | 37 => ⟨S1x1x1024, .f32⟩
  | 38 => ⟨S1x1x1024, .f32⟩
  | 39 => ⟨S1x16384x1024, .f32⟩
  | 40 => ⟨S1x16384x1024, .f32⟩
  | 41 => ⟨S1x16384x1024, .f32⟩
  | 42 => ⟨S_, .f32⟩
  | 43 => ⟨S1x16384, .f32⟩
  | 44 => ⟨S1x16384x1, .f32⟩
  | 45 => ⟨S_, .f32⟩
  | 46 => ⟨S1x16384x1, .f32⟩
  | 47 => ⟨S1x16384x1, .f32⟩
  | 48 => ⟨S1x16384x1024, .f32⟩
  | 49 => ⟨S1x16384x1024, .f32⟩
  | 50 => ⟨S1x16384x1024, .f32⟩
  | 51 => ⟨S_, .f32⟩
  | 52 => ⟨S1x16384, .f32⟩
  | 53 => ⟨S1x16384x1, .f32⟩
  | 54 => ⟨S_, .f32⟩
  | 55 => ⟨S1x16384x1, .f32⟩
  | 56 => ⟨S1x16384x1, .f32⟩
  | 57 => ⟨S1x16384x1024, .f32⟩
  | 58 => ⟨S1x16384x1024, .f32⟩
  | 59 => ⟨S_, .f32⟩
  | 60 => ⟨S1x16384x1, .f32⟩
  | 61 => ⟨S1x16384x1, .f32⟩
  | 62 => ⟨S1x16384x1, .f32⟩
  | 63 => ⟨S1x16384x1024, .f32⟩
  | 64 => ⟨S1x16384x1024, .f32⟩
  | 65 => ⟨S1x1x1024, .f32⟩
  | 66 => ⟨S1x16384x1024, .f32⟩
  | 67 => ⟨S1x16384x1024, .f32⟩
  | 68 => ⟨S1x1x1024, .f32⟩
  | 69 => ⟨S1x16384x1024, .f32⟩
  | 70 => ⟨S1x16384x1024, .f32⟩
  | 71 => ⟨S_, .f32⟩
  | 72 => ⟨S1x1x1024, .f32⟩
  | 73 => ⟨S1x1x1024, .f32⟩
  | 74 => ⟨S1x16384x1024, .f32⟩
  | 75 => ⟨S1x16384x1024, .f32⟩
  | 76 => ⟨S1x16384x1024, .f32⟩
  | 77 => ⟨S1x16384x1024, .f32⟩
  | 78 => ⟨S1x16384x5632, .f32⟩
  | 79 => ⟨S1x16384x2816, .f32⟩
  | 80 => ⟨S1x16384x2816, .f32⟩
  | 81 => ⟨S1x16386x2816, .f32⟩
  | 82 => ⟨S1x16384x2816, .f32⟩
  | 83 => ⟨S1x2816, .f32⟩
  | 84 => ⟨S2816, .f32⟩
  | 85 => ⟨S1x1x2816, .f32⟩
  | 86 => ⟨S1x16384x2816, .f32⟩
  | 87 => ⟨S1x16384x2816, .f32⟩
  | 88 => ⟨S1x1x2816, .f32⟩
  | 89 => ⟨S1x16384x2816, .f32⟩
  | 90 => ⟨S1x16384x2816, .f32⟩
  | 91 => ⟨S1x16384x2816, .f32⟩
  | 92 => ⟨S1x2816, .f32⟩
  | 93 => ⟨S2816, .f32⟩
  | 94 => ⟨S1x1x2816, .f32⟩
  | 95 => ⟨S1x16384x2816, .f32⟩
  | 96 => ⟨S1x16384x2816, .f32⟩
  | 97 => ⟨S1x16384x2816, .f32⟩
  | 98 => ⟨S1x16384x2816, .f32⟩
  | 99 => ⟨S1x2816, .f32⟩
  | 100 => ⟨S2816, .f32⟩
  | 101 => ⟨S1x1x2816, .f32⟩
  | 102 => ⟨S1x16384x2816, .f32⟩
  | 103 => ⟨S1x16384x2816, .f32⟩
  | 104 => ⟨S1x16384x2816, .f32⟩
  | 105 => ⟨S1x16384x2816, .f32⟩
  | 106 => ⟨S1x16384x2816, .f32⟩
  | 107 => ⟨S_, .f32⟩
  | 108 => ⟨S1x16384x2816, .f32⟩
  | 109 => ⟨S1x16384x2816, .f32⟩
  | 110 => ⟨S_, .f32⟩
  | 111 => ⟨S1x16384x2816, .f32⟩
  | 112 => ⟨S1x16384x2816, .f32⟩
  | 113 => ⟨S1x16384x2816, .f32⟩
  | 114 => ⟨S1x16384x2816, .f32⟩
  | 115 => ⟨S1x16384x1024, .f32⟩
  | 116 => ⟨S1x2x2816, .f32⟩
  | 117 => ⟨S_, .f32⟩
  | 118 => ⟨S1x16384x1024, .f32⟩
  | 119 => ⟨S1x16384x1024, .f32⟩
  | 120 => ⟨S_, .f32⟩
  | 121 => ⟨S1x1x1024, .f32⟩
  | 122 => ⟨S1x1x1024, .f32⟩
  | 123 => ⟨S1x16384x1024, .f32⟩
  | 124 => ⟨S1x16384x1024, .f32⟩
  | 125 => ⟨S1x16384x1024, .f32⟩
  | 126 => ⟨S_, .f32⟩
  | 127 => ⟨S1x16384, .f32⟩
  | _ => ⟨S1x16384x1024, .f32⟩

abbrev hbmTy0_1 (i : Nat) : BufTy := match i % 128 with
  | 0 => ⟨S1x16384x1, .f32⟩
  | 1 => ⟨S_, .f32⟩
  | 2 => ⟨S1x16384x1, .f32⟩
  | 3 => ⟨S1x16384x1, .f32⟩
  | 4 => ⟨S1x16384x1024, .f32⟩
  | 5 => ⟨S1x16384x1024, .f32⟩
  | 6 => ⟨S1x16384x1024, .f32⟩
  | 7 => ⟨S_, .f32⟩
  | 8 => ⟨S1x16384, .f32⟩
  | 9 => ⟨S1x16384x1, .f32⟩
  | 10 => ⟨S_, .f32⟩
  | 11 => ⟨S1x16384x1, .f32⟩
  | 12 => ⟨S1x16384x1, .f32⟩
  | 13 => ⟨S1x16384x1024, .f32⟩
  | 14 => ⟨S1x16384x1024, .f32⟩
  | 15 => ⟨S_, .f32⟩
  | 16 => ⟨S1x16384x1, .f32⟩
  | 17 => ⟨S1x16384x1, .f32⟩
  | 18 => ⟨S1x16384x1, .f32⟩
  | 19 => ⟨S1x16384x1024, .f32⟩
  | 20 => ⟨S1x16384x1024, .f32⟩
  | 21 => ⟨S1x1x1024, .f32⟩
  | 22 => ⟨S1x16384x1024, .f32⟩
  | 23 => ⟨S1x16384x1024, .f32⟩
  | 24 => ⟨S1x1x1024, .f32⟩
  | 25 => ⟨S1x16384x1024, .f32⟩
  | 26 => ⟨S1x16384x1024, .f32⟩
  | 27 => ⟨S16384x1024, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_7 : Ref sig .tc := ⟨.hbm, 117, rfl⟩
abbrev main_v84 : Ref sig .tc := ⟨.hbm, 118, rfl⟩
abbrev main_v85 : Ref sig .tc := ⟨.hbm, 119, rfl⟩
abbrev main_cst_8 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_9 : Ref sig .tc := ⟨.hbm, 126, rfl⟩
abbrev main_v91 : Ref sig .tc := ⟨.hbm, 127, rfl⟩
abbrev main_v92 : Ref sig .tc := ⟨.hbm, 128, rfl⟩
abbrev main_cst_10 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_11 : Ref sig .tc := ⟨.hbm, 135, rfl⟩
abbrev main_v98 : Ref sig .tc := ⟨.hbm, 136, rfl⟩
abbrev main_v99 : Ref sig .tc := ⟨.hbm, 137, rfl⟩
abbrev main_cst_12 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_13 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩

abbrev nD : Nat := 1
abbrev τ : Topo := Topo.v7x

variable {F : FTy → Type} [FloatOps F]
-- ==== In.lean ====
abbrev S1x16384x1024 : Shape := ⟨3, ![1, 16384, 1024]⟩
abbrev S1x6144 : Shape := ⟨2, ![1, 6144]⟩
abbrev S1024 : Shape := ⟨1, ![1024]⟩
abbrev S1024x5376 : Shape := ⟨2, ![1024, 5376]⟩
abbrev S16384x1024 : Shape := ⟨2, ![16384, 1024]⟩
abbrev S1x6x1024 : Shape := ⟨3, ![1, 6, 1024]⟩
abbrev S1x1024 : Shape := ⟨2, ![1, 1024]⟩
abbrev S16384x512 : Shape := ⟨2, ![16384, 512]⟩
abbrev S16896x512 : Shape := ⟨2, ![16896, 512]⟩
abbrev S512x512 : Shape := ⟨2, ![512, 512]⟩
abbrev S16384x1792 : Shape := ⟨2, ![16384, 1792]⟩
abbrev S16384x2048 : Shape := ⟨2, ![16384, 2048]⟩
abbrev S512x1024 : Shape := ⟨2, ![512, 1024]⟩
abbrev S512x1792 : Shape := ⟨2, ![512, 1792]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩

abbrev nBuf : Space → Nat
  | .hbm => 18
  | .vmem => 26
  | .smem => 0
  | _ => 0

abbrev bufTy : (tb : Table) → Fin (tcTables nBuf tb) → BufTy
  | .hbm, ⟨0, _⟩ => ⟨S1x16384x1024, .f32⟩
  | .hbm, ⟨1, _⟩ => ⟨S1x6144, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S16384x1024, .f32⟩
  | .hbm, ⟨6, _⟩ => ⟨S1x6x1024, .f32⟩
  | .hbm, ⟨7, _⟩ => ⟨S1x1024, .f32⟩
  | .hbm, ⟨8, _⟩ => ⟨S1x1024, .f32⟩
  | .hbm, ⟨9, _⟩ => ⟨S1024x5376, .bf16⟩
  | .hbm, ⟨10, _⟩ => ⟨S16384x512, .bf16⟩
  | .hbm, ⟨11, _⟩ => ⟨S16896x512, .bf16⟩
  | .hbm, ⟨12, _⟩ => ⟨S16896x512, .bf16⟩
  | .hbm, ⟨13, _⟩ => ⟨S512x512, .f32⟩
  | .hbm, ⟨14, _⟩ => ⟨S512x512, .f32⟩
  | .hbm, ⟨15, _⟩ => ⟨S16384x1792, .f32⟩
  | .hbm, ⟨16, _⟩ => ⟨S16384x2048, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x1024, .f32⟩
  | .local _ .vmem, ⟨6, _⟩ => ⟨S1x1024, .f32⟩
  | .local _ .vmem, ⟨7, _⟩ => ⟨S1024x5376, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x1792, .f32⟩
  | .local _ .vmem, ⟨19, _⟩ => ⟨S512x1792, .f32⟩
  | .local _ .vmem, ⟨20, _⟩ => ⟨S512x2048, .f32⟩
  | .local _ .vmem, ⟨21, _⟩ => ⟨S512x2048, .f32⟩
  | .local _ .vmem, ⟨22, _⟩ => ⟨S512x1024, .f32⟩
  | .local _ .vmem, ⟨23, _⟩ => ⟨S512x1024, .f32⟩
  | .local _ .vmem, ⟨24, _⟩ => ⟨S256x1024, .f32⟩
  | .local _ .vmem, ⟨25, _⟩ => ⟨S256x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev main_v5_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c1_i32_0 : BitVec 32 := 1#32
  let v3 : BitVec 1 := Scalar.cmpi .sge arg0 c1_i32_0
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c1_i32 : BitVec 32 := 1#32
  let v0 : BitVec 1 := Scalar.cmpi .slt arg0 c1_i32
  let v1 : BitVec 32 := Scalar.extui v0
  let c0_i32 : BitVec 32 := 0#32
  let v2 : BitVec 1 := Scalar.cmpi .ne v1 c0_i32
  v2

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.subi v0 c1_i32_0
  let c0_i32 : BitVec 32 := 0#32
  let c31_i32 : BitVec 32 := 31#32
  let v2 : BitVec 32 := Scalar.maxsi c0_i32 v1
  let v3 : BitVec 32 := Scalar.minsi c31_i32 v2
  let c0_i32_1 : BitVec 32 := 0#32
  let c0_i32_2 : BitVec 32 := 0#32
  ![v3.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1792 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InIdeal.lean ====
variable {F : FTy → Type} [FloatOps F] [Named F]
def κ : String → Option EReal := fun
  | "scale" => some ((8⁻¹ * (Real.log 2)⁻¹ : ℝ) : EReal)
  | _ => none
-- ==== InReferenceIdeal.lean ====
abbrev S1x16384x1024 : Shape := ⟨3, ![1, 16384, 1024]⟩
abbrev S1x6144 : Shape := ⟨2, ![1, 6144]⟩
abbrev S1024 : Shape := ⟨1, ![1024]⟩
abbrev S1024x5376 : Shape := ⟨2, ![1024, 5376]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x1x6144 : Shape := ⟨3, ![1, 1, 6144]⟩
abbrev S1x16384x5376 : Shape := ⟨3, ![1, 16384, 5376]⟩
abbrev S16384x5376 : Shape := ⟨2, ![16384, 5376]⟩
abbrev S16384x512 : Shape := ⟨2, ![16384, 512]⟩
abbrev S512x512 : Shape := ⟨2, ![512, 512]⟩
abbrev S16384x2048 : Shape := ⟨2, ![16384, 2048]⟩
abbrev S16896x512 : Shape := ⟨2, ![16896, 512]⟩
abbrev S16384x1792 : Shape := ⟨2, ![16384, 1792]⟩
abbrev S16384x1024 : Shape := ⟨2, ![16384, 1024]⟩

abbrev nBuf : Space → Nat
  | .hbm => 82
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x6144, .f32⟩
  | .hbm, ⟨2, _⟩ => ⟨S1024, .f32⟩
  | .hbm, ⟨3, _⟩ => ⟨S1024, .f32⟩
  | .hbm, ⟨4, _⟩ => ⟨S1024x5376, .f32⟩
  | .hbm, ⟨5, _⟩ => ⟨S_, .f32⟩
  | .hbm, ⟨6, _⟩ => ⟨S1x16384, .f32⟩
  | .hbm, ⟨7, _⟩ => ⟨S1x16384x1, .f32⟩
  | .hbm, ⟨8, _⟩ => ⟨S_, .f32⟩
  | .hbm, ⟨9, _⟩ => ⟨S1x16384x1, .f32⟩
  | .hbm, ⟨10, _⟩ => ⟨S1x16384x1, .f32⟩
  | .hbm, ⟨11, _⟩ => ⟨S1x16384x1024, .f32⟩
  | .hbm, ⟨12, _⟩ => ⟨S1x16384x1024, .f32⟩
  | .hbm, ⟨13, _⟩ => ⟨S1x16384x1024, .f32⟩
  | .hbm, ⟨14, _⟩ => ⟨S_, .f32⟩
  | .hbm, ⟨15, _⟩ => ⟨S1x16384, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S_, .f32⟩
  | .hbm, ⟨23, _⟩ => ⟨S1x16384x1, .f32⟩
  | .hbm, ⟨24, _⟩ => ⟨S1x16384x1, .f32⟩
  | .hbm, ⟨25, _⟩ => ⟨S1x16384x1, .f32⟩
  | .hbm, ⟨26, _⟩ => ⟨S1x16384x1024, .f32⟩
  | .hbm, ⟨27, _⟩ => ⟨S1x16384x1024, .f32⟩
  | .hbm, ⟨28, _⟩ => ⟨S1x1x1024, .f32⟩
  | .hbm, ⟨29, _⟩ => ⟨S1x16384x1024, .f32⟩
  | .hbm, ⟨30, _⟩ => ⟨S1x16384x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x1x6144, .f32⟩
  | .hbm, ⟨35, _⟩ => ⟨S1x1x1024, .f32⟩
  | .hbm, ⟨36, _⟩ => ⟨S1x1x1024, .f32⟩
  | .hbm, ⟨37, _⟩ => ⟨S1x1x1024, .f32⟩
  | .hbm, ⟨38, _⟩ => ⟨S1x1x1024, .f32⟩
  | .hbm, ⟨39, _⟩ => ⟨S1x1x1024, .f32⟩
  | .hbm, ⟨40, _⟩ => ⟨S1x1x1024, .f32⟩
  | .hbm, ⟨41, _⟩ => ⟨S_, .f32⟩
  | .hbm, ⟨42, _⟩ => ⟨S1x1x1024, .f32⟩
  | .hbm, ⟨43, _⟩ => ⟨S1x1x1024, .f32⟩
  | .hbm, ⟨44, _⟩ => ⟨S1x16384x1024, .f32⟩
  | .hbm, ⟨45, _⟩ => ⟨S1x16384x1024, .f32⟩
  | .hbm, ⟨46, _⟩ => ⟨S1x16384x1024, .f32⟩
  | .hbm, ⟨47, _⟩ => ⟨S1x16384x1024, .f32⟩
  | .hbm, ⟨48, _⟩ => ⟨S1x16384x5376, .f32⟩
  | .hbm, ⟨49, _⟩ => ⟨S16384x5376, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S_, .f32⟩
  | .hbm, ⟨63, _⟩ => ⟨S512x512, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384x2048, .f32⟩
  | .hbm, ⟨72, _⟩ => ⟨S16384x2048, .f32⟩
  | .hbm, ⟨73, _⟩ => ⟨S16384x512, .bf16⟩
  | .hbm, ⟨74, _⟩ => ⟨S16896x512, .f32⟩
  | .hbm, ⟨75, _⟩ => ⟨S16896x512, .bf16⟩
  | .hbm, ⟨76, _⟩ => ⟨S16896x512, .f32⟩
  | .hbm, ⟨77, _⟩ => ⟨S16896x512, .bf16⟩
  | .hbm, ⟨78, _⟩ => ⟨S512x512, .f32⟩
  | .hbm, ⟨79, _⟩ => ⟨S512x512, .f32⟩
  | .hbm, ⟨80, _⟩ => ⟨S16384x1792, .f32⟩
  | .hbm, ⟨81, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Proof.Ker.lean ====
/-
  The kernel's work on one chunk of 64 queries, in layers: the operations its body prints, once, as functions of the loaded
  blocks, with one lemma per layer that reads it at an index.
-/
module

public import proofs.«01_k».proof.Proof.Gen.KernelIdeal.Value
public import Idealize.ShloMosaic.PureOps.Ideal
public import Idealize.ShloMosaic.Lib.Pointwise
public import Idealize.ShloMosaic.Lib.Tactic.WordOmega

@[expose] public section

set_option maxRecDepth 16384

noncomputable section

namespace Cert.KernelIdeal.Layers

open Cert.KernelIdeal Cert.KernelIdeal.Gen Idealize.ShloMosaic Idealize.ShloMosaic.TcCoe

/-- The lanes of a pair's first head. -/
def first : IVec S64x128 1 := cmpi .slt (iota .tc S64x128 32 [1] iota_S64x128_d1_w32) (broadcast S64x128 64#32)

/-- A pair's queries, one row per head and query: zeros in the other head's lanes. -/
def two (q : FVec Ideal S64x128 .bf16) : FVec Ideal S128x128 .bf16 :=
  truncf .bf16 (concatenate S128x128 0
    [⟨S64x128, select first (extf .f32 q bitsLt_bf16_f32) (broadcast S64x128 (Scalar.ofBits (F := Ideal) .f32 0x00000000#32))⟩,
     ⟨S64x128, select first (broadcast S64x128 (Scalar.ofBits (F := Ideal) .f32 0x00000000#32)) (extf .f32 q bitsLt_bf16_f32)⟩]
    concatenates_S64x128_S64x128_S128x128_d0) bitsLt_bf16_f32

/-- A pair's scores with their bias. -/
def sc (q : FVec Ideal S64x128 .bf16) (k : FVec Ideal S576x128 .bf16) (b : FVec Ideal S1x128x576 .f32) : FVec Ideal S128x576 .f32 :=
  addf (matmul dot_S128x128_S576x128_S128x576_1_1_0_0_n_n none (two q) (shapeCast S576x128 k shapeCasts_S576x128_S576x128)
    (constant S128x576 .f32 0x00000000#32)) (shapeCast S128x576 b shapeCasts_S1x128x576_S128x576)

/-- The scores of the band positions from `w` on, minus infinity before. -/
def msk (w : BitVec 32) (s : FVec Ideal S128x576 .f32) : FVec Ideal S128x576 .f32 :=
  select (cmpi .sge (iota .tc S128x576 32 [1] iota_S128x576_d1_w32) (broadcast S128x576 w)) s
    (broadcast S128x576 (Scalar.ofBits (F := Ideal) .f32 0xFF800000#32))

/-- Every row's powers of two of its scores less their maximum. -/
def ex (s : FVec Ideal S128x576 .f32) : FVec Ideal S128x576 .f32 :=
  exp2 (subf s (broadcastTo S128x576 (shapeCast S128x1 (multiReduction .maximumf [1] S128 s 0xFF800000#32 reduces_S128x576_S128 (.inl rfl) rfl)
    shapeCasts_S128_S128x1) broadcasts_S128x1_S128x576))

/-- The powers times the values, over the powers' sum. -/
def quot (e : FVec Ideal S128x576 .f32) (v : FVec Ideal S576x128 .bf16) : FVec Ideal S128x128 .f32 :=
  divf (matmul dot_S128x576_S576x128_S128x128_1_0_0_1_n_n none (truncf .bf16 e bitsLt_bf16_f32)
      (shapeCast S576x128 v shapeCasts_S576x128_S576x128) (constant S128x128 .f32 0x00000000#32))
    (broadcastTo S128x128 (shapeCast S128x1 (multiReduction .add [1] S128 e 0x00000000#32 reduces_S128x576_S128 (.inl rfl) rfl)
      shapeCasts_S128_S128x1) broadcasts_S128x1_S128x128)

/-- A pair's attention: each head's lanes from its own rows. -/
def att (s : FVec Ideal S128x576 .f32) (v : FVec Ideal S576x128 .bf16) : FVec Ideal S64x128 .f32 :=
  select first (extractStridedSlice S64x128 ![0, 0] (quot (ex s) v) slices_S128x128_o0_0_S64x128)
    (extractStridedSlice S64x128 ![64, 0] (quot (ex s) v) slices_S128x128_o64_0_S64x128)

/-- A chunk's four pairs side by side. -/
def four (a b c d : FVec Ideal S64x128 .f32) : FVec Ideal S64x512 .bf16 :=
  truncf .bf16 (concatenate S64x512 1 [⟨S64x128, a⟩, ⟨S64x128, b⟩, ⟨S64x128, c⟩, ⟨S64x128, d⟩]
    concatenates_S64x128_S64x128_S64x128_S64x128_S64x512_d1) bitsLt_bf16_f32

/-- A chunk's attention, its scores sent through `f` before the exponentials. -/
def chunk (f : FVec Ideal S128x576 .f32 → FVec Ideal S128x576 .f32) (q : FVec Ideal S64x512 .bf16)
    (k0 k1 k2 k3 v0 v1 v2 v3 : FVec Ideal S576x128 .bf16) (b0 b1 b2 b3 : FVec Ideal S1x128x576 .f32) : FVec Ideal S64x512 .bf16 :=
  four
    (att (f (sc (extractStridedSlice S64x128 ![0, 0] (shapeCast S64x512 q shapeCasts_S64x512_S64x512) slices_S64x512_o0_0_S64x128) k0 b0)) v0)
    (att (f (sc (extractStridedSlice S64x128 ![0, 128] (shapeCast S64x512 q shapeCasts_S64x512_S64x512) slices_S64x512_o0_128_S64x128) k1 b1)) v1)
    (att (f (sc (extractStridedSlice S64x128 ![0, 256] (shapeCast S64x512 q shapeCasts_S64x512_S64x512) slices_S64x512_o0_256_S64x128) k2 b2)) v2)
    (att (f (sc (extractStridedSlice S64x128 ![0, 384] (shapeCast S64x512 q shapeCasts_S64x512_S64x512) slices_S64x512_o0_384_S64x128) k3 b3)) v3)

/-- A row's maximum. -/
abbrev top (s : Fin 576 → EReal) : EReal := Finset.univ.fold max (Ideal.ofBits .f32 0xFF800000#32) s

/-- One number of the result, from a row of scores and a column of values. -/
abbrev one (s v : Fin 576 → EReal) : EReal :=
  Ideal.div (∑ j, Ideal.exp2 (s j - top s) * v j) (∑ j, Ideal.exp2 (s j - top s))

theorem first_apply (r : Fin 64) (l : Fin 128) : first (ix2 r l) = BitVec.ofBool (decide (l.val < 64)) := by
  unfold first
  pointwise
  have hl := l.isLt
  show BitVec.ofBool (BitVec.slt (BitVec.ofNat 32 l.val) 64#32) = _
  rw [BitVec.slt_eq_decide, BitVec.toInt_eq_toNat_of_lt (by rw [BitVec.toNat_ofNat]; omega), BitVec.toNat_ofNat, Nat.mod_eq_of_lt (by omega)]
  have : (64#32).toInt = (64 : Nat) := by decide
  rw [this]
  simp only [Nat.cast_lt]

theorem two_apply (q : FVec Ideal S64x128 .bf16) (r : Fin 128) (l : Fin 128) :
    two q (ix2 r l) = if l.val / 64 = r.val / 64 then q (ix2 ⟨r.val % 64, by omega⟩ l) else 0 := by
  unfold two
  pointwise [first_apply]
  by_cases hr : r.val < 64
  · rw [dif_pos hr]
    by_cases hl : l.val < 64
    · rw [if_pos hl, if_pos (by omega)]
      exact congrArg q (congrArg (ix2 · l) (Fin.ext (by show r.val = r.val % 64; omega)))
    · rw [if_neg hl, if_neg (by omega)]
  · rw [dif_neg hr]
    by_cases hl : l.val < 64
    · rw [if_pos hl, if_neg (by omega)]
    · rw [if_neg hl]
      refine Eq.trans ?_ (if_pos (show l.val / 64 = r.val / 64 by omega)).symm
      exact congrArg q (congrArg (ix2 · l) (Fin.ext (by show r.val - 64 = r.val % 64; omega)))

theorem sc_apply (q : FVec Ideal S64x128 .bf16) (k : FVec Ideal S576x128 .bf16) (b : FVec Ideal S1x128x576 .f32) (r : Fin 128) (j : Fin 576) :
    sc q k b (ix2 r j) = (∑ l : Fin 128, two q (ix2 r l) * k (ix2 j l)) + b (ix3 0 r j) := by
  unfold sc
  pointwise

theorem msk_apply (w : BitVec 32) (s : FVec Ideal S128x576 .f32) (r : Fin 128) (j : Fin 576) :
    msk w s (ix2 r j) = Scalar.select (IntOp.cmpi .sge (BitVec.ofNat 32 j.val) w) (s (ix2 r j)) (Ideal.ofBits .f32 0xFF800000#32) := by
  unfold msk
  pointwise

theorem ex_apply (s : FVec Ideal S128x576 .f32) (r : Fin 128) (j : Fin 576) :
    ex s (ix2 r j) = Ideal.exp2 (s (ix2 r j) - top fun j => s (ix2 r j)) := by
  unfold ex
  pointwise
  rfl

theorem quot_apply (e : FVec Ideal S128x576 .f32) (v : FVec Ideal S576x128 .bf16) (r l : Fin 128) :
    quot e v (ix2 r l) = Ideal.div (∑ j : Fin 576, e (ix2 r j) * v (ix2 j l)) (∑ j : Fin 576, e (ix2 r j)) := by
  unfold quot
  pointwise

theorem att_apply (s : FVec Ideal S128x576 .f32) (v : FVec Ideal S576x128 .bf16) (r : Fin 64) (l : Fin 128) :
    att s v (ix2 r l) = one (fun j => s (ix2 ⟨l.val / 64 * 64 + r.val, by omega⟩ j)) (fun j => v (ix2 j l)) := by
  unfold att
  pointwise [first_apply, quot_apply, ex_apply]
  by_cases hl : l.val < 64
  · rw [if_pos hl]
    have h : (⟨l.val / 64 * 64 + r.val, by omega⟩ : Fin 128) = ⟨r.val, by omega⟩ := Fin.ext (by show l.val / 64 * 64 + r.val = r.val; omega)
    rw [h]
  · rw [if_neg hl]
    have h : (⟨l.val / 64 * 64 + r.val, by omega⟩ : Fin 128) = ⟨64 + r.val, by omega⟩ := Fin.ext (by show l.val / 64 * 64 + r.val = 64 + r.val; omega)
    rw [h]

theorem four_apply (a b c d : FVec Ideal S64x128 .f32) (r : Fin 64) (p : Fin 4) (l : Fin 128) :
    four a b c d (ix2 r ⟨p.val * 128 + l.val, by omega⟩) = (![a, b, c, d] p : FVec Ideal S64x128 .f32) (ix2 r l) := by
  unfold four
  fin_cases p
  · pointwise
  · pointwise
  · pointwise
    rw [dif_neg (by omega), dif_neg (by omega), dif_pos (by omega)]
    exact congrArg c (congrArg (ix2 r) (Fin.ext (by show 256 + l.val - 128 - 128 = l.val; omega)))
  · pointwise
    rw [dif_neg (by omega), dif_neg (by omega), dif_neg (by omega)]
    exact congrArg d (congrArg (ix2 r) (Fin.ext (by show 384 + l.val - 128 - 128 - 128 = l.val; omega)))

/-- The row of scores behind one number of a chunk's result: query `r`, head `h`. -/
abbrev line (q : FVec Ideal S64x512 .bf16) (K : FVec Ideal S576x128 .bf16) (b : FVec Ideal S1x128x576 .f32) (r : Fin 64) (p : Fin 4) (g : Fin 2) (j : Fin 576) : EReal :=
  (∑ l : Fin 128, (if l.val / 64 = g.val then q (ix2 r ⟨p.val * 128 + l.val, by omega⟩) else 0) * K (ix2 j l)) + b (ix3 0 ⟨g.val * 64 + r.val, by omega⟩ j)

theorem sc_line (q : FVec Ideal S64x512 .bf16) (q' : FVec Ideal S64x128 .bf16) (K : FVec Ideal S576x128 .bf16) (b : FVec Ideal S1x128x576 .f32)
    (r : Fin 64) (p : Fin 4) (g : Fin 2) (j : Fin 576) (hq : ∀ r l, q' (ix2 r l) = q (ix2 r ⟨p.val * 128 + l.val, by omega⟩)) :
    sc q' K b (ix2 ⟨g.val * 64 + r.val, by omega⟩ j) = line q K b r p g j := by
  rw [sc_apply]
  refine congrArg (· + _) (Finset.sum_congr rfl fun l _ => congrArg (· * _) ?_)
  rw [two_apply]
  have h1 : (g.val * 64 + r.val) / 64 = g.val := by omega
  have h2 : (⟨(g.val * 64 + r.val) % 64, by omega⟩ : Fin 64) = r := Fin.ext (by show (g.val * 64 + r.val) % 64 = r.val; omega)
  simp only [h1, h2, hq]

/-- One number of a chunk's result, without a mask. -/
theorem chunk_apply (q : FVec Ideal S64x512 .bf16) (K V : Fin 4 → FVec Ideal S576x128 .bf16) (B : Fin 4 → FVec Ideal S1x128x576 .f32)
    (f : FVec Ideal S128x576 .f32 → FVec Ideal S128x576 .f32) (f' : Fin 576 → EReal → EReal) (hf : ∀ s r j, f s (ix2 r j) = f' j (s (ix2 r j)))
    (r : Fin 64) (p : Fin 4) (l : Fin 128) :
    chunk f q (K 0) (K 1) (K 2) (K 3) (V 0) (V 1) (V 2) (V 3) (B 0) (B 1) (B 2) (B 3) (ix2 r ⟨p.val * 128 + l.val, by omega⟩)
      = one (fun j => f' j (line q (K p) (B p) r p ⟨l.val / 64, by omega⟩ j)) (fun j => V p (ix2 j l)) := by
  have key : ∀ (q' : FVec Ideal S64x128 .bf16) (hq : ∀ r l, q' (ix2 r l) = q (ix2 r ⟨p.val * 128 + l.val, by omega⟩)),
      att (f (sc q' (K p) (B p))) (V p) (ix2 r l) = one (fun j => f' j (line q (K p) (B p) r p ⟨l.val / 64, by omega⟩ j)) (fun j => V p (ix2 j l)) := by
    intro q' hq
    rw [att_apply]
    have h : ∀ j, f (sc q' (K p) (B p)) (ix2 ⟨l.val / 64 * 64 + r.val, by omega⟩ j) = f' j (line q (K p) (B p) r p ⟨l.val / 64, by omega⟩ j) := fun j => by
      rw [hf]
      exact congrArg (f' j) (sc_line q q' (K p) (B p) r p ⟨l.val / 64, by omega⟩ j hq)
    simp only [h]
  unfold chunk
  rw [four_apply]
  fin_cases p
  · exact key _ fun r l => by pointwise
  · exact key _ fun r l => by pointwise
  · exact key _ fun r l => by pointwise
  · exact key _ fun r l => by pointwise

end Cert.KernelIdeal.Layers

end
-- ==== Proof.Blocks.lean ====
/-
  What one grid point leaves in its block of the result: the eight stored chunks, each the generated payloads' composition,
  read at an index of the block.
-/
module

public import proofs.«01_k».proof.Proof.Ker
public import Idealize.ShloMosaic.Lib.Pipeline.ValueKit

@[expose] public section

set_option maxRecDepth 16384

noncomputable section

namespace Cert.KernelIdeal.Blocks

open Cert.KernelIdeal Cert.KernelIdeal.Gen Idealize.ShloMosaic Idealize.ShloMosaic.TcCoe
open Cert.KernelIdeal.Layers

/-- Chunk `g`'s queries. -/
def ldq (x : Vec Ideal S512x512 .bf16) (g : Fin 8) : FVec Ideal S64x512 .bf16 :=
  View.ld x (Rect.unit (s := S512x512) ![64 * g.val, 0] S64x512.size (by intro a; fin_cases a <;> simp <;> omega))

/-- Chunk `g`'s band of keys or values, pair `p`'s lanes. -/
def ldk (x : Vec Ideal S1024x512 .bf16) (g : Fin 8) (p : Fin 4) : FVec Ideal S576x128 .bf16 :=
  View.ld x (Rect.unit (s := S1024x512) ![64 * g.val, 128 * p.val] S576x128.size (by intro a; fin_cases a <;> simp <;> omega))

/-- Pair `p`'s biases. -/
def ldb (x : Vec Ideal S4x128x576 .f32) (p : Fin 4) : FVec Ideal S1x128x576 .f32 :=
  View.ld x (Rect.unit (s := S4x128x576) ![p.val, 0, 0] S1x128x576.size (by intro a; fin_cases a <;> simp <;> omega))

theorem ldq_apply (x : Vec Ideal S512x512 .bf16) (g : Fin 8) (r : Fin 64) (l : Fin 512) :
    ldq x g (ix2 r l) = x (ix2 ⟨64 * g.val + r.val, by omega⟩ l) := by
  unfold ldq
  pointwise
  blk_ext

theorem ldk_apply (x : Vec Ideal S1024x512 .bf16) (g : Fin 8) (p : Fin 4) (r : Fin 576) (l : Fin 128) :
    ldk x g p (ix2 r l) = x (ix2 ⟨64 * g.val + r.val, by omega⟩ ⟨128 * p.val + l.val, by omega⟩) := by
  unfold ldk
  pointwise
  blk_ext

theorem ldb_apply (x : Vec Ideal S4x128x576 .f32) (p : Fin 4) (r : Fin 128) (j : Fin 576) :
    ldb x p (ix3 0 r j) = x (ix3 p r j) := by
  unfold ldb
  pointwise
  blk_ext

/-- The score behind number `(r, l)` of the block, for band position `j`: over the 128 lanes of the pair, the queries of
    `l`'s own head only. -/
abbrev bscore (x0 : Vec Ideal S512x512 .bf16) (x1 : Vec Ideal S1024x512 .bf16) (x3 : Vec Ideal S4x128x576 .f32)
    (r l : Fin 512) (j : Fin 576) : EReal :=
  (∑ z : Fin 128, (if z.val / 64 = l.val % 128 / 64 then x0 (ix2 r ⟨l.val / 128 * 128 + z.val, by omega⟩) else 0)
      * x1 (ix2 ⟨r.val / 64 * 64 + j.val, by omega⟩ ⟨l.val / 128 * 128 + z.val, by omega⟩))
    + x3 (ix3 ⟨l.val / 128, by omega⟩ ⟨l.val % 128 / 64 * 64 + r.val % 64, by omega⟩ j)

/-- Number `(r, l)` of the block, the scores of chunk `g` sent through `f g`. -/
abbrev bval (f : ℕ → Fin 576 → EReal → EReal) (x0 : Vec Ideal S512x512 .bf16) (x1 x2 : Vec Ideal S1024x512 .bf16)
    (x3 : Vec Ideal S4x128x576 .f32) (r l : Fin 512) : EReal :=
  one (fun j => f (r.val / 64) j (bscore x0 x1 x3 r l j)) (fun j => x2 (ix2 ⟨r.val / 64 * 64 + j.val, by omega⟩ l))

/-- Chunk `g` of the block. -/
abbrev part (f : FVec Ideal S128x576 .f32 → FVec Ideal S128x576 .f32) (x0 : Vec Ideal S512x512 .bf16) (x1 x2 : Vec Ideal S1024x512 .bf16)
    (x3 : Vec Ideal S4x128x576 .f32) (g : Fin 8) : FVec Ideal S64x512 .bf16 :=
  chunk f (ldq x0 g) (ldk x1 g 0) (ldk x1 g 1) (ldk x1 g 2) (ldk x1 g 3) (ldk x2 g 0) (ldk x2 g 1) (ldk x2 g 2) (ldk x2 g 3)
    (ldb x3 0) (ldb x3 1) (ldb x3 2) (ldb x3 3)

theorem part_apply (f : FVec Ideal S128x576 .f32 → FVec Ideal S128x576 .f32) (f' : ℕ → Fin 576 → EReal → EReal)
    (x0 : Vec Ideal S512x512 .bf16) (x1 x2 : Vec Ideal S1024x512 .bf16) (x3 : Vec Ideal S4x128x576 .f32) (g : Fin 8)
    (hf : ∀ s r j, f s (ix2 r j) = f' g.val j (s (ix2 r j))) (Y0 Y1 : Fin 512) (x : S64x512.Idx)
    (h0 : Y0.val = 64 * g.val + (x 0).val) (h1 : Y1.val = (x 1).val) :
    part f x0 x1 x2 x3 g x = bval f' x0 x1 x2 x3 Y0 Y1 := by
  obtain ⟨r, l, rfl⟩ : ∃ (r : Fin 64) (l : Fin 512), x = ix2 r l := ⟨x 0, x 1, by funext a; fin_cases a <;> rfl⟩
  change Y0.val = 64 * g.val + r.val at h0
  change Y1.val = l.val at h1
  have e1 : Y1 = l := Fin.ext h1
  subst e1
  have hr := r.isLt
  have hg := g.isLt
  have hl : Y1 = (⟨(⟨Y1.val / 128, by omega⟩ : Fin 4).val * 128 + (⟨Y1.val % 128, by omega⟩ : Fin 128).val, by show Y1.val / 128 * 128 + Y1.val % 128 < 512; omega⟩ : Fin 512) :=
    Fin.ext (by show Y1.val = Y1.val / 128 * 128 + Y1.val % 128; omega)
  have q1 : Y0.val / 64 = g.val := by omega
  have q2 : Y0.val % 64 = r.val := by omega
  refine (congrArg (fun z => part f x0 x1 x2 x3 g (ix2 r z)) hl).trans ?_
  refine (chunk_apply (ldq x0 g) (ldk x1 g) (ldk x2 g) (ldb x3) f (f' g.val) hf r ⟨Y1.val / 128, by omega⟩ ⟨Y1.val % 128, by omega⟩).trans ?_
  have a0 : ∀ z : Fin 512, ldq x0 g (ix2 r z) = x0 (ix2 Y0 z) := fun z => (ldq_apply x0 g r z).trans (congrArg (fun w => x0 (ix2 w z)) (Fin.ext h0.symm))
  have a1 : ∀ (x : Vec Ideal S1024x512 .bf16) (j : Fin 576) (p : Fin 4) (z : Fin 128), ldk x g p (ix2 j z)
      = x (ix2 ⟨Y0.val / 64 * 64 + j.val, by omega⟩ ⟨p.val * 128 + z.val, by omega⟩) := fun x j p z => by
    rw [ldk_apply]
    congr 2
    · exact Fin.ext (by show 64 * g.val + j.val = Y0.val / 64 * 64 + j.val; omega)
    · exact Fin.ext (by show 128 * p.val + z.val = p.val * 128 + z.val; omega)
  have a2 : ∀ j : Fin 576, ldk x2 g ⟨Y1.val / 128, by omega⟩ (ix2 j ⟨Y1.val % 128, by omega⟩) = x2 (ix2 ⟨Y0.val / 64 * 64 + j.val, by omega⟩ Y1) := fun j => by
    rw [a1]
    congr 2
    exact hl.symm
  have a3 : ∀ j : Fin 576, line (ldq x0 g) (ldk x1 g ⟨Y1.val / 128, by omega⟩) (ldb x3 ⟨Y1.val / 128, by omega⟩) r ⟨Y1.val / 128, by omega⟩ ⟨Y1.val % 128 / 64, by omega⟩ j
      = bscore x0 x1 x3 Y0 Y1 j := fun j => by
    simp only [line, bscore, a0, a1, ldb_apply, q2]
  show one (fun j => f' g.val j (line (ldq x0 g) (ldk x1 g ⟨Y1.val / 128, by omega⟩) (ldb x3 ⟨Y1.val / 128, by omega⟩) r ⟨Y1.val / 128, by omega⟩ ⟨Y1.val % 128 / 64, by omega⟩ j))
    (fun j => ldk x2 g ⟨Y1.val / 128, by omega⟩ (ix2 j ⟨Y1.val % 128, by omega⟩)) = _
  simp only [a2, a3, bval, q1]

/-- A grid point after the first: no mask. -/
theorem out_B (c : Dev nD) (i : grid0.Coords) (arg1 : Memref sig .tc .vmem S512x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S4x128x576 .f32) (harg4 : arg4.IsWhole) (arg5 : Memref sig .tc .vmem S512x512 .bf16) (harg5 : arg5.IsWhole) (hc0 : ¬cond0_0 i) (hc1 : cond0_1 i)
    (x0 : Vec Ideal S512x512 .bf16) (x1 : Vec Ideal S1024x512 .bf16) (x2 : Vec Ideal S1024x512 .bf16) (x3 : Vec Ideal S4x128x576 .f32) (y : S512x512.Idx) :
    out0_B_4 c i arg1 harg1 arg2 harg2 arg3 harg3 arg4 harg4 arg5 harg5 hc0 hc1 x0 x1 x2 x3 y = bval (fun _ _ s => s) x0 x1 x2 x3 (y 0) (y 1) := by
  have key : ∀ (g : Fin 8) (x : S64x512.Idx), (y 0).val = 64 * g.val + (x 0).val → (y 1).val = (x 1).val →
      part id x0 x1 x2 x3 g x = bval (fun _ _ s => s) x0 x1 x2 x3 (y 0) (y 1) := fun g x e0 e1 =>
    part_apply id (fun _ _ s => s) x0 x1 x2 x3 g (fun _ _ _ => rfl) (y 0) (y 1) x e0 e1
  frame_out
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (by omega) h1

/-- The first valid band position of chunk `g` at grid point `w`, as the kernel computes it. -/
abbrev thr (w g : BitVec 32) : BitVec 32 := Scalar.subi 512#32 (Scalar.muli (Scalar.addi (Scalar.muli w 8#32) g) 64#32)

/-- The first grid point: the band positions before the sequence's start masked. -/
theorem out_A (c : Dev nD) (i : grid0.Coords) (arg1 : Memref sig .tc .vmem S512x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S4x128x576 .f32) (harg4 : arg4.IsWhole) (arg5 : Memref sig .tc .vmem S512x512 .bf16) (harg5 : arg5.IsWhole) (hc0 : cond0_0 i) (hc1 : ¬cond0_1 i)
    (x0 : Vec Ideal S512x512 .bf16) (x1 : Vec Ideal S1024x512 .bf16) (x2 : Vec Ideal S1024x512 .bf16) (x3 : Vec Ideal S4x128x576 .f32) (y : S512x512.Idx) :
    out0_A_4 c i arg1 harg1 arg2 harg2 arg3 harg3 arg4 harg4 arg5 harg5 hc0 hc1 x0 x1 x2 x3 y
      = bval (fun g j s => Scalar.select (IntOp.cmpi .sge (BitVec.ofNat 32 j.val) (thr (i 0) (BitVec.ofNat 32 g))) s (Ideal.ofBits .f32 0xFF800000#32)) x0 x1 x2 x3 (y 0) (y 1) := by
  have key : ∀ (g : Fin 8) (x : S64x512.Idx), (y 0).val = 64 * g.val + (x 0).val → (y 1).val = (x 1).val →
      part (msk (thr (i 0) (BitVec.ofNat 32 g.val))) x0 x1 x2 x3 g x = _ := fun g x e0 e1 =>
    part_apply _ (fun g j s => Scalar.select (IntOp.cmpi .sge (BitVec.ofNat 32 j.val) (thr (i 0) (BitVec.ofNat 32 g))) s (Ideal.ofBits .f32 0xFF800000#32))
      x0 x1 x2 x3 g (msk_apply _) (y 0) (y 1) x e0 e1
  frame_out
  canon_tiles x h
  · exact key 7 x h0 h1
  · exact key 6 x h0 h1
  · exact key 5 x h0 h1
  · exact key 4 x h0 h1
  · exact key 3 x h0 h1
  · exact key 2 x h0 h1
  · exact key 1 x h0 h1
  · exact key 0 x (by omega) h1

end Cert.KernelIdeal.Blocks

end
-- ==== Proof.Arr.lean ====
/-
  The kernel's result array: every number of it from the call's operands, whichever grid point wrote it.
-/
module

public import proofs.«01_k».proof.Proof.Blocks

@[expose] public section

set_option maxRecDepth 16384

noncomputable section

namespace Cert.KernelIdeal.Arr

open Cert.KernelIdeal Cert.KernelIdeal.Gen Idealize.ShloMosaic Idealize.ShloMosaic.TcCoe
open Cert.KernelIdeal.Layers Cert.KernelIdeal.Blocks Idealize.ShloMosaic.Pipeline

variable (m : (ℓ : Loc nD τ sig) → Buf (Elt Ideal) ℓ) (c : Dev nD)

/-- The windows' places at every grid point: the element windows advance by 512 rows of their 1024. -/
theorem idx : ∀ t : Fin cfg0.N, win0_0.index t = ![t.val, 0] ∧ win0_1.index t = ![512 * t.val, 0] ∧ win0_2.index t = ![512 * t.val, 0]
    ∧ win0_3.index t = ![0, 0, 0] ∧ win0_4.index t = ![t.val, 0] :=
  (by decide +kernel : ∀ t : Fin grid0.N, _)

/-- The call's operands: queries, extended keys, extended values, biases. -/
abbrev oq : S16384x512.Idx → EReal := V m c main_v6
abbrev ok : S16896x512.Idx → EReal := V m c main_v10
abbrev ov : S16896x512.Idx → EReal := V m c main_v13
abbrev ob : S4x128x576.Idx → EReal := V m c main_v31

/-- Their blocks at a grid point. -/
abbrev bq (t : Fin cfg0.N) : Vec Ideal S512x512 .bf16 := iblk m c 0 t
abbrev bk (t : Fin cfg0.N) : Vec Ideal S1024x512 .bf16 := iblk m c 1 t
abbrev bv (t : Fin cfg0.N) : Vec Ideal S1024x512 .bf16 := iblk m c 2 t
abbrev bb (t : Fin cfg0.N) : Vec Ideal S4x128x576 .f32 := iblk m c 3 t

theorem lt32 (t : Fin cfg0.N) : t.val < 32 := lt_of_lt_of_eq t.isLt N_0

theorem blk0 (t : Fin cfg0.N) (r l : Fin 512) (R : Fin 16384) (hR : R.val = 512 * t.val + r.val) :
    bq m c t (ix2 r l) = oq m c (ix2 R l) := by
  blk_simp [iblk]
  refine congrArg (oq m c) ?_
  funext a
  refine Fin.ext ?_
  refine (Window.rect_emb_val_off win0_0 t _ a).trans ?_
  rw [(idx t).1]
  fin_cases a
  · show t.val * 512 + r.val = R.val
    omega
  · show 0 * 512 + l.val = l.val
    omega

theorem blk1 (t : Fin cfg0.N) (r : Fin 1024) (l : Fin 512) (R : Fin 16896) (hR : R.val = 512 * t.val + r.val) :
    bk m c t (ix2 r l) = ok m c (ix2 R l) := by
  blk_simp [iblk]
  refine congrArg (ok m c) ?_
  funext a
  refine Fin.ext ?_
  refine (Window.rect_emb_val_off win0_1 t _ a).trans ?_
  rw [(idx t).2.1]
  fin_cases a
  · show 512 * t.val + r.val = R.val
    omega
  · show 0 + l.val = l.val
    omega

theorem blk2 (t : Fin cfg0.N) (r : Fin 1024) (l : Fin 512) (R : Fin 16896) (hR : R.val = 512 * t.val + r.val) :
    bv m c t (ix2 r l) = ov m c (ix2 R l) := by
  blk_simp [iblk]
  refine congrArg (ov m c) ?_
  funext a
  refine Fin.ext ?_
  refine (Window.rect_emb_val_off win0_2 t _ a).trans ?_
  rw [(idx t).2.2.1]
  fin_cases a
  · show 512 * t.val + r.val = R.val
    omega
  · show 0 + l.val = l.val
    omega

theorem blk3 (t : Fin cfg0.N) (p : Fin 4) (r : Fin 128) (j : Fin 576) : bb m c t (ix3 p r j) = ob m c (ix3 p r j) := by
  blk_simp [iblk]
  refine congrArg (ob m c) ?_
  funext a
  refine Fin.ext ?_
  refine (Window.rect_emb_val_off win0_3 t _ a).trans ?_
  rw [(idx t).2.2.2.1]
  fin_cases a
  · show 0 * 4 + p.val = p.val
    omega
  · show 0 * 128 + r.val = r.val
    omega
  · show 0 * 576 + j.val = j.val
    omega

theorem coord : ∀ t : Fin cfg0.N, (grid0.coords t 0).val = t.val := (by decide +kernel : ∀ t : Fin grid0.N, _)

/-- The first grid point's mask: chunk `g` starts `64 g` positions into the sequence, its band 512 positions earlier. -/
theorem mask (t : Fin cfg0.N) (h0 : t.val = 0) (g : ℕ) (j : Fin 576) (s : EReal) (hg : g < 8) :
    Scalar.select (IntOp.cmpi .sge (BitVec.ofNat 32 j.val) (thr (grid0.coords t 0) (BitVec.ofNat 32 g))) s (Ideal.ofBits .f32 0xFF800000#32)
      = if 512 ≤ 512 * t.val + 64 * g + j.val then s else ⊥ := by
  have hj := j.isLt
  have hw : thr (grid0.coords t 0) (BitVec.ofNat 32 g) = BitVec.ofNat 32 (512 - 64 * g) := by
    rw [coord t, h0]
    interval_cases g <;> rfl
  have hb : Ideal.ofBits .f32 0xFF800000#32 = ⊥ := by simp [Ideal.ofBits, Ideal.ieee]
  have hc : IntOp.cmpi .sge (BitVec.ofNat 32 j.val) (BitVec.ofNat 32 (512 - 64 * g)) = BitVec.ofBool (decide (512 - 64 * g ≤ j.val)) := by
    show BitVec.ofBool (BitVec.sle (BitVec.ofNat 32 (512 - 64 * g)) (BitVec.ofNat 32 j.val)) = _
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    simp only [Nat.cast_le]
  rw [hw, hc, hb, h0]
  by_cases h : 512 ≤ 512 * 0 + 64 * g + j.val
  · rw [if_pos h, decide_eq_true (show 512 - 64 * g ≤ j.val by omega)]
    rfl
  · rw [if_neg h, decide_eq_false (show ¬ 512 - 64 * g ≤ j.val by omega)]
    rfl

/-- The score behind number `(R, L)`, for band position `j`. -/
abbrev score (R : Fin 16384) (L : Fin 512) (j : Fin 576) : EReal :=
  (∑ z : Fin 128, (if z.val / 64 = L.val % 128 / 64 then oq m c (ix2 R ⟨L.val / 128 * 128 + z.val, by omega⟩) else 0)
      * ok m c (ix2 ⟨R.val / 64 * 64 + j.val, by omega⟩ ⟨L.val / 128 * 128 + z.val, by omega⟩))
    + ob m c (ix3 ⟨L.val / 128, by omega⟩ ⟨L.val % 128 / 64 * 64 + R.val % 64, by omega⟩ j)

/-- Number `(R, L)` of the result. -/
def val (R : Fin 16384) (L : Fin 512) : EReal :=
  one (fun j => if 512 ≤ R.val / 64 * 64 + j.val then score m c R L j else ⊥)
    (fun j => ov m c (ix2 ⟨R.val / 64 * 64 + j.val, by omega⟩ L))

/-- A block's number is the array's at the block's place, if the block's mask is the array's. -/
theorem bval_eq (t : Fin cfg0.N) (f : ℕ → Fin 576 → EReal → EReal)
    (hf : ∀ g j s, g < 8 → f g j s = if 512 ≤ 512 * t.val + 64 * g + j.val then s else ⊥) (r l : Fin 512) (R : Fin 16384)
    (hR : R.val = 512 * t.val + r.val) :
    bval f (bq m c t) (bk m c t) (bv m c t) (bb m c t) r l = val m c R l := by
  have hr := r.isLt
  have e : R.val / 64 * 64 = 512 * t.val + 64 * (r.val / 64) := by omega
  have e' : R.val % 64 = r.val % 64 := by omega
  have hs : ∀ j, f (r.val / 64) j (bscore (bq m c t) (bk m c t) (bb m c t) r l j)
      = if 512 ≤ R.val / 64 * 64 + j.val then score m c R l j else ⊥ := fun j => by
    rw [hf _ _ _ (by omega), e]
    refine if_congr Iff.rfl (congrArg₂ (· + ·) (Finset.sum_congr rfl fun z _ => ?_) ?_) rfl
    · refine congrArg₂ (· * ·) (if_congr Iff.rfl (blk0 m c t _ _ R hR) rfl) (blk1 m c t _ _ _ ?_)
      show R.val / 64 * 64 + j.val = 512 * t.val + (r.val / 64 * 64 + j.val)
      omega
    · refine (blk3 m c t _ _ j).trans (congrArg (fun w => ob m c (ix3 _ w j)) (Fin.ext ?_))
      show l.val % 128 / 64 * 64 + r.val % 64 = l.val % 128 / 64 * 64 + R.val % 64
      rw [e']
  have hv : ∀ j : Fin 576, bv m c t (ix2 ⟨r.val / 64 * 64 + j.val, by omega⟩ l) = ov m c (ix2 ⟨R.val / 64 * 64 + j.val, by omega⟩ l) := fun j => by
    refine blk2 m c t _ _ _ ?_
    show R.val / 64 * 64 + j.val = 512 * t.val + (r.val / 64 * 64 + j.val)
    omega
  show one (fun j => f (r.val / 64) j (bscore (bq m c t) (bk m c t) (bb m c t) r l j))
    (fun j => bv m c t (ix2 ⟨r.val / 64 * 64 + j.val, by omega⟩ l)) = _
  exact congrArg₂ one (funext hs) (funext hv)

/-- The result array after the run. -/
theorem final : (dats m 0 c).arrAt 4 cfg0.N = fun i : S16384x512.Idx => val m c (i 0) (i 1) := by
  refine (dats m 0 c).arrAt_eq_of_covers 4 _ (by decide +kernel) fun t _ y => ?_
  have ht := lt32 t
  have hplace : ∀ (f : ℕ → Fin 576 → EReal → EReal) (hf : ∀ g j s, g < 8 → f g j s = if 512 ≤ 512 * t.val + 64 * g + j.val then s else ⊥)
      (y : S512x512.Idx), bval f (bq m c t) (bk m c t) (bv m c t) (bb m c t) (y 0) (y 1)
        = val m c ((win0_4.blk t).view.emb y 0) ((win0_4.blk t).view.emb y 1) := fun f hf y => by
    have e1 : (win0_4.blk t).view.emb y 1 = y 1 := Fin.ext (by
      blk_simp [(idx t).2.2.2.2])
    rw [e1]
    refine bval_eq m c t f hf (y 0) (y 1) _ ?_
    blk_simp [(idx t).2.2.2.2]
    omega
  blk_simp
  rw [after0_4]
  by_cases h0 : t.val % 32 = 0
  · have h1 : ¬1 ≤ t.val := by omega
    rw [outsAt0_A m c t h0 h1, out_A]
    exact hplace _ (fun g j s hg => mask t (by omega) g j s hg) y
  · have h1 : 1 ≤ t.val := by omega
    rw [outsAt0_B m c t h0 h1, out_B]
    exact hplace _ (fun g j s hg => (if_pos (by omega)).symm) y

end Cert.KernelIdeal.Arr

end
-- ==== Proof.Host.lean ====
/-
  What the host operations before the call leave in its operands, read at an index.
-/
module

public import proofs.«01_k».proof.Proof.Gen.KernelIdeal.Value
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Operands

open Cert.KernelIdeal Cert.KernelIdeal.Gen Idealize.ShloMosaic Idealize.ShloMosaic.TcCoe

variable (m : (ℓ : Loc nD τ sig) → Buf (Elt Ideal) ℓ) (c : Dev nD)

/-- The queries, keys, values and the table of biases, at launch. -/
abbrev aq : S1x16384x8x64.Idx → EReal := m ((c : Thread nD τ).loc main_arg0)
abbrev ak : S1x16384x8x64.Idx → EReal := m ((c : Thread nD τ).loc main_arg1)
abbrev av : S1x16384x8x64.Idx → EReal := m ((c : Thread nD τ).loc main_arg2)
abbrev ar : S8x257.Idx → EReal := m ((c : Thread nD τ).loc main_arg3)

/-- The base-two logarithm of e, as the host computes it. -/
def log2e : EReal := Ideal.div 1 (Ideal.log (Ideal.ofBits .f32 0x40000000#32))

theorem queries (r : Fin 16384) (l : Fin 512) :
    V m c main_v6 (ix2 r l) = aq m c (ix4 0 r ⟨l.val / 64, by omega⟩ ⟨l.val % 64, by omega⟩)
      * (Ideal.ofBits .f32 0x3E000000#32 * log2e) := by
  entry_read
  pointwise
  rfl

theorem keys (r : Fin 16896) (l : Fin 512) :
    V m c main_v10 (ix2 r l) = if h : r.val < 512 then 0 else
      ak m c (ix4 0 ⟨r.val - 512, by omega⟩ ⟨l.val / 64, by omega⟩ ⟨l.val % 64, by omega⟩) := by
  entry_read
  pointwise

theorem values (r : Fin 16896) (l : Fin 512) :
    V m c main_v13 (ix2 r l) = if h : r.val < 512 then 0 else
      av m c (ix4 0 ⟨r.val - 512, by omega⟩ ⟨l.val / 64, by omega⟩ ⟨l.val % 64, by omega⟩) := by
  entry_read
  pointwise

theorem biases (p : Fin 4) (r : Fin 128) (j : Fin 576) :
    V m c main_v31 (ix3 p r j) = ar m c (ix2 ⟨2 * p.val + r.val / 64, by omega⟩ ⟨min (640 + r.val % 64 - j.val) 256, by omega⟩) * log2e := by
  entry_read
  pointwise
  have hk : (r.val % 64 * 639 + (63 + j.val)) % 640 = 63 + j.val - r.val % 64 := by omega
  rw [dif_pos (by omega)]
  refine congrArg (· * log2e) ?_
  by_cases h : (r.val % 64 * 639 + (63 + j.val)) % 640 < 448
  · rw [dif_pos h]
    refine congrArg (ar m c) (congrArg₂ ix2 (Fin.ext ?_) (Fin.ext ?_))
    · show p.val * 2 + r.val / 64 = 2 * p.val + r.val / 64
      omega
    · show 256 = min (640 + r.val % 64 - j.val) 256
      omega
  · rw [dif_neg h]
    refine congrArg (ar m c) (congrArg₂ ix2 (Fin.ext ?_) (Fin.ext ?_))
    · show p.val * 2 + r.val / 64 = 2 * p.val + r.val / 64
      omega
    · show 65 + (191 - ((r.val % 64 * 639 + (63 + j.val)) % 640 - 448 + 1)) = min (640 + r.val % 64 - j.val) 256
      omega

end Cert.KernelIdeal.Operands

end
-- ==== Proof.Slab.lean ====
/-
  A host gather that takes, for each of 256 start positions, `W` consecutive positions of an array of `N` positions of
  8 heads of 64 numbers, read at an index.
-/
module

public import Idealize.ShloMosaic.PureOps
public import Idealize.ShloMosaic.PureOps.Ideal
public import Idealize.ShloMosaic.Lib.Pointwise
public import Idealize.ShloMosaic.Lib.Tactic.WordOmega

@[expose] public section

set_option maxRecDepth 16384

noncomputable section

namespace Cert.Slab

open Idealize.ShloMosaic

variable {α : Type}

/-- The dimension numbers of that gather. -/
abbrev dims (N W : Nat)
    (wf : GatherDims.WF ⟨4, ![1, N, 8, 64]⟩ ⟨2, ![256, 4]⟩ ⟨5, ![256, 1, W, 8, 64]⟩ [1, 2, 3, 4] [] [] [0, 1, 2, 3] [] 1 ![1, W, 8, 64]) :
    GatherDims ⟨4, ![1, N, 8, 64]⟩ ⟨2, ![256, 4]⟩ ⟨5, ![256, 1, W, 8, 64]⟩ where
  offsetDims := [1, 2, 3, 4]
  collapsedSliceDims := []
  operandBatchingDims := []
  startIndicesBatchingDims := []
  startIndexMap := [0, 1, 2, 3]
  indexVectorDim := 1
  sliceSizes := ![1, W, 8, 64]
  wf := wf

variable {N W : Nat}
  (wf : GatherDims.WF ⟨4, ![1, N, 8, 64]⟩ ⟨2, ![256, 4]⟩ ⟨5, ![256, 1, W, 8, 64]⟩ [1, 2, 3, 4] [] [] [0, 1, 2, 3] [] 1 ![1, W, 8, 64])

theorem siIdx_eq (n : Fin 256) (j : Fin W) (h : Fin 8) (d : Fin 64) (c : Fin 4) :
    (dims N W wf).siIdx (ix5 n 0 j h d) c = ix2 n c := by
  funext b
  match b with
  | ⟨0, _⟩ => rfl
  | ⟨1, _⟩ => rfl

theorem start_eq (n : Fin 256) (j : Fin W) (h : Fin 8) (d : Fin 64) (idx : IVec ⟨2, ![256, 4]⟩ 32) (a : Fin 4) :
    (dims N W wf).start (ix5 n 0 j h d) idx a = min (idx (ix2 n a)).toInt.toNat (![1, N, 8, 64] a - ![1, W, 8, 64] a) := by
  unfold GatherDims.start
  have ha : a ∈ (dims N W wf).startIndexMap := (by decide : ∀ a : Fin 4, a ∈ ([0, 1, 2, 3] : List (Fin 4))) a
  rw [dif_pos ha, siIdx_eq]
  fin_cases a <;> rfl

theorem off_eq (n : Fin 256) (j : Fin W) (h : Fin 8) (d : Fin 64) (a : Fin 4) :
    (dims N W wf).offCoord (ix5 n 0 j h d) a = ![0, j.val, h.val, d.val] a := by
  fin_cases a <;> rfl

theorem batch_eq (n : Fin 256) (j : Fin W) (h : Fin 8) (d : Fin 64) (a : Fin 4) :
    (dims N W wf).batchCoord (ix5 n 0 j h d) a = 0 := by
  fin_cases a <;> rfl

/-- Element `(n, j, h, d)` of the gather is the array's at position `s + j`, if the word of `n`'s start is that of `s` and
    the slice lies inside the array. -/
theorem gather_apply (x : (⟨4, ![1, N, 8, 64]⟩ : Shape).Idx → α) (idx : IVec ⟨2, ![256, 4]⟩ 32) (n : Fin 256) (j : Fin W)
    (h : Fin 8) (d : Fin 64) (s : Nat) (hs : s + W ≤ N) (hN : N < 2 ^ 31)
    (hidx : ∀ a, idx (ix2 n a) = if a = 1 then BitVec.ofNat 32 s else 0#32) :
    Host.gather (dims N W wf) x idx (ix5 n 0 j h d) = x (ix4 0 ⟨s + j.val, by omega⟩ h d) := by
  unfold Host.gather
  congr 1
  funext a
  refine Fin.ext ?_
  show (dims N W wf).start (ix5 n 0 j h d) idx a + (dims N W wf).batchCoord (ix5 n 0 j h d) a
    + (dims N W wf).offCoord (ix5 n 0 j h d) a = _
  rw [start_eq, off_eq, batch_eq, hidx a]
  have hw : (BitVec.ofNat 32 s).toInt.toNat = s := by
    have hn : (BitVec.ofNat 32 s).toNat = s := by rw [BitVec.toNat_ofNat]; omega
    rw [BitVec.toInt_eq_toNat_of_lt (by omega), hn]
    omega
  match a with
  | ⟨0, _⟩ => rfl
  | ⟨1, _⟩ =>
    show min (BitVec.ofNat 32 s).toInt.toNat (N - W) + 0 + j.val = s + j.val
    rw [hw]; omega
  | ⟨2, _⟩ => show min 0 _ + 0 + h.val = h.val; omega
  | ⟨3, _⟩ => show min 0 _ + 0 + d.val = d.val; omega

/-- The dimension numbers of the gather of one column of a table of 8 rows and 257 columns at each of 64 × 576 places. -/
abbrev colDims (wf : GatherDims.WF ⟨2, ![8, 257]⟩ ⟨3, ![64, 576, 1]⟩ ⟨3, ![8, 64, 576]⟩ [0] [1] [] [1] [] 2 ![8, 1]) :
    GatherDims ⟨2, ![8, 257]⟩ ⟨3, ![64, 576, 1]⟩ ⟨3, ![8, 64, 576]⟩ where
  offsetDims := [0]
  collapsedSliceDims := [1]
  operandBatchingDims := []
  startIndicesBatchingDims := []
  startIndexMap := [1]
  indexVectorDim := 2
  sliceSizes := ![8, 1]
  wf := wf

/-- Element `(h, i, j)` of that gather is row `h`'s number in the column whose word stands at `(i, j)`. -/
theorem colGather_apply (wf : GatherDims.WF ⟨2, ![8, 257]⟩ ⟨3, ![64, 576, 1]⟩ ⟨3, ![8, 64, 576]⟩ [0] [1] [] [1] [] 2 ![8, 1])
    (x : (⟨2, ![8, 257]⟩ : Shape).Idx → α) (idx : IVec ⟨3, ![64, 576, 1]⟩ 32) (h : Fin 8) (i : Fin 64) (j : Fin 576)
    (s : Fin 257) (hidx : idx (ix3 i j 0) = BitVec.ofNat 32 s.val) :
    Host.gather (colDims wf) x idx (ix3 h i j) = x (ix2 h s) := by
  unfold Host.gather
  congr 1
  funext a
  refine Fin.ext ?_
  show (colDims wf).start (ix3 h i j) idx a + (colDims wf).batchCoord (ix3 h i j) a + (colDims wf).offCoord (ix3 h i j) a = _
  have hsi : ∀ c, (colDims wf).siIdx (ix3 h i j) c = ix3 i j 0 := by
    intro c
    funext b
    match b with
    | ⟨0, _⟩ => rfl
    | ⟨1, _⟩ => rfl
    | ⟨2, _⟩ => match c with | ⟨0, _⟩ => rfl
  have hw : (BitVec.ofNat 32 s.val).toInt.toNat = s.val := by
    have hn : (BitVec.ofNat 32 s.val).toNat = s.val := by rw [BitVec.toNat_ofNat]; omega
    rw [BitVec.toInt_eq_toNat_of_lt (by omega), hn]
    omega
  match a with
  | ⟨0, _⟩ =>
    show 0 + 0 + h.val = h.val
    omega
  | ⟨1, _⟩ =>
    have ha : (1 : Fin 2) ∈ (colDims wf).startIndexMap := (by decide : (1 : Fin 2) ∈ ([1] : List (Fin 2)))
    have hs : (colDims wf).start (ix3 h i j) idx 1 = s.val := by
      unfold GatherDims.start
      rw [dif_pos ha, hsi, hidx, hw]
      show min s.val 256 = s.val
      omega
    show (colDims wf).start (ix3 h i j) idx 1 + 0 + 0 = s.val
    rw [hs]; rfl

end Cert.Slab

end
-- ==== Proof.Ref.lean ====
/-
  The reference's result, in layers: each layer is a function of the arrays it takes, with one lemma that reads it at
  an index, and the last lemma says that the generated run's composed term is the last layer.
-/
module

public import proofs.«01_k».proof.Proof.Gen.ReferenceIdeal.Run
public import proofs.«01_k».proof.Proof.Slab
public import Idealize.ShloMosaic.PureOps.Ideal
public import Idealize.ShloMosaic.Lib.Pointwise
public import Idealize.ShloMosaic.Lib.Tactic.WordOmega

@[expose] public section

set_option maxRecDepth 16384

noncomputable section

namespace Cert.ReferenceIdeal.Layers

open Cert.ReferenceIdeal Cert.ReferenceIdeal.Gen Idealize.ShloMosaic Idealize.ShloMosaic.TcCoe

/-- The first position of every chunk, `64 n`. -/
def pos : IVec S256 32 := muli (iotaInDim S256 32 0) (broadcastInDim S256 ![] bcast_S_S256 (constantI S_ 32 64#32))

/-- The start of every chunk's slice, of an array of `N` positions: negative positions count from the end (there are none). -/
def starts (N : BitVec 32) : IVec S256x4 32 :=
  concatenate S256x4 1 [⟨S256x1, broadcastInDim S256x1 ![] bcast_S_S256x1 (constantI S_ 32 0#32)⟩,
    ⟨S256x1, broadcastInDim S256x1 ![0] bcast_S256_S256x1_0
      (select (cmpi .slt pos (broadcastInDim S256 ![] bcast_S_S256 (constantI S_ 32 0#32)))
        (addi pos (broadcastInDim S256 ![] bcast_S_S256 (constantI S_ 32 N))) pos)⟩,
    ⟨S256x1, broadcastInDim S256x1 ![] bcast_S_S256x1 (constantI S_ 32 0#32)⟩,
    ⟨S256x1, broadcastInDim S256x1 ![] bcast_S_S256x1 (constantI S_ 32 0#32)⟩]
    concatenates_S256x1_S256x1_S256x1_S256x1_S256x4_d1

/-- Keys or values behind 512 positions of zeros. -/
def padded (x : FVec Ideal S1x16384x8x64 .f32) : FVec Ideal S1x16896x8x64 .f32 :=
  concatenate S1x16896x8x64 1 [⟨S1x512x8x64, broadcastInDim S1x512x8x64 ![] bcast_S_S1x512x8x64 (constant S_ .f32 0x00000000#32)⟩,
    ⟨S1x16384x8x64, x⟩] concatenates_S1x512x8x64_S1x16384x8x64_S1x16896x8x64_d1

/-- Every chunk's band of 576 positions. -/
def bands (x : FVec Ideal S1x16384x8x64 .f32) : FVec Ideal S256x1x576x8x64 .f32 :=
  Host.gather gather_S1x16896x8x64_S256x4_S256x1x576x8x64_1234_n_n_n_0123_1_1576864 (padded x) (starts 16896#32)

/-- Every chunk's 64 queries. -/
def chunks (x : FVec Ideal S1x16384x8x64 .f32) : FVec Ideal S256x1x64x8x64 .f32 :=
  Host.gather gather_S1x16384x8x64_S256x4_S256x1x64x8x64_1234_n_n_n_0123_1_164864 x (starts 16384#32)

/-- The bias's place in the table: the distance, clipped to 128 either way, counted from -128. -/
def clipped : IVec S64x576 32 :=
  addi (minsi (broadcastInDim S64x576 ![] bcast_S_S64x576 (id (constantI S_ 32 128#32)))
    (maxsi (broadcastInDim S64x576 ![] bcast_S_S64x576 (id (constantI S_ 32 4294967168#32)))
      (subi (broadcastInDim S64x576 ![0, 1] bcast_S64x1_S64x576_0_1
          (addi (broadcastInDim S64x1 ![] bcast_S_S64x1 (constantI S_ 32 512#32)) (broadcastInDim S64x1 ![0] bcast_S64_S64x1_0 (iotaInDim S64 32 0))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- Every head's bias, by query and band position. -/
def biases (T : FVec Ideal S8x257 .f32) : FVec Ideal S8x64x576 .f32 :=
  Host.gather gather_S8x257_S64x576x1_S8x64x576_0_1_n_n_1_2_81 T (broadcastInDim S64x576x1 ![0, 1] bcast_S64x576_S64x576x1_0_1
    (select (cmpi .slt clipped (broadcastInDim S64x576 ![] bcast_S_S64x576 (constantI S_ 32 0#32)))
      (addi clipped (broadcastInDim S64x576 ![] bcast_S_S64x576 (constantI S_ 32 257#32))) clipped))

/-- Where a band position is one of the sequence's, not of the zeros before it. -/
def valid : IVec S256x576 1 :=
  cmpi .sge (addi (broadcastInDim S256x576 ![0, 1] bcast_S256x1_S256x576_0_1 (broadcastInDim S256x1 ![0] bcast_S256_S256x1_0 pos))
      (broadcastInDim S256x576 ![0, 1] bcast_S1x576_S256x576_0_1 (broadcastInDim S1x576 ![1] bcast_S576_S1x576_1 (iotaInDim S576 32 0))))
    (broadcastInDim S256x576 ![] bcast_S_S256x576 (constantI S_ 32 512#32))

/-- The masked scores. -/
def scores (q k : FVec Ideal S1x16384x8x64 .f32) (T : FVec Ideal S8x257 .f32) : FVec Ideal S256x1x8x64x576 .f32 :=
  select (broadcastInDim S256x1x8x64x576 ![0, 4] bcast_S256x576_S256x1x8x64x576_0_4 valid)
    (addf (mulf (Host.dotGeneral dot_S256x1x64x8x64_S256x1x576x8x64_S256x1x8x64x576_4_4_2_2_013_013 none (chunks q) (bands k))
        (broadcastInDim S256x1x8x64x576 ![] bcast_S_S256x1x8x64x576 (constant S_ .f32 0x3E000000#32)))
      (broadcastInDim S256x1x8x64x576 ![0, 1, 2, 3, 4] bcast_S1x1x8x64x576_S256x1x8x64x576_0_1_2_3_4
        (broadcastInDim S1x1x8x64x576 ![1, 2, 3, 4] bcast_S1x8x64x576_S1x1x8x64x576_1_2_3_4
          (broadcastInDim S1x8x64x576 ![1, 2, 3] bcast_S8x64x576_S1x8x64x576_1_2_3 (biases T)))))
    (broadcastInDim S256x1x8x64x576 ![1, 2, 3, 4] bcast_S1x8x64x576_S256x1x8x64x576_1_2_3_4
      (broadcastInDim S1x8x64x576 ![] bcast_S_S1x8x64x576 (id (constant S_ .f32 0xFF800000#32))))

/-- Every row's maximum. -/
def rowMax (s : FVec Ideal S256x1x8x64x576 .f32) : FVec Ideal S256x1x8x64 .f32 :=
  Host.reduce FloatOps.maximumf s (constant S_ .f32 0xFF800000#32) reducesTo_S256x1x8x64x576_S256x1x8x64_d4 h_S_

/-- The exponentials of the scores less their row's maximum. -/
def expd (s : FVec Ideal S256x1x8x64x576 .f32) (M : FVec Ideal S256x1x8x64 .f32) : FVec Ideal S256x1x8x64x576 .f32 :=
  Host.exp (subf s (broadcastInDim S256x1x8x64x576 ![0, 1, 2, 3, 4] bcast_S256x1x8x64x1_S256x1x8x64x576_0_1_2_3_4
    (broadcastInDim S256x1x8x64x1 ![0, 1, 2, 3] bcast_S256x1x8x64_S256x1x8x64x1_0_1_2_3
      (maximumf (broadcastInDim S256x1x8x64 ![] bcast_S_S256x1x8x64 (constant S_ .f32 0xFF800000#32)) M))))

/-- The softmax of the scores, by row. -/
def soft (s : FVec Ideal S256x1x8x64x576 .f32) : FVec Ideal S256x1x8x64x576 .f32 :=
  Host.divf (expd s (rowMax s)) (broadcastInDim S256x1x8x64x576 ![0, 1, 2, 3, 4] bcast_S256x1x8x64x1_S256x1x8x64x576_0_1_2_3_4
    (broadcastInDim S256x1x8x64x1 ![0, 1, 2, 3] bcast_S256x1x8x64_S256x1x8x64x1_0_1_2_3
      (Host.reduceAdd (expd s (rowMax s)) (constant S_ .f32 0x00000000#32) reducesTo_S256x1x8x64x576_S256x1x8x64_d4 h_S_)))

/-- The attention's output. -/
def out (q k v : FVec Ideal S1x16384x8x64 .f32) (T : FVec Ideal S8x257 .f32) : FVec Ideal S16384x512 .bf16 :=
  truncf .bf16 (shapeCast S16384x512 (shapeCast S1x16384x8x64 (transpose S1x256x64x8x64 [1, 0, 2, 3, 4] (transpose S256x1x64x8x64 [0, 1, 4, 2, 3]
    (Host.dotGeneral dot_S256x1x576x8x64_S256x1x8x64x576_S256x1x8x64x64_2_4_4_3_013_012 none (bands v) (soft (scores q k T)))
    transposes_S256x1x8x64x64_S256x1x64x8x64_0_1_4_2_3) transposes_S256x1x64x8x64_S1x256x64x8x64_1_0_2_3_4)
    shapeCasts_S1x256x64x8x64_S1x16384x8x64) shapeCasts_S1x16384x8x64_S16384x512) bitsLt_bf16_f32

theorem res_eq (m : (ℓ : Loc nD τ sig) → Buf (Elt Ideal) ℓ) (c : Dev nD) :
    Value.res_main_v89 m c = out (m ((c.tc : Thread nD τ).loc main_arg0)) (m ((c.tc : Thread nD τ).loc main_arg1))
      (m ((c.tc : Thread nD τ).loc main_arg2)) (m ((c.tc : Thread nD τ).loc main_arg3)) := by
  rfl

theorem pos_apply (n : Fin 256) : pos (ix1 n) = BitVec.ofNat 32 (n.val * 64) := by
  unfold pos
  pointwise
  rw [IntOp.muli, BitVec.ofNat_mul]

theorem starts_apply (N : BitVec 32) (n : Fin 256) (a : Fin 4) :
    starts N (ix2 n a) = if a = 1 then BitVec.ofNat 32 (n.val * 64) else 0#32 := by
  have hp : IntOp.cmpi .slt (pos (ix1 n)) 0#32 = 0#1 := by
    rw [pos_apply]
    have := n.isLt
    have hb : (BitVec.ofNat 32 (n.val * 64)).slt 0#32 = false := by
      rw [BitVec.slt_eq_decide, BitVec.toInt_eq_toNat_of_lt (by rw [BitVec.toNat_ofNat]; omega)]
      simp
      omega
    show BitVec.ofBool ((BitVec.ofNat 32 (n.val * 64)).slt 0#32) = 0#1
    rw [hb]; rfl
  unfold starts
  fin_cases a
  all_goals
    pointwise
    try rw [hp]
    try simp [pos_apply, Scalar.select]

theorem padded_apply (x : FVec Ideal S1x16384x8x64 .f32) (p : Fin 16896) (h : Fin 8) (d : Fin 64) :
    padded x (ix4 0 p h d) = if hp : p.val < 512 then 0 else x (ix4 0 ⟨p.val - 512, by omega⟩ h d) := by
  unfold padded
  pointwise

theorem valid_apply (n : Fin 256) (j : Fin 576) : valid (ix2 n j) = BitVec.ofBool (decide (512 ≤ n.val * 64 + j.val)) := by
  unfold valid
  pointwise [pos_apply]
  have hn := n.isLt
  have hj := j.isLt
  show BitVec.ofBool (BitVec.sle 512#32 (BitVec.ofNat 32 (n.val * 64) + BitVec.ofNat 32 j.val)) = _
  rw [← BitVec.ofNat_add, BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp only [Nat.cast_le]

theorem clipped_apply (i : Fin 64) (j : Fin 576) :
    clipped (ix2 i j) = BitVec.ofNat 32 (min (640 + i.val - j.val) 256) := by
  unfold clipped
  pointwise
  have hi := i.isLt
  have hj := j.isLt
  simp only [id_eq]
  show IntOp.addi (IntOp.minsi 128#32 (IntOp.maxsi 4294967168#32 (IntOp.subi (IntOp.addi 512#32 (BitVec.ofNat 32 i.val)) (BitVec.ofNat 32 j.val)))) 128#32 = _
  have h1 : IntOp.subi (IntOp.addi 512#32 (BitVec.ofNat 32 i.val)) (BitVec.ofNat 32 j.val) = BitVec.ofInt 32 (512 + i.val - j.val) := by
    rw [IntOp.subi, IntOp.addi]
    apply BitVec.eq_of_toInt_eq
    have hi' : (BitVec.ofNat 32 i.val).toInt = i.val := by
      rw [BitVec.toInt_eq_toNat_of_lt (by rw [BitVec.toNat_ofNat]; omega), BitVec.toNat_ofNat, Nat.mod_eq_of_lt (by omega)]
    have hj' : (BitVec.ofNat 32 j.val).toInt = j.val := by
      rw [BitVec.toInt_eq_toNat_of_lt (by rw [BitVec.toNat_ofNat]; omega), BitVec.toNat_ofNat, Nat.mod_eq_of_lt (by omega)]
    simp [BitVec.toInt_sub, BitVec.toInt_add, hi', hj']
  have h2 : (BitVec.ofInt 32 (512 + i.val - j.val)).toInt = 512 + i.val - j.val := by
    rw [BitVec.toInt_ofInt, Int.bmod_eq_of_le (by omega) (by omega)]
  have h3 : IntOp.maxsi 4294967168#32 (BitVec.ofInt 32 (512 + i.val - j.val)) = BitVec.ofInt 32 (512 + i.val - j.val) := by
    rw [IntOp.maxsi, BitVec.slt_eq_decide, h2, if_neg]
    have : (4294967168#32).toInt = -128 := by decide
    rw [this, decide_eq_true_eq]
    omega
  rw [h1, h3, IntOp.minsi, BitVec.slt_eq_decide, h2]
  have : (128#32).toInt = 128 := by decide
  rw [this]
  by_cases hc : (128 : Int) < 512 + i.val - j.val
  · rw [if_pos (by rw [decide_eq_true_eq]; exact hc), Nat.min_eq_right (by omega)]
    rfl
  · rw [if_neg (by rw [decide_eq_true_eq]; exact hc), Nat.min_eq_left (by omega)]
    have : (640 + i.val - j.val : Nat) = ((512 + i.val - j.val : Int) + 128) := by omega
    show BitVec.ofInt 32 (512 + i.val - j.val) + BitVec.ofInt 32 128 = _
    rw [← BitVec.ofInt_add, ← this, BitVec.ofInt_natCast]

theorem bands_apply (x : FVec Ideal S1x16384x8x64 .f32) (n : Fin 256) (j : Fin 576) (h : Fin 8) (d : Fin 64) :
    bands x (ix5 n 0 j h d) = padded x (ix4 0 ⟨n.val * 64 + j.val, by omega⟩ h d) :=
  Cert.Slab.gather_apply _ (padded x) (starts 16896#32) n j h d (n.val * 64) (by omega) (by norm_num) (starts_apply _ n)

theorem chunks_apply (x : FVec Ideal S1x16384x8x64 .f32) (n : Fin 256) (i : Fin 64) (h : Fin 8) (d : Fin 64) :
    chunks x (ix5 n 0 i h d) = x (ix4 0 ⟨n.val * 64 + i.val, by omega⟩ h d) :=
  Cert.Slab.gather_apply _ x (starts 16384#32) n i h d (n.val * 64) (by omega) (by norm_num) (starts_apply _ n)

theorem biases_apply (T : FVec Ideal S8x257 .f32) (h : Fin 8) (i : Fin 64) (j : Fin 576) :
    biases T (ix3 h i j) = T (ix2 h ⟨min (640 + i.val - j.val) 256, by omega⟩) := by
  refine Cert.Slab.colGather_apply _ T _ h i j ⟨min (640 + i.val - j.val) 256, by omega⟩ ?_
  have hp : IntOp.cmpi .slt (clipped (ix2 i j)) 0#32 = 0#1 := by
    rw [clipped_apply]
    have hb : (BitVec.ofNat 32 (min (640 + i.val - j.val) 256)).slt 0#32 = false := by
      rw [BitVec.slt_eq_decide, BitVec.toInt_eq_toNat_of_lt (by rw [BitVec.toNat_ofNat]; omega)]
      simp
      omega
    show BitVec.ofBool ((BitVec.ofNat 32 (min (640 + i.val - j.val) 256)).slt 0#32) = 0#1
    rw [hb]; rfl
  pointwise
  rw [hp]
  simp [clipped_apply, Scalar.select]

/-- The word of minus infinity is `⊥`. -/
theorem ninf : Ideal.ofBits .f32 0xFF800000#32 = ⊥ := by
  simp [Ideal.ofBits, Ideal.ieee]

theorem rowMax_apply (s : FVec Ideal S256x1x8x64x576 .f32) (n : Fin 256) (h : Fin 8) (i : Fin 64) :
    rowMax s (ix4 n 0 h i) = Finset.univ.fold max (Ideal.ofBits .f32 0xFF800000#32) fun j : Fin 576 => s (ix5 n 0 h i j) := by
  unfold rowMax
  pointwise

theorem expd_apply (s : FVec Ideal S256x1x8x64x576 .f32) (M : FVec Ideal S256x1x8x64 .f32) (n : Fin 256) (h : Fin 8) (i : Fin 64) (j : Fin 576) :
    expd s M (ix5 n 0 h i j) = Ideal.exp (s (ix5 n 0 h i j) - max (Ideal.ofBits .f32 0xFF800000#32) (M (ix4 n 0 h i))) := by
  unfold expd
  pointwise

theorem soft_apply (s : FVec Ideal S256x1x8x64x576 .f32) (n : Fin 256) (h : Fin 8) (i : Fin 64) (j : Fin 576) :
    soft s (ix5 n 0 h i j) = Ideal.div (expd s (rowMax s) (ix5 n 0 h i j)) (0 + ∑ j : Fin 576, expd s (rowMax s) (ix5 n 0 h i j)) := by
  unfold soft
  pointwise

theorem scores_apply (q k : FVec Ideal S1x16384x8x64 .f32) (T : FVec Ideal S8x257 .f32) (n : Fin 256) (h : Fin 8) (i : Fin 64) (j : Fin 576) :
    scores q k T (ix5 n 0 h i j) = if 512 ≤ n.val * 64 + j.val then
      (∑ d : Fin 64, chunks q (ix5 n 0 i h d) * bands k (ix5 n 0 j h d)) * Ideal.ofBits .f32 0x3E000000#32 + biases T (ix3 h i j) else ⊥ := by
  have hb : id (constant (F := Ideal) S_ .f32 0xFF800000#32) ix0 = ⊥ := ninf
  unfold scores
  pointwise [valid_apply]
  rw [hb]

theorem out_apply (q k v : FVec Ideal S1x16384x8x64 .f32) (T : FVec Ideal S8x257 .f32) (r : Fin 16384) (l : Fin 512) :
    out q k v T (ix2 r l) = ∑ j : Fin 576, bands v (ix5 ⟨r.val / 64, by omega⟩ 0 j ⟨l.val / 64, by omega⟩ ⟨l.val % 64, by omega⟩)
      * soft (scores q k T) (ix5 ⟨r.val / 64, by omega⟩ 0 ⟨l.val / 64, by omega⟩ ⟨r.val % 64, by omega⟩ j) := by
  unfold out
  pointwise

end Cert.ReferenceIdeal.Layers

end
-- ==== Proof.Soft.lean ====
/-
  The mathematics: a softmax written with powers of two and one division at the end is the softmax written with
  exponentials and a division per weight, over extended reals, when no score is plus infinity and some score is finite.
-/
module

public import Idealize.ShloMosaic.PureOps.Ideal

@[expose] public section

noncomputable section

namespace Cert.Soft

open Idealize.ShloMosaic

/-- A row's maximum. -/
abbrev top {n : ℕ} (s : Fin n → EReal) : EReal := Finset.univ.fold max ⊥ s

theorem coe_sum {n : ℕ} (a : Fin n → ℝ) : ∑ j, (a j : EReal) = ((∑ j, a j : ℝ) : EReal) := by
  induction (Finset.univ : Finset (Fin n)) using Finset.induction_on with
  | empty => simp
  | insert j s hj ih => rw [Finset.sum_insert hj, Finset.sum_insert hj, ih, EReal.coe_add]

theorem sum_mul_coe {n : ℕ} (f : Fin n → EReal) (r : ℝ) (hr : 0 ≤ r) : (∑ j, f j) * (r : EReal) = ∑ j, f j * (r : EReal) := by
  induction (Finset.univ : Finset (Fin n)) using Finset.induction_on with
  | empty => simp
  | insert j s hj ih =>
    rw [Finset.sum_insert hj, Finset.sum_insert hj,
      EReal.right_distrib_of_nonneg_of_ne_top (EReal.coe_nonneg.mpr hr) (EReal.coe_ne_top r), ih]

theorem top_mul {n : ℕ} (t : Fin n → EReal) (c : ℝ) (hc : 0 < c) : top (fun j => t j * (c : EReal)) = top t * (c : EReal) := by
  have hm : Monotone fun x : EReal => x * (c : EReal) := fun x y h => mul_le_mul_of_nonneg_right h (EReal.coe_nonneg.mpr hc.le)
  have h := Finset.fold_hom (op := max) (op' := max) (s := (Finset.univ : Finset (Fin n))) (b := (⊥ : EReal)) (f := t)
    (m := fun x : EReal => x * (c : EReal)) (fun x y => hm.map_max)
  rw [EReal.bot_mul_coe_of_pos hc] at h
  exact h

/-- A row's maximum is a real number. -/
theorem top_real {n : ℕ} (t : Fin n → EReal) (ht : ∀ j, t j ≠ ⊤) (hb : ∃ j, t j ≠ ⊥) : ∃ M : ℝ, top t = M := by
  have h1 : top t ≠ ⊤ := ((Finset.fold_max_lt _).mpr ⟨bot_lt_top, fun j _ => lt_top_iff_ne_top.mpr (ht j)⟩).ne
  have h2 : top t ≠ ⊥ := by
    obtain ⟨j, hj⟩ := hb
    exact (lt_of_lt_of_le (bot_lt_iff_ne_bot.mpr hj) ((Finset.le_fold_max _).mpr (Or.inr ⟨j, Finset.mem_univ j, le_rfl⟩))).ne'
  exact ⟨(top t).toReal, (EReal.coe_toReal h1 h2).symm⟩

/-- A power of two of a score scaled by `1 / log 2` is the exponential of the score. -/
theorem exp2_eq (x : EReal) (hx : x ≠ ⊤) (M c : ℝ) (hc : c = 1 / Real.log 2) :
    Ideal.exp2 (x * (c : EReal) - (M : EReal) * (c : EReal)) = Ideal.exp (x - M) := by
  have h2 : 0 < Real.log 2 := Real.log_pos (by norm_num)
  have hp : 0 < c := by rw [hc]; positivity
  induction x using EReal.rec with
  | bot =>
    rw [EReal.bot_mul_coe_of_pos hp, EReal.bot_sub, EReal.bot_sub]
    rfl
  | coe x =>
    rw [← EReal.coe_mul, ← EReal.coe_mul, ← EReal.coe_sub, ← EReal.coe_sub]
    show ((Real.rpow 2 (x * c - M * c) : ℝ) : EReal) = ((Real.exp (x - M) : ℝ) : EReal)
    congr 1
    show (2 : ℝ) ^ (x * c - M * c) = _
    rw [Real.rpow_def_of_pos (by norm_num)]
    congr 1
    rw [hc]
    field_simp
  | top => exact absurd rfl hx

theorem soft_eq {n : ℕ} (t v : Fin n → EReal) (ht : ∀ j, t j ≠ ⊤) (hb : ∃ j, t j ≠ ⊥) (c : ℝ) (hc : c = 1 / Real.log 2) :
    Ideal.div (∑ j, Ideal.exp2 (t j * (c : EReal) - top (fun j => t j * (c : EReal))) * v j)
        (∑ j, Ideal.exp2 (t j * (c : EReal) - top (fun j => t j * (c : EReal))))
      = ∑ j, v j * Ideal.div (Ideal.exp (t j - max ⊥ (top t))) (0 + ∑ j, Ideal.exp (t j - max ⊥ (top t))) := by
  have h2 : 0 < Real.log 2 := Real.log_pos (by norm_num)
  have hp : 0 < c := by rw [hc]; positivity
  obtain ⟨M, hM⟩ := top_real t ht hb
  rw [top_mul t c hp, hM, max_eq_right bot_le, zero_add]
  have he : ∀ j, ∃ a : ℝ, 0 ≤ a ∧ (t j ≠ ⊥ → 0 < a) ∧ Ideal.exp (t j - M) = a := fun j => by
    have := ht j
    generalize t j = x at this
    induction x using EReal.rec with
    | bot => exact ⟨0, le_rfl, fun h => absurd rfl h, by rw [EReal.bot_sub]; rfl⟩
    | coe x => exact ⟨Real.exp (x - M), (Real.exp_pos _).le, fun _ => Real.exp_pos _, by rw [← EReal.coe_sub]; rfl⟩
    | top => exact absurd rfl this
  choose a ha0 hap ha using he
  simp only [fun j => exp2_eq (t j) (ht j) M c hc, ha]
  rw [coe_sum]
  obtain ⟨j0, hj0⟩ := hb
  have hS : 0 < ∑ j, a j := Finset.sum_pos' (fun j _ => ha0 j) ⟨j0, Finset.mem_univ _, hap j0 hj0⟩
  have hd : ∀ x : EReal, Ideal.div x ((∑ j, a j : ℝ) : EReal) = x * (((∑ j, a j)⁻¹ : ℝ) : EReal) := fun x => by
    rw [Ideal.div, if_neg (by rw [EReal.coe_eq_zero]; exact hS.ne'), EReal.coe_inv]
  simp only [hd]
  rw [sum_mul_coe _ _ (inv_nonneg.mpr hS.le)]
  refine Finset.sum_congr rfl fun j _ => ?_
  rw [mul_comm (a j : EReal) (v j), mul_assoc]

/-- A sum over a pair's 128 lanes of products that are zero outside head `g` is the sum over that head's 64. -/
theorem sum_lanes (A B : Fin 128 → EReal) (g : ℕ) (hg : g < 2) :
    ∑ z : Fin 128, (if z.val / 64 = g then A z else 0) * B z
      = ∑ d : Fin 64, A ⟨g * 64 + d.val, by omega⟩ * B ⟨g * 64 + d.val, by omega⟩ := by
  have h := Fin.sum_univ_add (a := 64) (b := 64) fun z : Fin (64 + 64) => (if z.val / 64 = g then A z else 0) * B z
  refine h.trans ?_
  have hl : ∀ d : Fin 64, (Fin.castAdd 64 d).val / 64 = 0 := fun d => by show d.val / 64 = 0; omega
  have hr : ∀ d : Fin 64, (Fin.natAdd 64 d).val / 64 = 1 := fun d => by show (64 + d.val) / 64 = 1; omega
  simp only [hl, hr]
  obtain rfl | rfl : g = 0 ∨ g = 1 := by omega
  · simp only [if_true, one_ne_zero, if_false, zero_mul (M₀ := EReal), Finset.sum_const_zero, add_zero (M := EReal)]
    refine Finset.sum_congr rfl fun d _ => ?_
    have e : Fin.castAdd 64 d = (⟨0 * 64 + d.val, by omega⟩ : Fin 128) := Fin.ext (by show d.val = 0 * 64 + d.val; omega)
    rw [e]
  · simp only [if_true, zero_ne_one, if_false, zero_mul, Finset.sum_const_zero, zero_add]
    refine Finset.sum_congr rfl fun d _ => ?_
    have e : Fin.natAdd 64 d = (⟨1 * 64 + d.val, by omega⟩ : Fin 128) := Fin.ext (by show 64 + d.val = 1 * 64 + d.val; omega)
    rw [e]

/-- A finite score, scaled before the product or after it. -/
theorem score_eq {n : ℕ} (q k : Fin n → ℝ) (s c b : ℝ) :
    (∑ d, (q d : EReal) * ((s : EReal) * (c : EReal)) * (k d : EReal)) + (b : EReal) * (c : EReal)
      = ((∑ d, (q d : EReal) * (k d : EReal)) * (s : EReal) + (b : EReal)) * (c : EReal) := by
  simp only [← EReal.coe_mul, coe_sum, ← EReal.coe_add]
  congr 1
  rw [add_mul, Finset.sum_mul, Finset.sum_mul]
  refine congrArg (· + _) (Finset.sum_congr rfl fun d _ => ?_)
  ring

end Cert.Soft

end
-- ==== Proof.Close.lean ====
/-
  The two sides meet: for finite queries, keys and biases the kernel's result is the reference's.
-/
module

public import proofs.«01_k».proof.Proof.Arr
public import proofs.«01_k».proof.Proof.Host
public import proofs.«01_k».proof.Proof.Ref
public import proofs.«01_k».proof.Proof.Soft
public import proofs.«01_k».proof.Pre_finite

@[expose] public section

set_option maxRecDepth 16384

noncomputable section

namespace Cert.Close

open Cert.KernelIdeal Cert.KernelIdeal.Gen Idealize.ShloMosaic Idealize.ShloMosaic.TcCoe Cert.KernelIdeal.Operands

theorem pre_facts : Cert.Pre_finite.Facts := ⟨by decide, by decide⟩

/-- A number whose absolute value is below plus infinity is real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The precondition says that queries, keys and biases are real numbers. -/
theorem reals [h : Cert.Pre_finite.Facts] (q k v : FVec Ideal S1x16384x8x64 .f32) (T : FVec Ideal S8x257 .f32)
    (hp : (Cert.Pre_finite.fn (F := Ideal) q k v T).1 = (fun _ => 1#1) ∧ (Cert.Pre_finite.fn (F := Ideal) q k v T).2.1 = (fun _ => 1#1)
      ∧ (Cert.Pre_finite.fn (F := Ideal) q k v T).2.2 = (fun _ => 1#1)) :
    (∃ q' : S1x16384x8x64.Idx → ℝ, ∀ i, q i = (q' i : EReal)) ∧ (∃ k' : S1x16384x8x64.Idx → ℝ, ∀ i, k i = (k' i : EReal))
      ∧ ∃ T' : S8x257.Idx → ℝ, ∀ i, T i = (T' i : EReal) := by
  have h1 := fun i => real_of_lt (q i) (congrFun hp.1 i)
  have h2 := fun i => real_of_lt (k i) (congrFun hp.2.1 i)
  have h3 := fun i => real_of_lt (T i) (congrFun hp.2.2 i)
  choose q' hq using h1
  choose k' hk using h2
  choose T' hT using h3
  exact ⟨⟨q', hq⟩, ⟨k', hk⟩, ⟨T', hT⟩⟩

/-- One over the logarithm of two. -/
abbrev c0 : ℝ := 1 / Real.log 2

theorem log2e_eq : log2e = (c0 : EReal) := by
  have h2 : Ideal.ofBits .f32 0x40000000#32 = ((2 : ℝ) : EReal) := by
    simp [Ideal.ofBits, Ideal.ieee]
    refine (EReal.coe_mul (8388608 : ℝ) ((2 ^ 22)⁻¹ : ℝ)).symm.trans (congrArg _ ?_)
    norm_num
  have hl : 0 < Real.log 2 := Real.log_pos (by norm_num)
  rw [log2e, h2]
  have e : Ideal.log ((2 : ℝ) : EReal) = ((Real.log 2 : ℝ) : EReal) := if_neg (by norm_num)
  rw [e, Ideal.div, if_neg (by rw [EReal.coe_eq_zero]; exact hl.ne'), one_mul, ← EReal.coe_inv, ← one_div]

theorem eighth : ∃ s : ℝ, Ideal.ofBits .f32 0x3E000000#32 = (s : EReal) :=
  ⟨_, by simp [Ideal.ofBits, Ideal.ieee]; rfl⟩

variable (m : (ℓ : Loc nD τ sig) → Buf (Elt Ideal) ℓ) (c : Dev nD)

open Cert.KernelIdeal.Arr in
/-- The kernel's score is the reference's, scaled by one over the logarithm of two. -/
theorem score_eq (q' k' : S1x16384x8x64.Idx → ℝ) (T' : S8x257.Idx → ℝ) (hq : ∀ i, aq m c i = (q' i : EReal)) (hk : ∀ i, ak m c i = (k' i : EReal))
    (hT : ∀ i, ar m c i = (T' i : EReal)) (R : Fin 16384) (L : Fin 512) (j : Fin 576) :
    ∃ t : EReal, t ≠ ⊤ ∧ (512 ≤ R.val / 64 * 64 + j.val → t ≠ ⊥)
      ∧ (if 512 ≤ R.val / 64 * 64 + j.val then score m c R L j else ⊥) = t * (c0 : EReal)
      ∧ ReferenceIdeal.Layers.scores (aq m c) (ak m c) (ar m c)
          (ix5 ⟨R.val / 64, by omega⟩ 0 ⟨L.val / 64, by omega⟩ ⟨R.val % 64, by omega⟩ j) = t := by
  have hp : 0 < c0 := by
    have : 0 < Real.log 2 := Real.log_pos (by norm_num)
    show 0 < 1 / Real.log 2
    positivity
  obtain ⟨s, hs⟩ := eighth
  rw [ReferenceIdeal.Layers.scores_apply]
  by_cases hv : 512 ≤ R.val / 64 * 64 + j.val
  · simp only [if_pos hv]
    let qd : Fin 64 → ℝ := fun d => q' (ix4 0 R ⟨L.val / 64, by omega⟩ d)
    let kd : Fin 64 → ℝ := fun d => k' (ix4 0 ⟨R.val / 64 * 64 + j.val - 512, by omega⟩ ⟨L.val / 64, by omega⟩ d)
    let b : ℝ := T' (ix2 ⟨L.val / 64, by omega⟩ ⟨min (640 + R.val % 64 - j.val) 256, by omega⟩)
    refine ⟨(∑ d, (qd d : EReal) * (kd d : EReal)) * (s : EReal) + (b : EReal), ?_, fun _ => ?_, ?_, ?_⟩
    · simp only [← EReal.coe_mul, Soft.coe_sum, ← EReal.coe_add]
      exact EReal.coe_ne_top _
    · simp only [← EReal.coe_mul, Soft.coe_sum, ← EReal.coe_add]
      exact EReal.coe_ne_bot _
    · rw [← Soft.score_eq]
      refine congrArg₂ (· + ·) ?_ ?_
      · refine (Soft.sum_lanes (fun z => oq m c (ix2 R ⟨L.val / 128 * 128 + z.val, by omega⟩))
          (fun z => ok m c (ix2 ⟨R.val / 64 * 64 + j.val, by omega⟩ ⟨L.val / 128 * 128 + z.val, by omega⟩)) (L.val % 128 / 64) (by omega)).trans ?_
        refine Finset.sum_congr rfl fun d _ => ?_
        have e1 : (⟨(L.val / 128 * 128 + (L.val % 128 / 64 * 64 + d.val)) / 64, by omega⟩ : Fin 8) = ⟨L.val / 64, by omega⟩ := Fin.ext (show (L.val / 128 * 128 + (L.val % 128 / 64 * 64 + d.val)) / 64 = L.val / 64 by omega)
        have e2 : (⟨(L.val / 128 * 128 + (L.val % 128 / 64 * 64 + d.val)) % 64, by omega⟩ : Fin 64) = d := Fin.ext (show (L.val / 128 * 128 + (L.val % 128 / 64 * 64 + d.val)) % 64 = d.val by omega)
        refine congrArg₂ (· * ·) ?_ ?_
        · refine (queries m c R _).trans ?_
          rw [e1, e2, hq, hs, log2e_eq]
        · refine (keys m c _ _).trans ?_
          rw [dif_neg (show ¬ R.val / 64 * 64 + j.val < 512 by omega), e1, e2, hk]
      · refine (biases m c _ _ j).trans ?_
        have e1 : (⟨2 * (L.val / 128) + (L.val % 128 / 64 * 64 + R.val % 64) / 64, by omega⟩ : Fin 8) = ⟨L.val / 64, by omega⟩ := Fin.ext (show 2 * (L.val / 128) + (L.val % 128 / 64 * 64 + R.val % 64) / 64 = L.val / 64 by omega)
        have e2 : (⟨min (640 + (L.val % 128 / 64 * 64 + R.val % 64) % 64 - j.val) 256, by omega⟩ : Fin 257) = ⟨min (640 + R.val % 64 - j.val) 256, by omega⟩ :=
          Fin.ext (by show min _ _ = min _ _; omega)
        rw [log2e_eq]
        refine congrArg (· * (c0 : EReal)) ?_
        refine (congrArg (ar m c) (congrArg₂ ix2 e1 e2)).trans (hT _)
    · rw [hs]
      refine congrArg₂ (· + ·) (congrArg (· * (s : EReal)) (Finset.sum_congr rfl fun d _ => congrArg₂ (· * ·) ?_ ?_)) ?_
      · rw [ReferenceIdeal.Layers.chunks_apply]
        have e : (⟨R.val / 64 * 64 + R.val % 64, by omega⟩ : Fin 16384) = R := Fin.ext (by show _ + _ = _; omega)
        exact (congrArg (fun r => aq m c (ix4 0 r _ d)) e).trans (hq _)
      · rw [ReferenceIdeal.Layers.bands_apply, ReferenceIdeal.Layers.padded_apply, dif_neg (show ¬ R.val / 64 * 64 + j.val < 512 by omega)]
        exact hk _
      · rw [ReferenceIdeal.Layers.biases_apply]
        exact hT _
  · simp only [if_neg hv]
    exact ⟨⊥, bot_ne_top, fun h => absurd h hv, (EReal.bot_mul_coe_of_pos hp).symm, rfl⟩

open Cert.KernelIdeal.Arr in
theorem val_eq (q' k' : S1x16384x8x64.Idx → ℝ) (T' : S8x257.Idx → ℝ) (hq : ∀ i, aq m c i = (q' i : EReal)) (hk : ∀ i, ak m c i = (k' i : EReal))
    (hT : ∀ i, ar m c i = (T' i : EReal)) (R : Fin 16384) (L : Fin 512) :
    val m c R L = ReferenceIdeal.Layers.out (aq m c) (ak m c) (av m c) (ar m c) (ix2 R L) := by
  have h := score_eq m c q' k' T' hq hk hT R L
  choose t ht hb hs hr using h
  rw [ReferenceIdeal.Layers.out_apply]
  simp only [ReferenceIdeal.Layers.soft_apply, ReferenceIdeal.Layers.expd_apply, ReferenceIdeal.Layers.rowMax_apply, hr, ReferenceIdeal.Layers.ninf]
  unfold val KernelIdeal.Layers.one KernelIdeal.Layers.top
  simp only [hs, ReferenceIdeal.Layers.ninf]
  refine (Soft.soft_eq t _ ht ⟨⟨575, by omega⟩, hb _ (by show 512 ≤ _ + 575; omega)⟩ c0 rfl).trans ?_
  refine Finset.sum_congr rfl fun j _ => congrArg (· * _) ?_
  rw [ReferenceIdeal.Layers.bands_apply, ReferenceIdeal.Layers.padded_apply]
  exact values m c _ L

end Cert.Close

end
-- ==== Proof.MixCond.lean ====
module

public import proofs.«01_k».proof.Proof.Gen.MixIdeal.Frame
public import proofs.«01_k».proof.Proof.Gen.MixIdeal.Skeleton

@[expose] public section

/-! The two conditions of the mixing call's body: the first point, and the points after it. -/

noncomputable section

namespace Cert.MixIdeal.Run

open Idealize.ShloMosaic Idealize.ShloMosaic.TcCoe
open Cert.MixIdeal.Gen

/-- The point is the first: the condition the body's first branch is taken under. -/
abbrev Opening (i : grid0.Coords) : Prop :=
  Scalar.cmpi .ne (Scalar.extui (Scalar.cmpi .eq (BitVec.ofNat 32 (i 0).val) 0#32) : BitVec 32) 0#32 = 1#1

/-- The point is a later one: the condition of the body's second branch. -/
abbrev Later (i : grid0.Coords) : Prop := k0_cond2 i = 1#1

theorem opening_iff : ∀ t : Fin cfg0.N, Opening (grid0.coords t) ↔ t.val = 0 :=
  (by decide +kernel : ∀ t : Fin grid0.N, Opening (grid0.coords t) ↔ t.val = 0)

theorem later_iff : ∀ t : Fin cfg0.N, Later (grid0.coords t) ↔ 1 ≤ t.val :=
  (by decide +kernel : ∀ t : Fin grid0.N, Later (grid0.coords t) ↔ 1 ≤ t.val)

end Cert.MixIdeal.Run

end
-- ==== Proof.MixA.lean ====
module

public import proofs.«01_k».proof.Proof.MixCond

@[expose] public section

/-! The body's run at the first point: what its stores leave in each buffer, as pieces. -/

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixIdeal.Gen

variable {F : FTy → Type} [FloatOps F]

local notation "𝕄" => MT nD τ sig Unit (Elt F) ℕ (UR sig nD τ) ℕ

set_option maxHeartbeats 4000000 in
/-- The pieces that the first point's body leaves in the buffers it stores into, with its triple. -/
def bodyA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : Opening i) (hc1 : ¬Later i)
    (x0 : Vec F S512x1024 .f32) (x1 : Vec F S512x512 .bf16) (x2 : Vec F S512x512 .bf16) (x3 : Vec F S512x2048 .f32) (x4 : Vec F S1x6x1024 .f32) (x5 : Vec F S1x2x2816 .f32) (x6 : Vec F S1x1024 .f32) (x7 : Vec F S1x1024 .f32) (x8 : Vec F S1x1024 .f32) (x9 : Vec F S1x1024 .f32) (x10 : Vec F S512x1024 .bf16) (x11 : Vec F S512x1024 .bf16) (x12 : Vec F S1024x1024 .bf16) (x13 : Vec F S1024x5632 .bf16) (x14 : Vec F S3x2816 .f32) (x15 : Vec F S1x2816 .f32) (x16 : Vec F S2816x1024 .bf16) (d17 : Vec F S512x1024 .f32) (d18 : Vec F S1x2x2816 .f32) (s0 : Vec F S8x2816 .f32) :
    Σ' (LS0 : List (View.Piece (Elt F) S8x2816 .f32)), Σ' (LS1 : List (View.Piece (Elt F) S512x1024 .f32)), { LS2 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare d17 ∗ owns (c : Thread nD τ) arg19 fullShare d18 ∗ owns (c : Thread nD τ) arg20 fullShare s0 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare d17 ∗ owns (c : Thread nD τ) arg19 fullShare d18 ∗ (∃ f, arg20.view.loc (c : Thread nD τ) ↦[arg20.view.set]{fullShare} arg20.view.writes (Elt F) f LS0) ∗ (∃ d, owns (c : Thread nD τ) arg21 fullShare d) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2)) -∗ K ⟨⟩))
          ⊢ wp frame (wpE (defs₀ (F := F)) Variants.none c none) E (cc0_mixffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_mixffn_eq_skeleton]; unfold cc0_mixffn_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]
    · iexists _; iexists _; isplitr; swap; · iexact H20
      ipureintro; rfl
    isplitl [H21]; · iexists _; iexact H21
    iexists _; iexact H22

end Cert.MixIdeal.Run

end
-- ==== Proof.MixB.lean ====
module

public import proofs.«01_k».proof.Proof.MixCond

@[expose] public section

/-! The body's run at every point after the first: what its stores leave in each buffer, as pieces. -/

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixIdeal.Gen

variable {F : FTy → Type} [FloatOps F]

local notation "𝕄" => MT nD τ sig Unit (Elt F) ℕ (UR sig nD τ) ℕ

set_option maxHeartbeats 4000000 in
/-- The pieces that a later point's body leaves in the buffers it stores into, with its triple. -/
def bodyB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec F S512x1024 .f32) (x1 : Vec F S512x512 .bf16) (x2 : Vec F S512x512 .bf16) (x3 : Vec F S512x2048 .f32) (x4 : Vec F S1x6x1024 .f32) (x5 : Vec F S1x2x2816 .f32) (x6 : Vec F S1x1024 .f32) (x7 : Vec F S1x1024 .f32) (x8 : Vec F S1x1024 .f32) (x9 : Vec F S1x1024 .f32) (x10 : Vec F S512x1024 .bf16) (x11 : Vec F S512x1024 .bf16) (x12 : Vec F S1024x1024 .bf16) (x13 : Vec F S1024x5632 .bf16) (x14 : Vec F S3x2816 .f32) (x15 : Vec F S1x2816 .f32) (x16 : Vec F S2816x1024 .bf16) (s0 : Vec F S8x2816 .f32) (s1 : Vec F S512x1024 .f32) (s2 : Vec F S512x1024 .bf16) :
    Σ' (L17 : List (View.Piece (Elt F) S512x1024 .f32)), Σ' (L18 : List (View.Piece (Elt F) S1x2x2816 .f32)), Σ' (LS0 : List (View.Piece (Elt F) S8x2816 .f32)), Σ' (LY : List (View.Piece (Elt F) S512x2816 .bf16)), Σ' (LS1 : List (View.Piece (Elt F) S512x1024 .f32)), { LS2 : List (View.Piece (Elt F) S512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare s0 ∗ (∃ d, owns (c : Thread nD τ) arg21 fullShare d) ∗ owns (c : Thread nD τ) arg22 fullShare s1 ∗ owns (c : Thread nD τ) arg23 fullShare s2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LY) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2)) -∗ K ⟨⟩))
          ⊢ wp frame (wpE (defs₀ (F := F)) Variants.none c none) E (cc0_mixffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_mixffn_eq_skeleton]; unfold cc0_mixffn_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%d20, %f20, -, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hf19; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.MixIdeal.Run

end
-- ==== Proof.Row.lean ====
/-
  One row of 1024 numbers: the layer norm that the layer applies, and the logistic function, over the extended reals.
-/
module

public import Idealize.ShloMosaic.PureOps.Ideal

@[expose] public section

noncomputable section

namespace Cert.Row

open Idealize.ShloMosaic

/-- A row's mean. -/
def mean (x : Fin 1024 → EReal) : EReal := Ideal.div (∑ j, x j) (Ideal.ofBits .f32 0x44800000#32)

/-- One over the square root of a row's variance and a small constant. -/
def spread (x : Fin 1024 → EReal) : EReal :=
  Ideal.rsqrt (Ideal.div (∑ j, (x j - mean x) * (x j - mean x)) (Ideal.ofBits .f32 0x44800000#32) + Ideal.ofBits .f32 0x3727C5AC#32)

/-- A row's layer norm, with gain `g` and offset `b`. -/
def norm (x g b : Fin 1024 → EReal) (d : Fin 1024) : EReal := (x d - mean x) * spread x * g d + b d

/-- The logistic function. -/
def logistic (x : EReal) : EReal := Ideal.div 1 (1 + Ideal.exp (-x))

/-- A convolution over three rows times its logistic, times the gate `v`. -/
def act (b w0 w1 w2 u2 u1 u0 v : EReal) : EReal :=
  (b + u2 * w0 + u1 * w1 + u0 * w2) * logistic (b + u2 * w0 + u1 * w1 + u0 * w2) * v

end Cert.Row

end
-- ==== Proof.MixLayers.lean ====
/-
  The mixing call's work on one tile of 512 rows, in layers: the operations its body prints, once, as functions of the loaded
  blocks, with one lemma per layer that reads it at an index.
-/
module

public import proofs.«01_k».proof.Proof.Gen.MixIdeal.Skeleton
public import proofs.«01_k».proof.Proof.Row
public import Idealize.ShloMosaic.PureOps.Ideal
public import Idealize.ShloMosaic.Lib.Pointwise
public import Idealize.ShloMosaic.Lib.Tactic.WordOmega

@[expose] public section

set_option maxRecDepth 16384

noncomputable section

namespace Cert.MixIdeal.Layers

open Cert.MixIdeal Cert.MixIdeal.Gen Idealize.ShloMosaic Idealize.ShloMosaic.TcCoe

/-- Half a tile's two branches, gated and summed. -/
def merged (a : FVec Ideal S256x512 .bf16) (wa : FVec Ideal S512x1024 .bf16) (w : FVec Ideal S256x512 .bf16) (wr : FVec Ideal S512x1024 .bf16)
    (ga gw : FVec Ideal S256x1024 .f32) : FVec Ideal S256x1024 .f32 :=
  addf (mulf (shapeCast S256x1024 ga shapeCasts_S256x1024_S256x1024)
      (matmul dot_S256x512_S512x1024_S256x1024_1_0_0_1_n_n none (shapeCast S256x512 a shapeCasts_S256x512_S256x512)
        (shapeCast S512x1024 wa shapeCasts_S512x1024_S512x1024) (constant S256x1024 .f32 0x00000000#32)))
    (mulf (shapeCast S256x1024 gw shapeCasts_S256x1024_S256x1024)
      (matmul dot_S256x512_S512x1024_S256x1024_1_0_0_1_n_n none (shapeCast S256x512 w shapeCasts_S256x512_S256x512)
        (shapeCast S512x1024 wr shapeCasts_S512x1024_S512x1024) (constant S256x1024 .f32 0x00000000#32)))

/-- The output projection of the merged branches. -/
def mixed (u : FVec Ideal S256x1024 .f32) (wo : FVec Ideal S1024x1024 .bf16) : FVec Ideal S256x1024 .f32 :=
  matmul dot_S256x1024_S1024x1024_S256x1024_1_0_0_1_n_n none (truncf .bf16 u bitsLt_bf16_f32)
    (shapeCast S1024x1024 wo shapeCasts_S1024x1024_S1024x1024) (constant S256x1024 .f32 0x00000000#32)

/-- A scaled row plus a branch under its gate. -/
def resid (x : FVec Ideal S256x1024 .f32) (g : FVec Ideal S1x1x1024 .f32) (o : FVec Ideal S256x1024 .f32) : FVec Ideal S256x1024 .f32 :=
  addf (mulf (broadcast S256x1024 (Scalar.ofBits (F := Ideal) .f32 0x3F9837F0#32)) x)
    (mulf (broadcastTo S256x1024 (addf (broadcast S1x1024 (Scalar.ofBits (F := Ideal) .f32 0x3F800000#32))
      (shapeCast S1x1024 (shapeCast S1x1x1024 g shapeCasts_S1x1x1024_S1x1x1024) shapeCasts_S1x1x1024_S1x1024)) broadcasts_S1x1024_S256x1024) o)

/-- Each row's mean. -/
def mean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits (F := Ideal) .f32 0x44800000#32))

/-- Each row less its mean. -/
def centred (z : FVec Ideal S256x1024 .f32) : FVec Ideal S256x1024 .f32 := subf z (broadcastTo S256x1024 (mean z) broadcasts_S256x1_S256x1024)

/-- Each row's layer norm. -/
def normed (z : FVec Ideal S256x1024 .f32) (g b : FVec Ideal S1x1024 .f32) : FVec Ideal S256x1024 .f32 :=
  addf (mulf (mulf (centred z) (broadcastTo S256x1024 (rsqrt (addf (mean (mulf (centred z) (centred z)))
      (broadcast S256x1 (Scalar.ofBits (F := Ideal) .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- A row under a scale and a shift. -/
def modulated (x : FVec Ideal S256x1024 .f32) (s b : FVec Ideal S1x1x1024 .f32) : FVec Ideal S256x1024 .bf16 :=
  truncf .bf16 (addf (mulf x (broadcastTo S256x1024 (addf (broadcast S1x1024 (Scalar.ofBits (F := Ideal) .f32 0x3F800000#32))
      (shapeCast S1x1024 (shapeCast S1x1x1024 s shapeCasts_S1x1x1024_S1x1x1024) shapeCasts_S1x1x1024_S1x1024)) broadcasts_S1x1024_S256x1024))
    (broadcastTo S256x1024 (shapeCast S1x1024 (shapeCast S1x1x1024 b shapeCasts_S1x1x1024_S1x1x1024) shapeCasts_S1x1x1024_S1x1024) broadcasts_S1x1024_S256x1024)) bitsLt_bf16_f32

/-- A tile's two halves, one above the other. -/
def two (a b : FVec Ideal S256x1024 .bf16) : FVec Ideal S512x1024 .bf16 :=
  concatenate S512x1024 0 [⟨S256x1024, a⟩, ⟨S256x1024, b⟩] concatenates_S256x1024_S256x1024_S512x1024_d0

/-- One column block of the up projection. -/
def up (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256) (constant S512x256 .f32 0x00000000#32)

/-- Row numbers of the first eight rows. -/
def rowno : IVec S8x256 32 := iota .tc S8x256 32 [0] iota_S8x256_d0_w32

/-- Each row's predecessor; the first row's is `p`. -/
def prev1 (u : FVec Ideal S512x256 .f32) (p : FVec Ideal S1x256 .f32) : FVec Ideal S512x256 .f32 :=
  concatenate S512x256 0
    [⟨S8x256, select (cmpi .eq rowno (broadcast S8x256 0#32))
        (broadcastTo S8x256 (shapeCast S1x256 p shapeCasts_S1x256_S1x256) broadcasts_S1x256_S8x256)
        (extractStridedSlice S8x256 ![0, 0] (dynamicRotate 0 1#32 none u rotates_S512x256_d0) slices_S512x256_o0_0_S8x256)⟩,
     ⟨S504x256, extractStridedSlice S504x256 ![8, 0] (dynamicRotate 0 1#32 none u rotates_S512x256_d0) slices_S512x256_o8_0_S504x256⟩]
    concatenates_S8x256_S504x256_S512x256_d0

/-- The row before each row's predecessor; the first two rows' are `q` and `p`. -/
def prev2 (u : FVec Ideal S512x256 .f32) (q p : FVec Ideal S1x256 .f32) : FVec Ideal S512x256 .f32 :=
  concatenate S512x256 0
    [⟨S8x256, select (cmpi .eq rowno (broadcast S8x256 0#32))
        (broadcastTo S8x256 (shapeCast S1x256 q shapeCasts_S1x256_S1x256) broadcasts_S1x256_S8x256)
        (select (cmpi .eq rowno (broadcast S8x256 1#32))
          (broadcastTo S8x256 (shapeCast S1x256 p shapeCasts_S1x256_S1x256) broadcasts_S1x256_S8x256)
          (extractStridedSlice S8x256 ![0, 0] (dynamicRotate 0 2#32 none u rotates_S512x256_d0) slices_S512x256_o0_0_S8x256))⟩,
     ⟨S504x256, extractStridedSlice S504x256 ![8, 0] (dynamicRotate 0 2#32 none u rotates_S512x256_d0) slices_S512x256_o8_0_S504x256⟩]
    concatenates_S8x256_S504x256_S512x256_d0

/-- The convolution over three rows. -/
def conv (u p2 p1 : FVec Ideal S512x256 .f32) (b w0 w1 w2 : FVec Ideal S1x256 .f32) : FVec Ideal S512x256 .f32 :=
  addf (addf (addf (broadcastTo S512x256 (shapeCast S1x256 b shapeCasts_S1x256_S1x256) broadcasts_S1x256_S512x256)
      (mulf p2 (broadcastTo S512x256 w0 broadcasts_S1x256_S512x256)))
      (mulf p1 (broadcastTo S512x256 w1 broadcasts_S1x256_S512x256)))
    (mulf u (broadcastTo S512x256 w2 broadcasts_S1x256_S512x256))

/-- The convolution times its logistic, times the other half of the up projection. -/
def gated (k v : FVec Ideal S512x256 .f32) : FVec Ideal S512x256 .bf16 :=
  shapeCast S512x256 (truncf .bf16 (mulf (mulf k (divf (broadcast S512x256 (Scalar.ofBits (F := Ideal) .f32 0x3F800000#32))
    (addf (broadcast S512x256 (Scalar.ofBits (F := Ideal) .f32 0x3F800000#32))
      (exp (subf (broadcast S512x256 (Scalar.ofBits (F := Ideal) .f32 0x00000000#32)) k))))) v) bitsLt_bf16_f32) shapeCasts_S512x256_S512x256

/-- One column block of what enters the down projection. -/
def col (h : FVec Ideal S512x1024 .bf16) (wu wv : FVec Ideal S1024x256 .bf16) (q p b w0 w1 w2 : FVec Ideal S1x256 .f32) : FVec Ideal S512x256 .bf16 :=
  gated (conv (up h wu) (prev2 (up h wu) q p) (prev1 (up h wu) p) b w0 w1 w2) (up h wv)

/-- Half a tile's down projection. -/
def down (y : FVec Ideal S256x2816 .bf16) (w : FVec Ideal S2816x1024 .bf16) : FVec Ideal S256x1024 .f32 :=
  matmul dot_S256x2816_S2816x1024_S256x1024_1_0_0_1_n_n none y (shapeCast S2816x1024 w shapeCasts_S2816x1024_S2816x1024) (constant S256x1024 .f32 0x00000000#32)

/-- The last eight rows of a column block. -/
def last8 (u : FVec Ideal S512x256 .f32) : FVec Ideal S8x256 .f32 :=
  shapeCast S8x256 (extractStridedSlice S8x256 ![504, 0] u slices_S512x256_o504_0_S8x256) shapeCasts_S8x256_S8x256

/-- Its last two. -/
def last2 (u : FVec Ideal S512x256 .f32) : FVec Ideal S1x2x256 .f32 :=
  shapeCast S1x2x256 (extractStridedSlice S2x256 ![510, 0] u slices_S512x256_o510_0_S2x256) shapeCasts_S2x256_S1x2x256

/-- A choice by a row number. -/
theorem pick {α : Type} (r k : ℕ) (hr : r < 512) (hk : k < 512) (a b : α) :
    Scalar.select (IntOp.cmpi CmpIPredicate.eq (BitVec.ofNat 32 r) (BitVec.ofNat 32 k)) a b = if r = k then a else b := by
  have h := WordCmp.cmpi_eq_ofNat_eq_one_iff (w := 32) (a := r) (b := k) (by omega) (by omega)
  unfold Scalar.select
  by_cases e : r = k
  · exact (if_pos (h.mpr e)).trans (if_pos e).symm
  · exact (if_neg fun c => e (h.mp c)).trans (if_neg e).symm

theorem merged_apply (a : FVec Ideal S256x512 .bf16) (wa : FVec Ideal S512x1024 .bf16) (w : FVec Ideal S256x512 .bf16) (wr : FVec Ideal S512x1024 .bf16)
    (ga gw : FVec Ideal S256x1024 .f32) (r : Fin 256) (d : Fin 1024) :
    merged a wa w wr ga gw (ix2 r d) = ga (ix2 r d) * (∑ k : Fin 512, a (ix2 r k) * wa (ix2 k d)) + gw (ix2 r d) * (∑ k : Fin 512, w (ix2 r k) * wr (ix2 k d)) := by
  unfold merged
  pointwise

theorem mixed_apply (u : FVec Ideal S256x1024 .f32) (wo : FVec Ideal S1024x1024 .bf16) (r : Fin 256) (d : Fin 1024) :
    mixed u wo (ix2 r d) = ∑ k : Fin 1024, u (ix2 r k) * wo (ix2 k d) := by
  unfold mixed
  pointwise

theorem resid_apply (x : FVec Ideal S256x1024 .f32) (g : FVec Ideal S1x1x1024 .f32) (o : FVec Ideal S256x1024 .f32) (r : Fin 256) (d : Fin 1024) :
    resid x g o (ix2 r d) = Ideal.ofBits .f32 0x3F9837F0#32 * x (ix2 r d) + (1 + g (ix3 0 0 d)) * o (ix2 r d) := by
  unfold resid
  pointwise

theorem mean_apply (z : FVec Ideal S256x1024 .f32) (r : Fin 256) (o : Fin 1) : mean z (ix2 r o) = Row.mean fun j => z (ix2 r j) := by
  unfold mean
  pointwise
  rfl

theorem centred_apply (z : FVec Ideal S256x1024 .f32) (r : Fin 256) (d : Fin 1024) : centred z (ix2 r d) = z (ix2 r d) - Row.mean fun j => z (ix2 r j) := by
  unfold centred
  pointwise [mean_apply]

theorem normed_apply (z : FVec Ideal S256x1024 .f32) (g b : FVec Ideal S1x1024 .f32) (r : Fin 256) (d : Fin 1024) :
    normed z g b (ix2 r d) = Row.norm (fun j => z (ix2 r j)) (fun j => g (ix2 0 j)) (fun j => b (ix2 0 j)) d := by
  unfold normed
  pointwise [mean_apply, centred_apply]
  rfl

theorem modulated_apply (x : FVec Ideal S256x1024 .f32) (s b : FVec Ideal S1x1x1024 .f32) (r : Fin 256) (d : Fin 1024) :
    modulated x s b (ix2 r d) = x (ix2 r d) * (1 + s (ix3 0 0 d)) + b (ix3 0 0 d) := by
  unfold modulated
  pointwise

theorem two_apply (a b : FVec Ideal S256x1024 .bf16) (r : Fin 512) (d : Fin 1024) :
    two a b (ix2 r d) = if h : r.val < 256 then a (ix2 ⟨r.val, h⟩ d) else b (ix2 ⟨r.val - 256, by omega⟩ d) := by
  unfold two
  pointwise

theorem up_apply (h : FVec Ideal S512x1024 .bf16) (w : FVec Ideal S1024x256 .bf16) (r : Fin 512) (l : Fin 256) :
    up h w (ix2 r l) = ∑ k : Fin 1024, h (ix2 r k) * w (ix2 k l) := by
  unfold up
  pointwise

theorem prev1_apply (u : FVec Ideal S512x256 .f32) (p : FVec Ideal S1x256 .f32) (r : Fin 512) (l : Fin 256) :
    prev1 u p (ix2 r l) = if r.val = 0 then p (ix2 0 l) else u (ix2 ⟨r.val - 1, by omega⟩ l) := by
  unfold prev1 rowno
  pointwise
  rw [pick r.val 0 r.isLt (by omega)]
  by_cases h8 : r.val < 8
  · rw [dif_pos h8]
    by_cases h0 : r.val = 0
    · rw [if_pos h0, if_pos h0]
    · rw [if_neg h0, if_neg h0]
      exact congrArg (fun z => u (ix2 z l)) (Fin.ext (by show (r.val + 512 - 1) % 512 = r.val - 1; omega))
  · rw [dif_neg h8]
    have h0 : ¬r.val = 0 := by omega
    have e : (8 + (r.val - 8) + 512 - 1) % 512 = r.val - 1 := by omega
    exact (congrArg (fun z : Fin 512 => u (ix2 z l)) (Fin.ext e : _ = (⟨r.val - 1, by omega⟩ : Fin 512))).trans (if_neg h0).symm

theorem prev2_apply (u : FVec Ideal S512x256 .f32) (q p : FVec Ideal S1x256 .f32) (r : Fin 512) (l : Fin 256) :
    prev2 u q p (ix2 r l) = if r.val = 0 then q (ix2 0 l) else if r.val = 1 then p (ix2 0 l) else u (ix2 ⟨r.val - 2, by omega⟩ l) := by
  unfold prev2 rowno
  pointwise
  rw [pick r.val 0 r.isLt (by omega), pick r.val 1 r.isLt (by omega)]
  by_cases h8 : r.val < 8
  · rw [dif_pos h8]
    by_cases h0 : r.val = 0
    · rw [if_pos h0, if_pos h0]
    · rw [if_neg h0, if_neg h0]
      by_cases h1 : r.val = 1
      · rw [if_pos h1, if_pos h1]
      · rw [if_neg h1, if_neg h1]
        exact congrArg (fun z => u (ix2 z l)) (Fin.ext (by show (r.val + 512 - 2) % 512 = r.val - 2; omega))
  · rw [dif_neg h8]
    have h0 : ¬r.val = 0 := by omega
    have h1 : ¬r.val = 1 := by omega
    have e : (8 + (r.val - 8) + 512 - 2) % 512 = r.val - 2 := by omega
    exact (congrArg (fun z : Fin 512 => u (ix2 z l)) (Fin.ext e : _ = (⟨r.val - 2, by omega⟩ : Fin 512))).trans ((if_neg h0).trans (if_neg h1)).symm

theorem conv_apply (u p2 p1 : FVec Ideal S512x256 .f32) (b w0 w1 w2 : FVec Ideal S1x256 .f32) (r : Fin 512) (l : Fin 256) :
    conv u p2 p1 b w0 w1 w2 (ix2 r l) = b (ix2 0 l) + p2 (ix2 r l) * w0 (ix2 0 l) + p1 (ix2 r l) * w1 (ix2 0 l) + u (ix2 r l) * w2 (ix2 0 l) := by
  unfold conv
  pointwise

theorem gated_apply (k v : FVec Ideal S512x256 .f32) (r : Fin 512) (l : Fin 256) :
    gated k v (ix2 r l) = k (ix2 r l) * Row.logistic (k (ix2 r l)) * v (ix2 r l) := by
  unfold gated Row.logistic
  pointwise [zero_sub]

theorem down_apply (y : FVec Ideal S256x2816 .bf16) (w : FVec Ideal S2816x1024 .bf16) (r : Fin 256) (d : Fin 1024) :
    down y w (ix2 r d) = ∑ f : Fin 2816, y (ix2 r f) * w (ix2 f d) := by
  unfold down
  pointwise

theorem last8_apply (u : FVec Ideal S512x256 .f32) (r : Fin 8) (l : Fin 256) : last8 u (ix2 r l) = u (ix2 ⟨504 + r.val, by omega⟩ l) := by
  unfold last8
  pointwise

theorem last2_apply (u : FVec Ideal S512x256 .f32) (r : Fin 2) (l : Fin 256) : last2 u (ix3 0 r l) = u (ix2 ⟨510 + r.val, by omega⟩ l) := by
  unfold last2
  pointwise

end Cert.MixIdeal.Layers

end
-- ==== Proof.MixFront.lean ====
/-
  What one grid point of the mixing call leaves in the two scratch buffers its first half fills: the stored pieces, each the
  generated payloads' composition, read at an index of the buffer.
-/
module

public import proofs.«01_k».proof.Proof.MixA
public import proofs.«01_k».proof.Proof.MixB
public import proofs.«01_k».proof.Proof.MixLayers
public import Idealize.ShloMosaic.Lib.Pipeline.ValueKit
public import Idealize.ShloMosaic.Lib.Pipeline.ReadBack

@[expose] public section

set_option maxRecDepth 16384

noncomputable section

namespace Cert.MixIdeal.Front

open Cert.MixIdeal Cert.MixIdeal.Gen Cert.MixIdeal.Run Idealize.ShloMosaic Idealize.ShloMosaic.TcCoe
open Cert.MixIdeal.Layers

/-- Half `g` of a block of 512 columns. -/
def ldA (x : Vec Ideal S512x512 .bf16) (g : Fin 2) : FVec Ideal S256x512 .bf16 :=
  View.ld x (Rect.unit (s := S512x512) ![256 * g.val, 0] S256x512.size (by intro a; fin_cases a <;> simp <;> omega))

/-- Half `g` of a block of 1024 columns. -/
def ldX (x : Vec Ideal S512x1024 .f32) (g : Fin 2) : FVec Ideal S256x1024 .f32 :=
  View.ld x (Rect.unit (s := S512x1024) ![256 * g.val, 0] S256x1024.size (by intro a; fin_cases a <;> simp <;> omega))

/-- Half `g` of the gates, branch `p`'s columns. -/
def ldG (x : Vec Ideal S512x2048 .f32) (g p : Fin 2) : FVec Ideal S256x1024 .f32 :=
  View.ld x (Rect.unit (s := S512x2048) ![256 * g.val, 1024 * p.val] S256x1024.size (by intro a; fin_cases a <;> simp <;> omega))

/-- Row `k` of the modulation. -/
def ldM (x : Vec Ideal S1x6x1024 .f32) (k : Fin 6) : FVec Ideal S1x1x1024 .f32 :=
  View.ld x (Rect.unit (s := S1x6x1024) ![0, k.val, 0] S1x1x1024.size (by intro a; fin_cases a <;> simp <;> omega))

theorem ldA_apply (x : Vec Ideal S512x512 .bf16) (g : Fin 2) (r : Fin 256) (l : Fin 512) : ldA x g (ix2 r l) = x (ix2 ⟨256 * g.val + r.val, by omega⟩ l) := by
  unfold ldA
  pointwise
  blk_ext

theorem ldX_apply (x : Vec Ideal S512x1024 .f32) (g : Fin 2) (r : Fin 256) (l : Fin 1024) : ldX x g (ix2 r l) = x (ix2 ⟨256 * g.val + r.val, by omega⟩ l) := by
  unfold ldX
  pointwise
  blk_ext

theorem ldG_apply (x : Vec Ideal S512x2048 .f32) (g p : Fin 2) (r : Fin 256) (l : Fin 1024) :
    ldG x g p (ix2 r l) = x (ix2 ⟨256 * g.val + r.val, by omega⟩ ⟨1024 * p.val + l.val, by omega⟩) := by
  unfold ldG
  pointwise
  blk_ext

theorem ldM_apply (x : Vec Ideal S1x6x1024 .f32) (k : Fin 6) (l : Fin 1024) : ldM x k (ix3 0 0 l) = x (ix3 0 k l) := by
  unfold ldM
  pointwise
  blk_ext

/-- Half `g` of the tile after the first layer norm. -/
def half (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) (g : Fin 2) : FVec Ideal S256x1024 .f32 :=
  normed (resid (shapeCast S256x1024 (ldX x0 g) shapeCasts_S256x1024_S256x1024) (ldM x4 2)
    (mixed (merged (ldA x1 g) x10 (ldA x2 g) x11 (ldG x3 g 0) (ldG x3 g 1)) x12)) x6 x7

/-- A row of the tile after the first layer norm, from the blocks. -/
abbrev rowX (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) (r : Fin 512) : Fin 1024 → EReal :=
  Row.norm (fun d => Ideal.ofBits .f32 0x3F9837F0#32 * x0 (ix2 r d) + (1 + x4 (ix3 0 2 d)) * ∑ k : Fin 1024,
      (x3 (ix2 r ⟨k.val, by omega⟩) * (∑ l : Fin 512, x1 (ix2 r l) * x10 (ix2 l k)) + x3 (ix2 r ⟨1024 + k.val, by omega⟩) * (∑ l : Fin 512, x2 (ix2 r l) * x11 (ix2 l k)))
        * x12 (ix2 k d)) (fun d => x6 (ix2 0 d)) (fun d => x7 (ix2 0 d))

/-- A row under the second modulation. -/
abbrev rowH (x4 : Vec Ideal S1x6x1024 .f32) (x : Fin 1024 → EReal) (d : Fin 1024) : EReal := x d * (1 + x4 (ix3 0 4 d)) + x4 (ix3 0 3 d)

theorem half_apply (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) (g : Fin 2) (r : Fin 256) (d : Fin 1024) :
    half x0 x1 x2 x3 x4 x6 x7 x10 x11 x12 g (ix2 r d) = rowX x0 x1 x2 x3 x4 x6 x7 x10 x11 x12 ⟨256 * g.val + r.val, by omega⟩ d := by
  unfold half rowX
  rw [normed_apply]
  have e : ∀ j : Fin 1024, (⟨1024 * (0 : Fin 2).val + j.val, by show 1024 * 0 + j.val < 2048; omega⟩ : Fin 2048) = ⟨j.val, by omega⟩ := fun j => Fin.ext (by show 1024 * 0 + j.val = j.val; omega)
  have e' : ∀ j : Fin 1024, (⟨1024 * (1 : Fin 2).val + j.val, by show 1024 * 1 + j.val < 2048; omega⟩ : Fin 2048) = ⟨1024 + j.val, by omega⟩ := fun j => Fin.ext (by show 1024 * 1 + j.val = 1024 + j.val; omega)
  simp only [resid_apply, mixed_apply, merged_apply, shapeCast_id, ldX_apply, ldA_apply, ldG_apply, ldM_apply, e, e']

/-- A piece of the first scratch buffer. -/
theorem half_at (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) (g : Fin 2) (Y0 : Fin 512) (Y1 : Fin 1024)
    (x : S256x1024.Idx) (h0 : Y0.val = 256 * g.val + (x 0).val) (h1 : Y1.val = (x 1).val) :
    shapeCast S256x1024 (half x0 x1 x2 x3 x4 x6 x7 x10 x11 x12 g) shapeCasts_S256x1024_S256x1024 x = rowX x0 x1 x2 x3 x4 x6 x7 x10 x11 x12 Y0 Y1 := by
  obtain ⟨r, d, rfl⟩ : ∃ (r : Fin 256) (d : Fin 1024), x = ix2 r d := ⟨x 0, x 1, by funext a; fin_cases a <;> rfl⟩
  have e0 : Y0 = ⟨256 * g.val + r.val, by omega⟩ := Fin.ext h0
  have e1 : Y1 = d := Fin.ext h1
  rw [shapeCast_id, half_apply, e0, e1]

/-- The tile under the second modulation. -/
def full (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) : FVec Ideal S512x1024 .bf16 :=
  two (modulated (half x0 x1 x2 x3 x4 x6 x7 x10 x11 x12 0) (ldM x4 4) (ldM x4 3)) (modulated (half x0 x1 x2 x3 x4 x6 x7 x10 x11 x12 1) (ldM x4 4) (ldM x4 3))

theorem full_apply (x0 : Vec Ideal S512x1024 .f32) (x1 x2 : Vec Ideal S512x512 .bf16) (x3 : Vec Ideal S512x2048 .f32) (x4 : Vec Ideal S1x6x1024 .f32)
    (x6 x7 : Vec Ideal S1x1024 .f32) (x10 x11 : Vec Ideal S512x1024 .bf16) (x12 : Vec Ideal S1024x1024 .bf16) (r : Fin 512) (d : Fin 1024) :
    full x0 x1 x2 x3 x4 x6 x7 x10 x11 x12 (ix2 r d) = rowH x4 (rowX x0 x1 x2 x3 x4 x6 x7 x10 x11 x12 r) d := by
  unfold full
  rw [two_apply]
  by_cases h : r.val < 256
  · have e : (⟨256 * (0 : Fin 2).val + r.val, by show 256 * 0 + r.val < 512; omega⟩ : Fin 512) = r := Fin.ext (by show 256 * 0 + r.val = r.val; omega)
    rw [dif_pos h, modulated_apply, half_apply, ldM_apply, ldM_apply]
    simp only [e]
  · have e : (⟨256 * (1 : Fin 2).val + (r.val - 256), by show 256 * 1 + (r.val - 256) < 512; omega⟩ : Fin 512) = r := Fin.ext (by show 256 * 1 + (r.val - 256) = r.val; omega)
    rw [dif_neg h, modulated_apply, half_apply, ldM_apply, ldM_apply]
    simp only [e]

theorem x1_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : Opening i) (hc1 : ¬Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (d17 : Vec Ideal S512x1024 .f32) (d18 : Vec Ideal S1x2x2816 .f32) (s0 : Vec Ideal S8x2816 .f32) (y : S512x1024.Idx) :
    View.canon (bodyA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 d17 d18 s0).2.1 y = rowX x0 x1 x2 x3 x4 x6 x7 x10 x11 x12 (y 0) (y 1) := by
  have key := fun (g : Fin 2) (x : S256x1024.Idx) (h0 : (y 0).val = 256 * g.val + (x 0).val) (h1 : (y 1).val = (x 1).val) =>
    half_at x0 x1 x2 x3 x4 x6 x7 x10 x11 x12 g (y 0) (y 1) x h0 h1
  frame_out
  canon_tiles x h
  · exact key 1 x h0 h1
  · exact key 0 x (by omega) h1

theorem h2_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : Opening i) (hc1 : ¬Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (d17 : Vec Ideal S512x1024 .f32) (d18 : Vec Ideal S1x2x2816 .f32) (s0 : Vec Ideal S8x2816 .f32) (y : S512x1024.Idx) :
    View.canon (bodyA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 d17 d18 s0).2.2.1 y = rowH x4 (rowX x0 x1 x2 x3 x4 x6 x7 x10 x11 x12 (y 0)) (y 1) := by
  have key : shapeCast S512x1024 (full x0 x1 x2 x3 x4 x6 x7 x10 x11 x12) shapeCasts_S512x1024_S512x1024 y = rowH x4 (rowX x0 x1 x2 x3 x4 x6 x7 x10 x11 x12 (y 0)) (y 1) := by
    obtain ⟨r, d, rfl⟩ : ∃ (r : Fin 512) (d : Fin 1024), y = ix2 r d := ⟨y 0, y 1, by funext a; fin_cases a <;> rfl⟩
    rw [shapeCast_id, full_apply]
    rfl
  frame_out
  exact key

theorem x1_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S512x1024.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).2.2.2.2.1 y = rowX x0 x1 x2 x3 x4 x6 x7 x10 x11 x12 (y 0) (y 1) := by
  have key := fun (g : Fin 2) (x : S256x1024.Idx) (h0 : (y 0).val = 256 * g.val + (x 0).val) (h1 : (y 1).val = (x 1).val) =>
    half_at x0 x1 x2 x3 x4 x6 x7 x10 x11 x12 g (y 0) (y 1) x h0 h1
  frame_out
  canon_tiles x h
  · exact key 1 x h0 h1
  · exact key 0 x (by omega) h1

theorem h2_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S512x1024.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).2.2.2.2.2.1 y = rowH x4 (rowX x0 x1 x2 x3 x4 x6 x7 x10 x11 x12 (y 0)) (y 1) := by
  have key : shapeCast S512x1024 (full x0 x1 x2 x3 x4 x6 x7 x10 x11 x12) shapeCasts_S512x1024_S512x1024 y = rowH x4 (rowX x0 x1 x2 x3 x4 x6 x7 x10 x11 x12 (y 0)) (y 1) := by
    obtain ⟨r, d, rfl⟩ : ∃ (r : Fin 512) (d : Fin 1024), y = ix2 r d := ⟨y 0, y 1, by funext a; fin_cases a <;> rfl⟩
    rw [shapeCast_id, full_apply]
    rfl
  frame_out
  exact key

end Cert.MixIdeal.Front

end
-- ==== Proof.MixCols.lean ====
/-
  What one later grid point of the mixing call leaves of the tile before it: eleven blocks of 256 columns between the two
  projections, the rows it carries on, the rows it stores, and the tile's result, each read at an index.
-/
module

public import proofs.«01_k».proof.Proof.MixFront

@[expose] public section

set_option maxRecDepth 16384

noncomputable section

namespace Cert.MixIdeal.Cols

open Cert.MixIdeal Cert.MixIdeal.Gen Cert.MixIdeal.Run Idealize.ShloMosaic Idealize.ShloMosaic.TcCoe
open Cert.MixIdeal.Layers Cert.MixIdeal.Front

/-- Column block `c` of half `p` of the up projection's weights. -/
def ldU (x : Vec Ideal S1024x5632 .bf16) (p : Fin 2) (c : Fin 11) : FVec Ideal S1024x256 .bf16 :=
  View.ld x (Rect.unit (s := S1024x5632) ![0, 2816 * p.val + 256 * c.val] S1024x256.size (by intro a; fin_cases a <;> simp <;> omega))

/-- Column block `c` of the carried row `k`. -/
def ldT (x : Vec Ideal S8x2816 .f32) (k : Fin 8) (c : Fin 11) : FVec Ideal S1x256 .f32 :=
  View.ld x (Rect.unit (s := S8x2816) ![k.val, 256 * c.val] S1x256.size (by intro a; fin_cases a <;> simp <;> omega))

/-- Column block `c` of the convolution's row `k`. -/
def ldW (x : Vec Ideal S3x2816 .f32) (k : Fin 3) (c : Fin 11) : FVec Ideal S1x256 .f32 :=
  View.ld x (Rect.unit (s := S3x2816) ![k.val, 256 * c.val] S1x256.size (by intro a; fin_cases a <;> simp <;> omega))

/-- Column block `c` of the convolution's offset. -/
def ldB (x : Vec Ideal S1x2816 .f32) (c : Fin 11) : FVec Ideal S1x256 .f32 :=
  View.ld x (Rect.unit (s := S1x2816) ![0, 256 * c.val] S1x256.size (by intro a; fin_cases a <;> simp <;> omega))

/-- Half `g` of what enters the down projection. -/
def ldY (x : Vec Ideal S512x2816 .bf16) (g : Fin 2) : FVec Ideal S256x2816 .bf16 :=
  View.ld x (Rect.unit (s := S512x2816) ![256 * g.val, 0] S256x2816.size (by intro a; fin_cases a <;> simp <;> omega))

theorem ldU_apply (x : Vec Ideal S1024x5632 .bf16) (p : Fin 2) (c : Fin 11) (k : Fin 1024) (l : Fin 256) :
    ldU x p c (ix2 k l) = x (ix2 k ⟨2816 * p.val + 256 * c.val + l.val, by omega⟩) := by
  unfold ldU
  pointwise
  blk_ext

theorem ldT_apply (x : Vec Ideal S8x2816 .f32) (k : Fin 8) (c : Fin 11) (l : Fin 256) : ldT x k c (ix2 0 l) = x (ix2 k ⟨256 * c.val + l.val, by omega⟩) := by
  unfold ldT
  pointwise
  blk_ext

theorem ldW_apply (x : Vec Ideal S3x2816 .f32) (k : Fin 3) (c : Fin 11) (l : Fin 256) : ldW x k c (ix2 0 l) = x (ix2 k ⟨256 * c.val + l.val, by omega⟩) := by
  unfold ldW
  pointwise
  blk_ext

theorem ldB_apply (x : Vec Ideal S1x2816 .f32) (c : Fin 11) (l : Fin 256) : ldB x c (ix2 0 l) = x (ix2 0 ⟨256 * c.val + l.val, by omega⟩) := by
  unfold ldB
  pointwise
  blk_ext

theorem ldY_apply (x : Vec Ideal S512x2816 .bf16) (g : Fin 2) (r : Fin 256) (l : Fin 2816) : ldY x g (ix2 r l) = x (ix2 ⟨256 * g.val + r.val, by omega⟩ l) := by
  unfold ldY
  pointwise
  blk_ext

/-- A number of the up projection's first half. -/
abbrev uc (s2 : Vec Ideal S512x1024 .bf16) (x13 : Vec Ideal S1024x5632 .bf16) (r : Fin 512) (f : Fin 2816) : EReal :=
  ∑ k : Fin 1024, s2 (ix2 r k) * x13 (ix2 k ⟨f.val, by omega⟩)

/-- A number of its second half. -/
abbrev uv (s2 : Vec Ideal S512x1024 .bf16) (x13 : Vec Ideal S1024x5632 .bf16) (r : Fin 512) (f : Fin 2816) : EReal :=
  ∑ k : Fin 1024, s2 (ix2 r k) * x13 (ix2 k ⟨2816 + f.val, by omega⟩)

/-- A number of what enters the down projection. -/
abbrev mid (x13 : Vec Ideal S1024x5632 .bf16) (x14 : Vec Ideal S3x2816 .f32) (x15 : Vec Ideal S1x2816 .f32) (s0 : Vec Ideal S8x2816 .f32)
    (s2 : Vec Ideal S512x1024 .bf16) (r : Fin 512) (f : Fin 2816) : EReal :=
  Row.act (x15 (ix2 0 f)) (x14 (ix2 0 f)) (x14 (ix2 1 f)) (x14 (ix2 2 f))
    (if r.val = 0 then s0 (ix2 6 f) else if r.val = 1 then s0 (ix2 7 f) else uc s2 x13 ⟨r.val - 2, by omega⟩ f)
    (if r.val = 0 then s0 (ix2 7 f) else uc s2 x13 ⟨r.val - 1, by omega⟩ f) (uc s2 x13 r f) (uv s2 x13 r f)

/-- Column block `c` of it. -/
def part (x13 : Vec Ideal S1024x5632 .bf16) (x14 : Vec Ideal S3x2816 .f32) (x15 : Vec Ideal S1x2816 .f32) (s0 : Vec Ideal S8x2816 .f32)
    (s2 : Vec Ideal S512x1024 .bf16) (c : Fin 11) : FVec Ideal S512x256 .bf16 :=
  col s2 (ldU x13 0 c) (ldU x13 1 c) (ldT s0 6 c) (ldT s0 7 c) (ldB x15 c) (ldW x14 0 c) (ldW x14 1 c) (ldW x14 2 c)

theorem up_uc (x13 : Vec Ideal S1024x5632 .bf16) (s2 : Vec Ideal S512x1024 .bf16) (c : Fin 11) (r : Fin 512) (l : Fin 256) :
    up s2 (ldU x13 0 c) (ix2 r l) = uc s2 x13 r ⟨256 * c.val + l.val, by omega⟩ := by
  rw [up_apply]
  refine Finset.sum_congr rfl fun k _ => congrArg (s2 (ix2 r k) * ·) ?_
  rw [ldU_apply]
  exact congrArg (fun z => x13 (ix2 k z)) (Fin.ext (by show 2816 * 0 + 256 * c.val + l.val = 256 * c.val + l.val; omega))

theorem up_uv (x13 : Vec Ideal S1024x5632 .bf16) (s2 : Vec Ideal S512x1024 .bf16) (c : Fin 11) (r : Fin 512) (l : Fin 256) :
    up s2 (ldU x13 1 c) (ix2 r l) = uv s2 x13 r ⟨256 * c.val + l.val, by omega⟩ := by
  rw [up_apply]
  refine Finset.sum_congr rfl fun k _ => congrArg (s2 (ix2 r k) * ·) ?_
  rw [ldU_apply]
  exact congrArg (fun z => x13 (ix2 k z)) (Fin.ext (by show 2816 * 1 + 256 * c.val + l.val = 2816 + (256 * c.val + l.val); omega))

theorem part_at (x13 : Vec Ideal S1024x5632 .bf16) (x14 : Vec Ideal S3x2816 .f32) (x15 : Vec Ideal S1x2816 .f32) (s0 : Vec Ideal S8x2816 .f32)
    (s2 : Vec Ideal S512x1024 .bf16) (c : Fin 11) (Y0 : Fin 512) (Y1 : Fin 2816) (x : S512x256.Idx)
    (h0 : Y0.val = (x 0).val) (h1 : Y1.val = 256 * c.val + (x 1).val) : part x13 x14 x15 s0 s2 c x = mid x13 x14 x15 s0 s2 Y0 Y1 := by
  obtain ⟨r, l, rfl⟩ : ∃ (r : Fin 512) (l : Fin 256), x = ix2 r l := ⟨x 0, x 1, by funext a; fin_cases a <;> rfl⟩
  have e0 : Y0 = r := Fin.ext h0
  have e1 : Y1 = ⟨256 * c.val + l.val, by omega⟩ := Fin.ext h1
  unfold part col
  rw [gated_apply, e0, e1]
  simp only [conv_apply, prev1_apply, prev2_apply, up_uc, up_uv, ldT_apply, ldB_apply, ldW_apply]
  rfl

theorem last8_at (x13 : Vec Ideal S1024x5632 .bf16) (s2 : Vec Ideal S512x1024 .bf16) (c : Fin 11) (Y0 : Fin 8) (Y1 : Fin 2816) (x : S8x256.Idx)
    (h0 : Y0.val = (x 0).val) (h1 : Y1.val = 256 * c.val + (x 1).val) : last8 (up s2 (ldU x13 0 c)) x = uc s2 x13 ⟨504 + Y0.val, by omega⟩ Y1 := by
  obtain ⟨r, l, rfl⟩ : ∃ (r : Fin 8) (l : Fin 256), x = ix2 r l := ⟨x 0, x 1, by funext a; fin_cases a <;> rfl⟩
  rw [last8_apply, up_uc]
  exact congrArg₂ (uc s2 x13) (Fin.ext (congrArg (504 + ·) h0.symm)) (Fin.ext h1.symm)

theorem last2_at (x13 : Vec Ideal S1024x5632 .bf16) (s2 : Vec Ideal S512x1024 .bf16) (c : Fin 11) (Y1 : Fin 2) (Y2 : Fin 2816) (x : S1x2x256.Idx)
    (h1 : Y1.val = (x 1).val) (h2 : Y2.val = 256 * c.val + (x 2).val) : last2 (up s2 (ldU x13 0 c)) x = uc s2 x13 ⟨510 + Y1.val, by omega⟩ Y2 := by
  obtain ⟨r, l, rfl⟩ : ∃ (r : Fin 2) (l : Fin 256), x = ix3 0 r l := ⟨x 1, x 2, by
    funext a
    fin_cases a
    · exact Fin.ext (by have : (x 0).val < 1 := (x 0).isLt; show (x 0).val = 0; omega)
    · rfl
    · rfl⟩
  rw [last2_apply, up_uc]
  exact congrArg₂ (uc s2 x13) (Fin.ext (congrArg (510 + ·) h1.symm)) (Fin.ext h2.symm)

theorem mid_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S512x2816.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).2.2.2.1 y = mid x13 x14 x15 s0 s2 (y 0) (y 1) := by
  have key := fun (c : Fin 11) (x : S512x256.Idx) (h0 : (y 0).val = (x 0).val) (h1 : (y 1).val = 256 * c.val + (x 1).val) =>
    part_at x13 x14 x15 s0 s2 c (y 0) (y 1) x h0 h1
  frame_out
  canon_tiles x h
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x h0 (by omega)

theorem tail_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S8x2816.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).2.2.1 y = uc s2 x13 ⟨504 + (y 0).val, by have : (y 0).val < 8 := (y 0).isLt; omega⟩ (y 1) := by
  have key := fun (c : Fin 11) (x : S8x256.Idx) (h0 : (y 0).val = (x 0).val) (h1 : (y 1).val = 256 * c.val + (x 1).val) =>
    last8_at x13 s2 c (y 0) (y 1) x h0 h1
  frame_out
  canon_tiles x h
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x h0 (by omega)

theorem conv_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S1x2x2816.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).2.1 y = uc s2 x13 ⟨510 + (y 1).val, by have : (y 1).val < 2 := (y 1).isLt; omega⟩ (y 2) := by
  have key := fun (c : Fin 11) (x : S1x2x256.Idx) (h1 : (y 1).val = (x 1).val) (h2 : (y 2).val = 256 * c.val + (x 2).val) =>
    last2_at x13 s2 c (y 1) (y 2) x h1 h2
  frame_out
  canon_tiles x h
  · exact key 10 x h1 h2
  · exact key 9 x h1 h2
  · exact key 8 x h1 h2
  · exact key 7 x h1 h2
  · exact key 6 x h1 h2
  · exact key 5 x h1 h2
  · exact key 4 x h1 h2
  · exact key 3 x h1 h2
  · exact key 2 x h1 h2
  · exact key 1 x h1 h2
  · exact key 0 x h1 (by omega)

end Cert.MixIdeal.Cols

end
-- ==== Proof.MixBack.lean ====
/-
  A tile's result at a later grid point, from the columns the point builds and the rows it keeps; and the two rows the first
  point carries on.
-/
module

public import proofs.«01_k».proof.Proof.MixCols

@[expose] public section

set_option maxRecDepth 16384

noncomputable section

namespace Cert.MixIdeal.Cols

open Cert.MixIdeal Cert.MixIdeal.Gen Cert.MixIdeal.Run Idealize.ShloMosaic Idealize.ShloMosaic.TcCoe
open Cert.MixIdeal.Layers Cert.MixIdeal.Front

/-- What enters the down projection. -/
abbrev midV (x13 : Vec Ideal S1024x5632 .bf16) (x14 : Vec Ideal S3x2816 .f32) (x15 : Vec Ideal S1x2816 .f32) (s0 : Vec Ideal S8x2816 .f32)
    (s2 : Vec Ideal S512x1024 .bf16) : Vec Ideal S512x2816 .bf16 := fun y => mid x13 x14 x15 s0 s2 (y 0) (y 1)

/-- Half `g` of a tile's result. -/
def back (x4 : Vec Ideal S1x6x1024 .f32) (x8 x9 : Vec Ideal S1x1024 .f32) (x16 : Vec Ideal S2816x1024 .bf16) (s1 : Vec Ideal S512x1024 .f32)
    (Y : Vec Ideal S512x2816 .bf16) (g : Fin 2) : FVec Ideal S256x1024 .f32 :=
  normed (resid (ldX s1 g) (ldM x4 5) (down (ldY Y g) x16)) x8 x9

/-- A row of a tile's result. -/
abbrev rowY (x4 : Vec Ideal S1x6x1024 .f32) (x8 x9 : Vec Ideal S1x1024 .f32) (x16 : Vec Ideal S2816x1024 .bf16) (s1 : Vec Ideal S512x1024 .f32)
    (Y : Vec Ideal S512x2816 .bf16) (r : Fin 512) (d : Fin 1024) : EReal :=
  Row.norm (fun j => Ideal.ofBits .f32 0x3F9837F0#32 * s1 (ix2 r j) + (1 + x4 (ix3 0 5 j)) * (∑ k : Fin 2816, Y (ix2 r k) * x16 (ix2 k j)))
    (fun j => x8 (ix2 0 j)) (fun j => x9 (ix2 0 j)) d

theorem back_at (x4 : Vec Ideal S1x6x1024 .f32) (x8 x9 : Vec Ideal S1x1024 .f32) (x16 : Vec Ideal S2816x1024 .bf16) (s1 : Vec Ideal S512x1024 .f32)
    (Y : Vec Ideal S512x2816 .bf16) (g : Fin 2) (Y0 : Fin 512) (Y1 : Fin 1024)
    (x : S256x1024.Idx) (h0 : Y0.val = 256 * g.val + (x 0).val) (h1 : Y1.val = (x 1).val) :
    back x4 x8 x9 x16 s1 Y g x = rowY x4 x8 x9 x16 s1 Y Y0 Y1 := by
  obtain ⟨r, d, rfl⟩ : ∃ (r : Fin 256) (d : Fin 1024), x = ix2 r d := ⟨x 0, x 1, by funext a; fin_cases a <;> rfl⟩
  have e0 : Y0 = ⟨256 * g.val + r.val, by omega⟩ := Fin.ext h0
  have e1 : Y1 = d := Fin.ext h1
  unfold back
  rw [normed_apply, e0, e1]
  simp only [resid_apply, ldX_apply, ldM_apply, down_apply, ldY_apply]

theorem y_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : ¬Opening i) (hc1 : Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (s0 : Vec Ideal S8x2816 .f32) (s1 : Vec Ideal S512x1024 .f32) (s2 : Vec Ideal S512x1024 .bf16) (y : S512x1024.Idx) :
    View.canon (bodyB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2).1 y = rowY x4 x8 x9 x16 s1 (midV x13 x14 x15 s0 s2) (y 0) (y 1) := by
  have key := fun (g : Fin 2) (x : S256x1024.Idx) (h0 : (y 0).val = 256 * g.val + (x 0).val) (h1 : (y 1).val = (x 1).val) =>
    back_at x4 x8 x9 x16 s1 (midV x13 x14 x15 s0 s2) g (y 0) (y 1) x h0 h1
  have e : View.canon (bodyB.sl.H20_11 c arg14 harg14 arg15 harg15 arg16 harg16 arg20 harg20 arg23 harg23 x13 x14 x15 s0 s2) = midV x13 x14 x15 s0 s2 :=
    funext (mid_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 s0 s1 s2)
  have e0 : bodyB.sl.v886 c arg14 harg14 arg15 harg15 arg16 harg16 arg20 harg20 arg21 arg23 harg23 x13 x14 x15 s0 s2 = ldY (midV x13 x14 x15 s0 s2) 0 := by
    unfold bodyB.sl.v886
    rw [View.readCov_eq_canon', e]
    rfl
  have e1 : bodyB.sl.v890 c arg14 harg14 arg15 harg15 arg16 harg16 arg20 harg20 arg21 arg23 harg23 x13 x14 x15 s0 s2 = ldY (midV x13 x14 x15 s0 s2) 1 := by
    unfold bodyB.sl.v890
    rw [View.readCov_eq_canon', e]
    rfl
  unfold bodyB
  dsimp only
  canon_tiles x h
  · refine Eq.trans ?_ (key 1 x h0 h1)
    simp only [bodyB.sl.r_88, bodyB.sl.r_90, bodyB.sl.r_91, bodyB.sl.r_92, bodyB.sl.r_93, e1]
    frame_out
    rfl
  · refine Eq.trans ?_ (key 0 x (by omega) h1)
    simp only [bodyB.sl.r_87, bodyB.sl.r_89, e0]
    frame_out
    rfl

theorem tail_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x2048 .f32) (harg4 : arg4.IsWhole) (arg5 : Memref sig .tc .vmem S1x6x1024 .f32) (harg5 : arg5.IsWhole) (arg6 : Memref sig .tc .vmem S1x2x2816 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1024x5632 .bf16) (harg14 : arg14.IsWhole) (arg15 : Memref sig .tc .vmem S3x2816 .f32) (harg15 : arg15.IsWhole) (arg16 : Memref sig .tc .vmem S1x2816 .f32) (harg16 : arg16.IsWhole) (arg17 : Memref sig .tc .vmem S2816x1024 .bf16) (harg17 : arg17.IsWhole) (arg18 : Memref sig .tc .vmem S512x1024 .f32) (harg18 : arg18.IsWhole) (arg19 : Memref sig .tc .vmem S1x2x2816 .f32) (harg19 : arg19.IsWhole) (arg20 : Memref sig .tc .vmem S8x2816 .f32) (harg20 : arg20.IsWhole) (arg21 : Memref sig .tc .vmem S512x2816 .bf16) (harg21 : arg21.IsWhole) (arg22 : Memref sig .tc .vmem S512x1024 .f32) (harg22 : arg22.IsWhole) (arg23 : Memref sig .tc .vmem S512x1024 .bf16) (harg23 : arg23.IsWhole) (hc0 : Opening i) (hc1 : ¬Later i)
    (x0 : Vec Ideal S512x1024 .f32) (x1 : Vec Ideal S512x512 .bf16) (x2 : Vec Ideal S512x512 .bf16) (x3 : Vec Ideal S512x2048 .f32) (x4 : Vec Ideal S1x6x1024 .f32) (x5 : Vec Ideal S1x2x2816 .f32) (x6 : Vec Ideal S1x1024 .f32) (x7 : Vec Ideal S1x1024 .f32) (x8 : Vec Ideal S1x1024 .f32) (x9 : Vec Ideal S1x1024 .f32) (x10 : Vec Ideal S512x1024 .bf16) (x11 : Vec Ideal S512x1024 .bf16) (x12 : Vec Ideal S1024x1024 .bf16) (x13 : Vec Ideal S1024x5632 .bf16) (x14 : Vec Ideal S3x2816 .f32) (x15 : Vec Ideal S1x2816 .f32) (x16 : Vec Ideal S2816x1024 .bf16) (d17 : Vec Ideal S512x1024 .f32) (d18 : Vec Ideal S1x2x2816 .f32) (s0 : Vec Ideal S8x2816 .f32) (y : S8x2816.Idx) (hy : 6 ≤ (y 0).val) :
    View.canon (bodyA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 x15 x16 d17 d18 s0).1 y = x5 (ix3 0 ⟨(y 0).val - 6, by have : (y 0).val < 8 := (y 0).isLt; omega⟩ (y 1)) := by
  frame_out
  have hm : y ∈ (Rect.unit (s := S8x2816) ![6, 0] S2x2816.size inb_S8x2816_S2x2816_6_0).set := by
    refine Rect.mem_set_unit.mpr fun a => ?_
    have b0 : (y 0).val < 8 := (y 0).isLt
    have b1 : (y 1).val < 2816 := (y 1).isLt
    fin_cases a
    · show 6 ≤ (y 0).val ∧ (y 0).val < 6 + 2
      omega
    · show 0 ≤ (y 1).val ∧ (y 1).val < 0 + 2816
      omega
  canon_tiles x h using ⟨_, List.mem_cons_self, hm⟩
  · obtain ⟨r, d, rfl⟩ : ∃ (r : Fin 2) (d : Fin 2816), x = ix2 r d := ⟨x 0, x 1, by funext a; fin_cases a <;> rfl⟩
    have e : k0_pay4 x5 (ix2 r d) = x5 (ix3 0 r d) := by
      unfold k0_pay4
      pointwise
    rw [e]
    exact congrArg₂ (fun a b => x5 (ix3 0 a b)) (Fin.ext (by show r.val = (y 0).val - 6; have : (y 0).val = 6 + r.val := h0; omega)) (Fin.ext h1.symm)

end Cert.MixIdeal.Cols

end
-- ==== Proof.MixState.lean ====
module

public import proofs.«01_k».proof.Proof.MixA
public import proofs.«01_k».proof.Proof.MixB

@[expose] public section

/-! What each grid point of the mixing call leaves: in its scratch buffers and in the two results' blocks. -/

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailBuf : Memref sig .tc .vmem S8x2816 .f32 := Memref.whole cc0_scratch0
abbrev ybBuf : Memref sig .tc .vmem S512x2816 .bf16 := Memref.whole cc0_scratch1
abbrev x1Buf : Memref sig .tc .vmem S512x1024 .f32 := Memref.whole cc0_scratch2
abbrev h2Buf : Memref sig .tc .vmem S512x1024 .bf16 := Memref.whole cc0_scratch3
abbrev yStage : Memref sig .tc .vmem S512x1024 .f32 := Memref.whole cc0_stg17_0
abbrev convStage : Memref sig .tc .vmem S1x2x2816 .f32 := Memref.whole cc0_stg18_0

/-- The first point's run on the buffers the pipeline hands it. -/
abbrev atA (c : Dev nD) (t : Fin cfg0.N) (h : t.val = 0) (d17 : Vec F S512x1024 .f32) (d18 : Vec F S1x2x2816 .f32) (s0 : Vec F S8x2816 .f32) :=
  bodyA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) ((opening_iff t).mpr h) (fun h' => absurd ((later_iff t).mp h') (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d17 d18 s0

/-- A later point's run, the scratch buffers entering it at `s0`, `s1` and `s2`. -/
abbrev atB (c : Dev nD) (t : Fin cfg0.N) (h : ¬t.val = 0) (s0 : Vec F S8x2816 .f32) (s1 : Vec F S512x1024 .f32) (s2 : Vec F S512x1024 .bf16) :=
  bodyB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun h' => h ((opening_iff t).mp h')) ((later_iff t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s0 s1 s2

theorem coverA1 (c : Dev nD) (t : Fin cfg0.N) (h : t.val = 0) (d17 : Vec F S512x1024 .f32) (d18 : Vec F S1x2x2816 .f32) (s0 : Vec F S8x2816 .f32) (y : S512x1024.Idx) :
    ∃ pc ∈ (atA m c t h d17 d18 s0).2.1, y ∈ pc.1.set :=
  View.cover_of_tiledL (atA m c t h d17 d18 s0).2.1 S256x1024.size (by sl_kernel_rfl) y

theorem coverA2 (c : Dev nD) (t : Fin cfg0.N) (h : t.val = 0) (d17 : Vec F S512x1024 .f32) (d18 : Vec F S1x2x2816 .f32) (s0 : Vec F S8x2816 .f32) (y : S512x1024.Idx) :
    ∃ pc ∈ (atA m c t h d17 d18 s0).2.2.1, y ∈ pc.1.set :=
  View.cover_of_tiledL (atA m c t h d17 d18 s0).2.2.1 S512x1024.size (by sl_kernel_rfl) y

/-- The first point writes the last two rows of the carried block. -/
theorem coverA0 (c : Dev nD) (t : Fin cfg0.N) (h : t.val = 0) (d17 : Vec F S512x1024 .f32) (d18 : Vec F S1x2x2816 .f32) (s0 : Vec F S8x2816 .f32) (y : S8x2816.Idx) (hy : 6 ≤ (y 0).val) :
    ∃ pc ∈ (atA m c t h d17 d18 s0).1, y ∈ pc.1.set := by
  suffices hm : y ∈ (Rect.unit (s := S8x2816) ![6, 0] S2x2816.size inb_S8x2816_S2x2816_6_0).set from ⟨_, List.mem_cons_self, hm⟩
  refine Rect.mem_set_unit.mpr fun a => ?_
  have b0 : (y 0).val < 8 := (y 0).isLt
  have b1 : (y 1).val < 2816 := (y 1).isLt
  fin_cases a
  · show 6 ≤ (y 0).val ∧ (y 0).val < 6 + 2
    omega
  · show 0 ≤ (y 1).val ∧ (y 1).val < 0 + 2816
    omega

theorem coverBY (c : Dev nD) (t : Fin cfg0.N) (h : ¬t.val = 0) (s0 : Vec F S8x2816 .f32) (s1 : Vec F S512x1024 .f32) (s2 : Vec F S512x1024 .bf16) (y : S512x1024.Idx) :
    ∃ pc ∈ (atB m c t h s0 s1 s2).1, y ∈ pc.1.set :=
  View.cover_of_tiledL (atB m c t h s0 s1 s2).1 S256x1024.size (by sl_kernel_rfl) y

theorem coverBC (c : Dev nD) (t : Fin cfg0.N) (h : ¬t.val = 0) (s0 : Vec F S8x2816 .f32) (s1 : Vec F S512x1024 .f32) (s2 : Vec F S512x1024 .bf16) (y : S1x2x2816.Idx) :
    ∃ pc ∈ (atB m c t h s0 s1 s2).2.1, y ∈ pc.1.set :=
  View.cover_of_tiledL (atB m c t h s0 s1 s2).2.1 S1x2x256.size (by sl_kernel_rfl) y

theorem coverB0 (c : Dev nD) (t : Fin cfg0.N) (h : ¬t.val = 0) (s0 : Vec F S8x2816 .f32) (s1 : Vec F S512x1024 .f32) (s2 : Vec F S512x1024 .bf16) (y : S8x2816.Idx) :
    ∃ pc ∈ (atB m c t h s0 s1 s2).2.2.1, y ∈ pc.1.set :=
  View.cover_of_tiledL (atB m c t h s0 s1 s2).2.2.1 S8x256.size (by sl_kernel_rfl) y

theorem coverB1 (c : Dev nD) (t : Fin cfg0.N) (h : ¬t.val = 0) (s0 : Vec F S8x2816 .f32) (s1 : Vec F S512x1024 .f32) (s2 : Vec F S512x1024 .bf16) (y : S512x1024.Idx) :
    ∃ pc ∈ (atB m c t h s0 s1 s2).2.2.2.2.1, y ∈ pc.1.set :=
  View.cover_of_tiledL (atB m c t h s0 s1 s2).2.2.2.2.1 S256x1024.size (by sl_kernel_rfl) y

theorem coverB2 (c : Dev nD) (t : Fin cfg0.N) (h : ¬t.val = 0) (s0 : Vec F S8x2816 .f32) (s1 : Vec F S512x1024 .f32) (s2 : Vec F S512x1024 .bf16) (y : S512x1024.Idx) :
    ∃ pc ∈ (atB m c t h s0 s1 s2).2.2.2.2.2.1, y ∈ pc.1.set :=
  View.cover_of_tiledL (atB m c t h s0 s1 s2).2.2.2.2.2.1 S512x1024.size (by sl_kernel_rfl) y

/-- Contents nothing depends on. -/
abbrev any (s : Shape) (e : EltTy) : Vec F s e := fun _ => Classical.arbitrary _

/-- The mixed and normalised rows that point `t` leaves for the next. -/
def x1At (c : Dev nD) (t : Fin cfg0.N) : Vec F S512x1024 .f32 :=
  x1Buf.view.read (Elt F) (x1Buf.view.writes (Elt F) x1Buf.view.junk
    (if h : t.val = 0 then (atA m c t h (any _ _) (any _ _) (any _ _)).2.1 else (atB m c t h (any _ _) (any _ _) (any _ _)).2.2.2.2.1))

/-- The feed-forward's input rows that point `t` leaves for the next. -/
def h2At (c : Dev nD) (t : Fin cfg0.N) : Vec F S512x1024 .bf16 :=
  h2Buf.view.read (Elt F) (h2Buf.view.writes (Elt F) h2Buf.view.junk
    (if h : t.val = 0 then (atA m c t h (any _ _) (any _ _) (any _ _)).2.2.1 else (atB m c t h (any _ _) (any _ _) (any _ _)).2.2.2.2.2.1))

/-- The point before. -/
abbrev pred (t : Fin cfg0.N) : Fin cfg0.N := ⟨t.val - 1, Nat.lt_of_le_of_lt (Nat.sub_le _ _) t.isLt⟩

/-- The carried block after point `t`, of which the last two rows are read. -/
def tailAt (c : Dev nD) (t : Fin cfg0.N) : Vec F S8x2816 .f32 :=
  tailBuf.view.read (Elt F) (tailBuf.view.writes (Elt F) tailBuf.view.junk
    (if h : t.val = 0 then (atA m c t h (any _ _) (any _ _) (any _ _)).1 else (atB m c t h (any _ _) (any _ _) (h2At m c (pred t))).2.2.1))

/-- The block of rows that point `t` writes. -/
def yAt (c : Dev nD) (t : Fin cfg0.N) : Vec F S512x1024 .f32 :=
  yStage.view.read (Elt F) (yStage.view.writes (Elt F) yStage.view.junk
    (if h : t.val = 0 then [] else (atB m c t h (tailAt m c (pred t)) (x1At m c (pred t)) (h2At m c (pred t))).1))

/-- The convolution's last rows as point `t` leaves them. -/
def convAt (c : Dev nD) (t : Fin cfg0.N) : Vec F S1x2x2816 .f32 :=
  convStage.view.read (Elt F) (convStage.view.writes (Elt F) convStage.view.junk
    (if h : t.val = 0 then [] else (atB m c t h (any _ _) (any _ _) (h2At m c (pred t))).2.1))

/-- What a later point leaves for the next, and the convolution's rows, do not depend on what it does not read. -/
theorem kept_indep (c : Dev nD) (t : Fin cfg0.N) (h : ¬t.val = 0) (s0 s0' : Vec F S8x2816 .f32) (s1 s1' : Vec F S512x1024 .f32) (s2 s2' : Vec F S512x1024 .bf16) :
    (atB m c t h s0 s1 s2).2.2.2.2.1 = (atB m c t h s0' s1' s2').2.2.2.2.1
      ∧ (atB m c t h s0 s1 s2).2.2.2.2.2.1 = (atB m c t h s0' s1' s2').2.2.2.2.2.1
      ∧ (atB m c t h s0 s1 s2).2.1 = (atB m c t h s0' s1' s2).2.1
      ∧ (atB m c t h s0 s1 s2).2.2.1 = (atB m c t h s0' s1' s2).2.2.1 := by
  unfold atB bodyB
  simp only [and_self]

/-- A point's rows depend on the last two rows of the carried block only. -/
theorem rows_congr (c : Dev nD) (t : Fin cfg0.N) (h : ¬t.val = 0) (s0 s0' : Vec F S8x2816 .f32) (s1 : Vec F S512x1024 .f32) (s2 : Vec F S512x1024 .bf16)
    (hs : ∀ y : S8x2816.Idx, 6 ≤ (y 0).val → s0 y = s0' y) :
    (atB m c t h s0 s1 s2).1 = (atB m c t h s0' s1 s2).1 := by
  have key : ∀ (r k : ℕ) (hr : 6 ≤ r) (inb : ∀ a, (![r, k] : Fin 2 → ℕ) a + S1x256.size a ≤ S8x2816.size a),
      View.readAt (Elt F) tailBuf.view (Rect.unit (s := S8x2816) ![r, k] S1x256.size inb).toLoadRect ((Memref.isWhole_whole cc0_scratch0).unread s0)
        = View.readAt (Elt F) tailBuf.view (Rect.unit (s := S8x2816) ![r, k] S1x256.size inb).toLoadRect ((Memref.isWhole_whole cc0_scratch0).unread s0') := by
    intro r k hr inb
    funext x
    refine (congrFun ((Memref.isWhole_whole cc0_scratch0).read_unread s0) _).trans
      ((hs _ ?_).trans (congrFun ((Memref.isWhole_whole cc0_scratch0).read_unread s0') _).symm)
    show 6 ≤ r + 1 * (x 0).val
    omega
  unfold atB bodyB
  simp only [key 6 _ (by omega), key 7 _ (by omega), bodyB.sl.H20_11, bodyB.sl.r_19, bodyB.sl.r_20, bodyB.sl.r_25, bodyB.sl.r_27, bodyB.sl.r_34, bodyB.sl.r_36, bodyB.sl.r_37, bodyB.sl.r_40, bodyB.sl.r_41, bodyB.sl.r_46, bodyB.sl.r_47, bodyB.sl.r_56, bodyB.sl.r_57, bodyB.sl.r_61, bodyB.sl.r_63, bodyB.sl.r_67, bodyB.sl.r_68, bodyB.sl.r_74, bodyB.sl.r_79, bodyB.sl.r_81, bodyB.sl.r_84, bodyB.sl.r_85, bodyB.sl.r_87, bodyB.sl.r_88, bodyB.sl.r_89, bodyB.sl.r_92, bodyB.sl.r_93, bodyB.sl.v234, bodyB.sl.v235, bodyB.sl.v300, bodyB.sl.v301, bodyB.sl.v366, bodyB.sl.v367, bodyB.sl.v432, bodyB.sl.v433, bodyB.sl.v498, bodyB.sl.v499, bodyB.sl.v564, bodyB.sl.v565, bodyB.sl.v630, bodyB.sl.v631, bodyB.sl.v696, bodyB.sl.v697, bodyB.sl.v762, bodyB.sl.v763, bodyB.sl.v828, bodyB.sl.v829, bodyB.sl.v886, bodyB.sl.v890]

theorem x1At_later (c : Dev nD) (t : Fin cfg0.N) (h : ¬t.val = 0) (s0 : Vec F S8x2816 .f32) (s1 : Vec F S512x1024 .f32) (s2 : Vec F S512x1024 .bf16) :
    x1At m c t = x1Buf.view.read (Elt F) (x1Buf.view.writes (Elt F) x1Buf.view.junk (atB m c t h s0 s1 s2).2.2.2.2.1) := by
  unfold x1At
  refine congrArg (fun L => x1Buf.view.read (Elt F) (x1Buf.view.writes (Elt F) x1Buf.view.junk L)) ?_
  refine (dif_neg h).trans ?_
  exact (kept_indep m c t h (any _ _) s0 (any _ _) s1 (any _ _) s2).1

theorem h2At_later (c : Dev nD) (t : Fin cfg0.N) (h : ¬t.val = 0) (s0 : Vec F S8x2816 .f32) (s1 : Vec F S512x1024 .f32) (s2 : Vec F S512x1024 .bf16) :
    h2At m c t = h2Buf.view.read (Elt F) (h2Buf.view.writes (Elt F) h2Buf.view.junk (atB m c t h s0 s1 s2).2.2.2.2.2.1) := by
  unfold h2At
  refine congrArg (fun L => h2Buf.view.read (Elt F) (h2Buf.view.writes (Elt F) h2Buf.view.junk L)) ?_
  refine (dif_neg h).trans ?_
  exact (kept_indep m c t h (any _ _) s0 (any _ _) s1 (any _ _) s2).2.1

theorem convAt_later (c : Dev nD) (t : Fin cfg0.N) (h : ¬t.val = 0) (s0 : Vec F S8x2816 .f32) (s1 : Vec F S512x1024 .f32)  :
    convAt m c t = convStage.view.read (Elt F) (convStage.view.writes (Elt F) convStage.view.junk (atB m c t h s0 s1 (h2At m c (pred t))).2.1) := by
  unfold convAt
  refine congrArg (fun L => convStage.view.read (Elt F) (convStage.view.writes (Elt F) convStage.view.junk L)) ?_
  refine (dif_neg h).trans ?_
  exact (kept_indep m c t h (any _ _) s0 (any _ _) s1 (h2At m c (pred t)) (h2At m c (pred t))).2.2.1

theorem tailAt_later (c : Dev nD) (t : Fin cfg0.N) (h : ¬t.val = 0) (s0 : Vec F S8x2816 .f32) (s1 : Vec F S512x1024 .f32)  :
    tailAt m c t = tailBuf.view.read (Elt F) (tailBuf.view.writes (Elt F) tailBuf.view.junk (atB m c t h s0 s1 (h2At m c (pred t))).2.2.1) := by
  unfold tailAt
  refine congrArg (fun L => tailBuf.view.read (Elt F) (tailBuf.view.writes (Elt F) tailBuf.view.junk L)) ?_
  refine (dif_neg h).trans ?_
  exact (kept_indep m c t h (any _ _) s0 (any _ _) s1 (h2At m c (pred t)) (h2At m c (pred t))).2.2.2

theorem yAt_later (c : Dev nD) (t : Fin cfg0.N) (h : ¬t.val = 0) (s0 : Vec F S8x2816 .f32) (hs : ∀ y : S8x2816.Idx, 6 ≤ (y 0).val → s0 y = tailAt m c (pred t) y) :
    yAt m c t = yStage.view.read (Elt F) (yStage.view.writes (Elt F) yStage.view.junk (atB m c t h s0 (x1At m c (pred t)) (h2At m c (pred t))).1) := by
  unfold yAt
  refine congrArg (fun L => yStage.view.read (Elt F) (yStage.view.writes (Elt F) yStage.view.junk L)) ?_
  refine (dif_neg h).trans ?_
  exact (rows_congr m c t h s0 (tailAt m c (pred t)) _ _ hs).symm

end Cert.MixIdeal.Run

end
-- ==== Proof.MixFrame.lean ====
module

public import proofs.«01_k».proof.Proof.MixState

@[expose] public section

/-! The mixing call's run over its grid: the contents of its buffers at every point, and where its arrays end. -/

set_option maxRecDepth 16384

noncomputable section

namespace Cert.MixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.MixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold after point `t`. -/
def kept (c : Dev nD) (t : Fin cfg0.N) : sProp 𝕄 :=
  iprop(((∃ d, ⌜∀ y : S8x2816.Idx, 6 ≤ (y 0).val → d y = tailAt m c t y⌝ ∗ owns (c : Thread nD τ) tailBuf fullShare d)
    ∗ (∃ d, owns (c : Thread nD τ) ybBuf fullShare d) ∗ owns (c : Thread nD τ) x1Buf fullShare (x1At m c t)
    ∗ owns (c : Thread nD τ) h2Buf fullShare (h2At m c t)) ∗ (∃ r, prngReg c r))

/-- What they hold between points. -/
def inv (c : Dev nD) : (n : ℕ) → n ≤ cfg0.N → sProp 𝕄
  | 0, _ => Pipeline.ΦA spec0 c
  | n + 1, hn => kept m c ⟨n, hn⟩

theorem inv_pos (c : Dev nD) (t : Fin cfg0.N) (h : ¬t.val = 0) : inv m c t.val t.isLt.le = kept m c (pred t) := by
  obtain ⟨n, hn⟩ := t
  cases n with
  | zero => exact absurd rfl h
  | succ n => rfl

theorem start_eq (c : Dev nD) :
    (Pipeline.ΦA spec0 c : sProp 𝕄)
      = iprop(((∃ d, owns (c : Thread nD τ) tailBuf fullShare d) ∗ (∃ d, owns (c : Thread nD τ) ybBuf fullShare d)
        ∗ (∃ d, owns (c : Thread nD τ) x1Buf fullShare d) ∗ (∃ d, owns (c : Thread nD τ) h2Buf fullShare d)) ∗ (∃ r, prngReg c r)) := by
  unfold Pipeline.ΦA; rw [scopedRest0_eq]; simp only [tailBuf, ybBuf, x1Buf, h2Buf, owns_whole]; try rfl

/-- Each window's buffer after each point, over the arrays the call finds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => yAt m c t
    | ⟨18, _⟩ => convAt m c t
    | ⟨_ + 19, h⟩ => absurd h (Nat.not_lt.2 (Nat.le_add_left _ _))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = yAt m c t := by dsimp only [dats]
theorem after_18 (c : Dev nD) (t : Fin cfg0.N) : (dats m 0 c).after 18 t = convAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (win0_11.stage (cfg0.slots t 11)) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (win0_12.stage (cfg0.slots t 12)) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (win0_13.stage (cfg0.slots t 13)) fullShare (iblk m c 13 t) := by
  unfold Dat.leavesExact; rw [show cfg0.idle 13 (grid0.coords t) = false from rfl, after_13]
theorem leaves_14 (c : Dev nD) (t : Fin cfg0.N) : (dats m 0 c).leavesExact 14 t = owns (c : Thread nD τ) (win0_14.stage (cfg0.slots t 14)) fullShare (iblk m c 14 t) := by
  unfold Dat.leavesExact; rw [show cfg0.idle 14 (grid0.coords t) = false from rfl, after_14]
theorem leaves_15 (c : Dev nD) (t : Fin cfg0.N) : (dats m 0 c).leavesExact 15 t = owns (c : Thread nD τ) (win0_15.stage (cfg0.slots t 15)) fullShare (iblk m c 15 t) := by
  unfold Dat.leavesExact; rw [show cfg0.idle 15 (grid0.coords t) = false from rfl, after_15]
theorem leaves_16 (c : Dev nD) (t : Fin cfg0.N) : (dats m 0 c).leavesExact 16 t = owns (c : Thread nD τ) (win0_16.stage (cfg0.slots t 16)) fullShare (iblk m c 16 t) := by
  unfold Dat.leavesExact; rw [show cfg0.idle 16 (grid0.coords t) = false from rfl, after_16]

/-- What the pipeline hands the body. -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d)))

/-- What the body hands back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

theorem idle_first : ∀ t : Fin cfg0.N, t.val = 0 → cfg0.idle 17 (grid0.coords t) = true ∧ cfg0.idle 18 (grid0.coords t) = true
    ∧ (cfg0.win 17).flush t = false ∧ (cfg0.win 18).flush t = false := by decide +kernel

theorem live_later : ∀ t : Fin cfg0.N, ¬t.val = 0 → cfg0.idle 17 (grid0.coords t) = false ∧ cfg0.idle 18 (grid0.coords t) = false := by
  decide +kernel

set_option maxHeartbeats 12800000 in
theorem body_first (c : Dev nD) (t : Fin cfg0.N) (h : t.val = 0) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl,
    show (dats m 0 c).Φ t.succ = kept m c t from rfl,
    show (dats m 0 c).Φ t.castSucc = Pipeline.ΦA spec0 c from by
      rw [show (dats m 0 c).Φ t.castSucc = inv m c t.val t.isLt.le from rfl]
      obtain ⟨n, hn⟩ := t
      obtain rfl : n = 0 := h
      rfl,
    start_eq, Dat.leavesExact_idle (dats m 0 c) 17 t (idle_first t h).1 (idle_first t h).2.2.1,
    Dat.leavesExact_idle (dats m 0 c) 18 t (idle_first t h).2.1 (idle_first t h).2.2.2]
  unfold kept
  iintro ⟨⟨⟨⟨%e0, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((atA m c t h _ _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, ⟨%f0, HS0⟩, HS1, ⟨%f2, HS2⟩, ⟨%f3, HS3⟩⟩
  isplitl [HS0 HS1 HS2 HS3 Hg]
  · isplitl [HS0 HS1 HS2 HS3]
    · isplitl [HS0]
      · iexists (tailBuf.view.read (Elt F) (tailBuf.view.writes (Elt F) f0 (atA m c t h (any _ _) (any _ _) (any _ _)).1))
        isplitr
        · ipureintro
          intro y hy
          unfold tailAt
          rw [dif_pos h]
          exact View.read_writes_apply_eq _ _ _ _ y _ (coverA0 m c t h _ _ _ y hy)
        · unfold owns; iexists _; isplitr
          swap; · iexact HS0
          ipureintro; rfl
      isplitl [HS1]; · iexact HS1
      isplitl [HS2]
      · unfold owns; iexists _; isplitr
        swap; · iexact HS2
        ipureintro; unfold x1At; rw [dif_pos h]; exact View.read_writes_of_cover _ _ _ _ _ (coverA1 m c t h _ _ _)
      unfold owns; iexists _; isplitr
      swap; · iexact HS3
      ipureintro; unfold h2At; rw [dif_pos h]; exact View.read_writes_of_cover _ _ _ _ _ (coverA2 m c t h _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iexists _; iexact H18

set_option maxHeartbeats 3000000 in
theorem body_later (c : Dev nD) (t : Fin cfg0.N) (h : ¬t.val = 0) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl,
    show (dats m 0 c).Φ t.succ = kept m c t from rfl,
    show (dats m 0 c).Φ t.castSucc = kept m c (pred t) from inv_pos m c t h,
    show (dats m 0 c).leavesExact 17 t = owns (c : Thread nD τ) (win0_17.stage (cfg0.slots t 17)) fullShare (yAt m c t) from by
      unfold Dat.leavesExact; rw [(live_later t h).1, after_17],
    show (dats m 0 c).leavesExact 18 t = owns (c : Thread nD τ) (win0_18.stage (cfg0.slots t 18)) fullShare (convAt m c t) from by
      unfold Dat.leavesExact; rw [(live_later t h).2, after_18]]
  unfold kept
  iintro ⟨⟨⟨⟨%e0, %he0, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((atB m c t h e0 (x1At m c (pred t)) (h2At m c (pred t))).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, ⟨%f17, H17⟩, ⟨%f18, H18⟩, ⟨%f0, HS0⟩, ⟨%f1, HS1⟩, ⟨%f2, HS2⟩, ⟨%f3, HS3⟩⟩
  isplitl [HS0 HS1 HS2 HS3 Hg]
  · isplitl [HS0 HS1 HS2 HS3]
    · isplitl [HS0]
      · iexists (tailAt m c t)
        isplitr
        · ipureintro
          intro y hy
          rfl
        · unfold owns; iexists _; isplitr
          swap; · iexact HS0
          ipureintro; exact (View.read_writes_of_cover _ _ _ _ _ (coverB0 m c t h e0 (x1At m c (pred t)) (h2At m c (pred t)))).trans (tailAt_later m c t h e0 (x1At m c (pred t))).symm
      isplitl [HS1]
      · unfold owns; iexists _; iexists _; isplitr
        swap; · iexact HS1
        ipureintro; rfl
      isplitl [HS2]
      · unfold owns; iexists _; isplitr
        swap; · iexact HS2
        ipureintro; exact (View.read_writes_of_cover _ _ _ _ _ (coverB1 m c t h e0 (x1At m c (pred t)) (h2At m c (pred t)))).trans (x1At_later m c t h e0 (x1At m c (pred t)) (h2At m c (pred t))).symm
      unfold owns; iexists _; isplitr
      swap; · iexact HS3
      ipureintro; exact (View.read_writes_of_cover _ _ _ _ _ (coverB2 m c t h e0 (x1At m c (pred t)) (h2At m c (pred t)))).trans (h2At_later m c t h e0 (x1At m c (pred t)) (h2At m c (pred t))).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · unfold owns; iexists _; isplitr
    swap; · iexact H17
    ipureintro; exact (View.read_writes_of_cover _ _ _ _ _ (coverBY m c t h e0 (x1At m c (pred t)) (h2At m c (pred t)))).trans (yAt_later m c t h e0 he0).symm
  unfold owns; iexists _; isplitr
  swap; · iexact H18
  ipureintro; exact (View.read_writes_of_cover _ _ _ _ _ (coverBC m c t h e0 (x1At m c (pred t)) (h2At m c (pred t)))).trans (convAt_later m c t h e0 (x1At m c (pred t))).symm

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  refine triple_restated (P := given m c t) (Q := fun _ => returned m c t) ?_ rfl .rfl fun _ => .rfl
  by_cases h : t.val = 0
  · exact body_first m c t h
  · exact body_later m c t h

theorem enters (c : Dev nD) : Pipeline.ΦA spec0 c ⊢ (dats m 0 c).Φ 0 := by
  rw [show (dats m 0 c).Φ 0 = Pipeline.ΦA spec0 c from rfl]

theorem leaves (c : Dev nD) : (dats m 0 c).Φ (Fin.last cfg0.N) ⊢ Pipeline.ΦA spec0 c := by
  rw [show (dats m 0 c).Φ (Fin.last cfg0.N) = kept m c ⟨32, by rw [show cfg0.N = 33 from N_0]; decide⟩ from rfl, start_eq]
  unfold kept
  iintro ⟨⟨⟨%e0, %he0, HS0⟩, HS1, HS2, HS3⟩, Hg⟩
  isplitl [HS0 HS1 HS2 HS3]
  · isplitl [HS0]; · iexists _; iexact HS0
    isplitl [HS1]; · iexact HS1
    isplitl [HS2]; · iexists _; iexact HS2
    iexists _; iexact HS3
  iexact Hg

set_option backward.isDefEq.respectTransparency.types false in
/-- The call's run: every array ends where the points' blocks put it, and every counter at zero. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := A_eq m) (hin := enters m) (hout := leaves m)

end Cert.MixIdeal.Run

end
-- ==== Proof.MixSpec.lean ====
/-
  The mixing half of the layer, one number at a time, over its operands: what the call and the reference both compute.
-/
module

public import proofs.«01_k».proof.Proof.Row

@[expose] public section

noncomputable section

namespace Cert.Spec

open Idealize.ShloMosaic

/-- The operands: the rows, the two branches' outputs, the gates, the modulation, the two rows before the first, the weights. -/
structure Ops where
  x : Fin 16384 → Fin 1024 → EReal
  att : Fin 16384 → Fin 512 → EReal
  rw : Fin 16384 → Fin 512 → EReal
  gt : Fin 16384 → Fin 2048 → EReal
  md : Fin 6 → Fin 1024 → EReal
  buf : Fin 2 → Fin 2816 → EReal
  wa : Fin 512 → Fin 1024 → EReal
  wr : Fin 512 → Fin 1024 → EReal
  wo : Fin 1024 → Fin 1024 → EReal
  g1 : Fin 1024 → EReal
  b1 : Fin 1024 → EReal
  g2 : Fin 1024 → EReal
  b2 : Fin 1024 → EReal
  wup : Fin 1024 → Fin 5632 → EReal
  cw : Fin 3 → Fin 2816 → EReal
  cb : Fin 2816 → EReal
  wdn : Fin 2816 → Fin 1024 → EReal

/-- The residual's factor, the fourth root of two as the programs hold it. -/
abbrev alpha : EReal := Ideal.ofBits .f32 0x3F9837F0#32

variable (o : Ops)

/-- The merged branches. -/
def merge (R : Fin 16384) (k : Fin 1024) : EReal :=
  o.gt R ⟨k.val, by omega⟩ * (∑ l : Fin 512, o.att R l * o.wa l k) + o.gt R ⟨1024 + k.val, by omega⟩ * (∑ l : Fin 512, o.rw R l * o.wr l k)

/-- The rows after the first layer norm. -/
def x1 (R : Fin 16384) (d : Fin 1024) : EReal :=
  Row.norm (fun j => alpha * o.x R j + (1 + o.md 2 j) * (∑ k : Fin 1024, merge o R k * o.wo k j)) o.g1 o.b1 d

/-- The feed-forward's input. -/
def h2 (R : Fin 16384) (d : Fin 1024) : EReal := x1 o R d * (1 + o.md 4 d) + o.md 3 d

/-- The up projection's halves. -/
def uc (R : Fin 16384) (f : Fin 2816) : EReal := ∑ k : Fin 1024, h2 o R k * o.wup k ⟨f.val, by omega⟩
def uv (R : Fin 16384) (f : Fin 2816) : EReal := ∑ k : Fin 1024, h2 o R k * o.wup k ⟨2816 + f.val, by omega⟩

/-- What enters the down projection. -/
def mid (R : Fin 16384) (f : Fin 2816) : EReal :=
  Row.act (o.cb f) (o.cw 0 f) (o.cw 1 f) (o.cw 2 f)
    (if R.val = 0 then o.buf 0 f else if R.val = 1 then o.buf 1 f else uc o ⟨R.val - 2, by omega⟩ f)
    (if R.val = 0 then o.buf 1 f else uc o ⟨R.val - 1, by omega⟩ f) (uc o R f) (uv o R f)

/-- The rows after the second layer norm. -/
def y (R : Fin 16384) (d : Fin 1024) : EReal :=
  Row.norm (fun j => alpha * x1 o R j + (1 + o.md 5 j) * (∑ f : Fin 2816, mid o R f * o.wdn f j)) o.g2 o.b2 d

end Cert.Spec

end
-- ==== Proof.MixArr.lean ====
/-
  The mixing call's result arrays: what each grid point's buffers hold, in terms of the call's arguments, and where the two
  results end.
-/
module

public import proofs.«01_k».proof.Proof.MixBack
public import proofs.«01_k».proof.Proof.MixFrame
public import proofs.«01_k».proof.Proof.MixSpec

@[expose] public section

set_option maxRecDepth 16384

noncomputable section

namespace Cert.MixIdeal.Arr

open Cert.MixIdeal Cert.MixIdeal.Gen Cert.MixIdeal.Run Idealize.ShloMosaic Idealize.ShloMosaic.TcCoe
open Cert.MixIdeal.Layers Cert.MixIdeal.Front Cert.MixIdeal.Cols Idealize.ShloMosaic.Pipeline

variable (m : (ℓ : Loc nD τ sig) → Buf (Elt Ideal) ℓ) (c : Dev nD)

/-- The windows' places at every grid point. -/
theorem idx : ∀ t : Fin cfg0.N, win0_0.index t = ![min t.val 31, 0] ∧ win0_1.index t = ![min t.val 31, 0] ∧ win0_2.index t = ![min t.val 31, 0]
    ∧ win0_3.index t = ![min t.val 31, 0] ∧ win0_4.index t = ![0, 0, 0] ∧ win0_5.index t = ![0, 0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0] ∧ win0_16.index t = ![0, 0]
    ∧ win0_17.index t = ![t.val - 1, 0] ∧ win0_18.index t = ![0, 0, 0] :=
  (by decide +kernel : ∀ t : Fin grid0.N, _)

theorem lt33 (t : Fin cfg0.N) : t.val < 33 := lt_of_lt_of_eq t.isLt N_0

/-- The arguments, at launch. -/
abbrev a0 : S1x16384x1024.Idx → EReal := m ((c : Thread nD τ).loc main_arg0)
abbrev a1 : S1x16384x8x64.Idx → EReal := m ((c : Thread nD τ).loc main_arg1)
abbrev a2 : S1x16384x512.Idx → EReal := m ((c : Thread nD τ).loc main_arg2)
abbrev a3 : S1x16384x2048.Idx → EReal := m ((c : Thread nD τ).loc main_arg3)
abbrev a4 : S1x6144.Idx → EReal := m ((c : Thread nD τ).loc main_arg4)
abbrev a5 : S1x2x2816.Idx → EReal := m ((c : Thread nD τ).loc main_arg5)
abbrev a6 : S512x1024.Idx → EReal := m ((c : Thread nD τ).loc main_arg6)
abbrev a7 : S512x1024.Idx → EReal := m ((c : Thread nD τ).loc main_arg7)
abbrev a8 : S1024x1024.Idx → EReal := m ((c : Thread nD τ).loc main_arg8)
abbrev a9 : S1024.Idx → EReal := m ((c : Thread nD τ).loc main_arg9)
abbrev a10 : S1024.Idx → EReal := m ((c : Thread nD τ).loc main_arg10)
abbrev a11 : S1024.Idx → EReal := m ((c : Thread nD τ).loc main_arg11)
abbrev a12 : S1024.Idx → EReal := m ((c : Thread nD τ).loc main_arg12)
abbrev a13 : S1024x5632.Idx → EReal := m ((c : Thread nD τ).loc main_arg13)
abbrev a14 : S3x2816.Idx → EReal := m ((c : Thread nD τ).loc main_arg14)
abbrev a15 : S2816.Idx → EReal := m ((c : Thread nD τ).loc main_arg15)
abbrev a16 : S2816x1024.Idx → EReal := m ((c : Thread nD τ).loc main_arg16)

/-- The operands that the arguments give. -/
def ops : Spec.Ops where
  x R d := a0 m c (ix3 0 R d)
  att R l := a1 m c (ix4 0 R ⟨l.val / 64, by omega⟩ ⟨l.val % 64, by omega⟩)
  rw R l := a2 m c (ix3 0 R l)
  gt R l := a3 m c (ix3 0 R l)
  md p d := a4 m c (ix2 0 ⟨1024 * p.val + d.val, by omega⟩)
  buf r f := a5 m c (ix3 0 r f)
  wa k d := a6 m c (ix2 k d)
  wr k d := a7 m c (ix2 k d)
  wo k d := a8 m c (ix2 k d)
  g1 d := a9 m c (ix1 d)
  b1 d := a10 m c (ix1 d)
  g2 d := a11 m c (ix1 d)
  b2 d := a12 m c (ix1 d)
  wup k f := a13 m c (ix2 k f)
  cw r f := a14 m c (ix2 r f)
  cb f := a15 m c (ix1 f)
  wdn f d := a16 m c (ix2 f d)

/-- The windows' blocks at a grid point. -/
abbrev b0 (t : Fin cfg0.N) : Vec Ideal S512x1024 .f32 := iblk m c 0 t
abbrev b1 (t : Fin cfg0.N) : Vec Ideal S512x512 .bf16 := iblk m c 1 t
abbrev b2 (t : Fin cfg0.N) : Vec Ideal S512x512 .bf16 := iblk m c 2 t
abbrev b3 (t : Fin cfg0.N) : Vec Ideal S512x2048 .f32 := iblk m c 3 t
abbrev b4 (t : Fin cfg0.N) : Vec Ideal S1x6x1024 .f32 := iblk m c 4 t
abbrev b5 (t : Fin cfg0.N) : Vec Ideal S1x2x2816 .f32 := iblk m c 5 t
abbrev b6 (t : Fin cfg0.N) : Vec Ideal S1x1024 .f32 := iblk m c 6 t
abbrev b7 (t : Fin cfg0.N) : Vec Ideal S1x1024 .f32 := iblk m c 7 t
abbrev b8 (t : Fin cfg0.N) : Vec Ideal S1x1024 .f32 := iblk m c 8 t
abbrev b9 (t : Fin cfg0.N) : Vec Ideal S1x1024 .f32 := iblk m c 9 t
abbrev b10 (t : Fin cfg0.N) : Vec Ideal S512x1024 .bf16 := iblk m c 10 t
abbrev b11 (t : Fin cfg0.N) : Vec Ideal S512x1024 .bf16 := iblk m c 11 t
abbrev b12 (t : Fin cfg0.N) : Vec Ideal S1024x1024 .bf16 := iblk m c 12 t
abbrev b13 (t : Fin cfg0.N) : Vec Ideal S1024x5632 .bf16 := iblk m c 13 t
abbrev b14 (t : Fin cfg0.N) : Vec Ideal S3x2816 .f32 := iblk m c 14 t
abbrev b15 (t : Fin cfg0.N) : Vec Ideal S1x2816 .f32 := iblk m c 15 t
abbrev b16 (t : Fin cfg0.N) : Vec Ideal S2816x1024 .bf16 := iblk m c 16 t

/-- The row of the arrays that row `r` of a block entering point `t` is. -/
abbrev row (t : Fin cfg0.N) (r : Fin 512) : Fin 16384 := ⟨512 * min t.val 31 + r.val, by omega⟩

/-- What the host operations before the call leave in its operands. -/
theorem op10 (R : Fin 16384) (d : Fin 1024) : V m c main_v10 (ix2 R d) = (ops m c).x R d := by
  show _ = a0 m c (ix3 0 R d)
  entry_read
  pointwise

theorem op12 (R : Fin 16384) (l : Fin 512) : V m c main_v12 (ix2 R l) = (ops m c).att R l := by
  show _ = a1 m c (ix4 0 R ⟨l.val / 64, by omega⟩ ⟨l.val % 64, by omega⟩)
  entry_read
  pointwise

theorem op14 (R : Fin 16384) (l : Fin 512) : V m c main_v14 (ix2 R l) = (ops m c).rw R l := by
  show _ = a2 m c (ix3 0 R l)
  entry_read
  pointwise

theorem op15 (R : Fin 16384) (l : Fin 2048) : V m c main_v15 (ix2 R l) = (ops m c).gt R l := by
  show _ = a3 m c (ix3 0 R l)
  entry_read
  pointwise

theorem op16 (p : Fin 6) (d : Fin 1024) : V m c main_v16 (ix3 0 p d) = (ops m c).md p d := by
  show _ = a4 m c (ix2 0 ⟨1024 * p.val + d.val, by omega⟩)
  entry_read
  pointwise
  exact congrArg (fun z => a4 m c (ix2 0 z)) (Fin.ext (by show p.val * 1024 + d.val = 1024 * p.val + d.val; omega))

theorem op0 (d : Fin 1024) : V m c main_v0 (ix2 0 d) = (ops m c).g1 d := by
  show _ = a9 m c (ix1 d)
  entry_read
  pointwise

theorem op1 (d : Fin 1024) : V m c main_v1 (ix2 0 d) = (ops m c).b1 d := by
  show _ = a10 m c (ix1 d)
  entry_read
  pointwise

theorem op2 (d : Fin 1024) : V m c main_v2 (ix2 0 d) = (ops m c).g2 d := by
  show _ = a11 m c (ix1 d)
  entry_read
  pointwise

theorem op3 (d : Fin 1024) : V m c main_v3 (ix2 0 d) = (ops m c).b2 d := by
  show _ = a12 m c (ix1 d)
  entry_read
  pointwise

theorem op4 (k : Fin 512) (d : Fin 1024) : V m c main_v4 (ix2 k d) = (ops m c).wa k d := by
  show _ = a6 m c (ix2 k d)
  entry_read
  pointwise

theorem op5 (k : Fin 512) (d : Fin 1024) : V m c main_v5 (ix2 k d) = (ops m c).wr k d := by
  show _ = a7 m c (ix2 k d)
  entry_read
  pointwise

theorem op6 (k d : Fin 1024) : V m c main_v6 (ix2 k d) = (ops m c).wo k d := by
  show _ = a8 m c (ix2 k d)
  entry_read
  pointwise

theorem op7 (k : Fin 1024) (f : Fin 5632) : V m c main_v7 (ix2 k f) = (ops m c).wup k f := by
  show _ = a13 m c (ix2 k f)
  entry_read
  pointwise

theorem op8 (f : Fin 2816) : V m c main_v8 (ix2 0 f) = (ops m c).cb f := by
  show _ = a15 m c (ix1 f)
  entry_read
  pointwise

theorem op9 (f : Fin 2816) (d : Fin 1024) : V m c main_v9 (ix2 f d) = (ops m c).wdn f d := by
  show _ = a16 m c (ix2 f d)
  entry_read
  pointwise

/-- The blocks, in terms of the operands. -/
theorem blk0 (t : Fin cfg0.N) (r : Fin 512) (d : Fin 1024) : b0 m c t (ix2 r d) = (ops m c).x (row t r) d := by
  refine Eq.trans (b := V m c main_v10 (ix2 (row t r) d)) ?_ (op10 m c (row t r) d)
  blk_ext [iblk, idx t]

theorem blk1 (t : Fin cfg0.N) (r l : Fin 512) : b1 m c t (ix2 r l) = (ops m c).att (row t r) l := by
  refine Eq.trans (b := V m c main_v12 (ix2 (row t r) l)) ?_ (op12 m c (row t r) l)
  blk_ext [iblk, idx t]

theorem blk2 (t : Fin cfg0.N) (r l : Fin 512) : b2 m c t (ix2 r l) = (ops m c).rw (row t r) l := by
  refine Eq.trans (b := V m c main_v14 (ix2 (row t r) l)) ?_ (op14 m c (row t r) l)
  blk_ext [iblk, idx t]

theorem blk3 (t : Fin cfg0.N) (r : Fin 512) (l : Fin 2048) : b3 m c t (ix2 r l) = (ops m c).gt (row t r) l := by
  refine Eq.trans (b := V m c main_v15 (ix2 (row t r) l)) ?_ (op15 m c (row t r) l)
  blk_ext [iblk, idx t]

theorem blk4 (t : Fin cfg0.N) (p : Fin 6) (d : Fin 1024) : b4 m c t (ix3 0 p d) = (ops m c).md p d := by
  refine Eq.trans (b := V m c main_v16 (ix3 0 p d)) ?_ (op16 m c p d)
  blk_ext [iblk, idx t]

theorem blk6 (t : Fin cfg0.N) (d : Fin 1024) : b6 m c t (ix2 0 d) = (ops m c).g1 d := by
  refine Eq.trans (b := V m c main_v0 (ix2 0 d)) ?_ (op0 m c d)
  blk_ext [iblk, idx t]

theorem blk7 (t : Fin cfg0.N) (d : Fin 1024) : b7 m c t (ix2 0 d) = (ops m c).b1 d := by
  refine Eq.trans (b := V m c main_v1 (ix2 0 d)) ?_ (op1 m c d)
  blk_ext [iblk, idx t]

theorem blk8 (t : Fin cfg0.N) (d : Fin 1024) : b8 m c t (ix2 0 d) = (ops m c).g2 d := by
  refine Eq.trans (b := V m c main_v2 (ix2 0 d)) ?_ (op2 m c d)
  blk_ext [iblk, idx t]

theorem blk9 (t : Fin cfg0.N) (d : Fin 1024) : b9 m c t (ix2 0 d) = (ops m c).b2 d := by
  refine Eq.trans (b := V m c main_v3 (ix2 0 d)) ?_ (op3 m c d)
  blk_ext [iblk, idx t]

theorem blk10 (t : Fin cfg0.N) (k : Fin 512) (d : Fin 1024) : b10 m c t (ix2 k d) = (ops m c).wa k d := by
  refine Eq.trans (b := V m c main_v4 (ix2 k d)) ?_ (op4 m c k d)
  blk_ext [iblk, idx t]

theorem blk11 (t : Fin cfg0.N) (k : Fin 512) (d : Fin 1024) : b11 m c t (ix2 k d) = (ops m c).wr k d := by
  refine Eq.trans (b := V m c main_v5 (ix2 k d)) ?_ (op5 m c k d)
  blk_ext [iblk, idx t]

theorem blk12 (t : Fin cfg0.N) (k d : Fin 1024) : b12 m c t (ix2 k d) = (ops m c).wo k d := by
  refine Eq.trans (b := V m c main_v6 (ix2 k d)) ?_ (op6 m c k d)
  blk_ext [iblk, idx t]

theorem blk13 (t : Fin cfg0.N) (k : Fin 1024) (d : Fin 5632) : b13 m c t (ix2 k d) = (ops m c).wup k d := by
  refine Eq.trans (b := V m c main_v7 (ix2 k d)) ?_ (op7 m c k d)
  blk_ext [iblk, idx t]

theorem blk16 (t : Fin cfg0.N) (k : Fin 2816) (d : Fin 1024) : b16 m c t (ix2 k d) = (ops m c).wdn k d := by
  refine Eq.trans (b := V m c main_v9 (ix2 k d)) ?_ (op9 m c k d)
  blk_ext [iblk, idx t]

theorem blk15 (t : Fin cfg0.N) (d : Fin 2816) : b15 m c t (ix2 0 d) = (ops m c).cb d := by
  refine Eq.trans (b := V m c main_v8 (ix2 0 d)) ?_ (op8 m c d)
  blk_ext [iblk, idx t]

theorem blk5 (t : Fin cfg0.N) (r : Fin 2) (f : Fin 2816) : b5 m c t (ix3 0 r f) = (ops m c).buf r f := by
  refine Eq.trans (b := V m c main_arg5 (ix3 0 r f)) ?_ (congrFun (V_main_arg5 m c) _)
  blk_ext [iblk, idx t]

theorem blk14 (t : Fin cfg0.N) (r : Fin 3) (f : Fin 2816) : b14 m c t (ix2 r f) = (ops m c).cw r f := by
  refine Eq.trans (b := V m c main_arg14 (ix2 r f)) ?_ (congrFun (V_main_arg14 m c) _)
  blk_ext [iblk, idx t]

/-- A row of the front half is the layer's. -/
theorem rowX_eq (t : Fin cfg0.N) (r : Fin 512) (d : Fin 1024) :
    rowX (b0 m c t) (b1 m c t) (b2 m c t) (b3 m c t) (b4 m c t) (b6 m c t) (b7 m c t) (b10 m c t) (b11 m c t) (b12 m c t) r d = Spec.x1 (ops m c) (row t r) d := by
  unfold rowX Spec.x1 Spec.merge
  simp only [blk0, blk1, blk2, blk3, blk4, blk6, blk7, blk10, blk11, blk12]

theorem rowH_eq (t : Fin cfg0.N) (r : Fin 512) (d : Fin 1024) :
    rowH (b4 m c t) (rowX (b0 m c t) (b1 m c t) (b2 m c t) (b3 m c t) (b4 m c t) (b6 m c t) (b7 m c t) (b10 m c t) (b11 m c t) (b12 m c t) r) d = Spec.h2 (ops m c) (row t r) d := by
  unfold rowH Spec.h2
  rw [rowX_eq, blk4, blk4]

/-- What the scratch buffers hold after a point. -/
theorem x1At_eq (t : Fin cfg0.N) (r : Fin 512) (d : Fin 1024) : x1At m c t (ix2 r d) = Spec.x1 (ops m c) (row t r) d := by
  refine Eq.trans ?_ (rowX_eq m c t r d)
  by_cases h : t.val = 0
  · unfold x1At
    rw [View.read_writes_junk_eq_canon]
    refine (congrArg (fun L => View.canon L (ix2 r d)) (dif_pos h)).trans ?_
    exact x1_A ..
  · rw [x1At_later m c t h (any _ _) (any _ _) (any _ _), View.read_writes_junk_eq_canon]
    exact x1_B ..

theorem h2At_eq (t : Fin cfg0.N) (r : Fin 512) (d : Fin 1024) : h2At m c t (ix2 r d) = Spec.h2 (ops m c) (row t r) d := by
  refine Eq.trans ?_ (rowH_eq m c t r d)
  by_cases h : t.val = 0
  · unfold h2At
    rw [View.read_writes_junk_eq_canon]
    refine (congrArg (fun L => View.canon L (ix2 r d)) (dif_pos h)).trans ?_
    exact h2_A ..
  · rw [h2At_later m c t h (any _ _) (any _ _) (any _ _), View.read_writes_junk_eq_canon]
    exact h2_B ..

/-- The row of the arrays that row `r` of the tile a later point finishes is. -/
abbrev low (t : Fin cfg0.N) (r : Fin 512) : Fin 16384 := ⟨512 * (t.val - 1) + r.val, by have := lt33 t; omega⟩

theorem row_pred (t : Fin cfg0.N) (r : Fin 512) : row (pred t) r = low t r :=
  Fin.ext (by
    have := lt33 t
    show 512 * min (t.val - 1) 31 + r.val = 512 * (t.val - 1) + r.val
    omega)

/-- The up projection's halves at a later point. -/
theorem uc_eq (t : Fin cfg0.N) (r : Fin 512) (f : Fin 2816) : uc (h2At m c (pred t)) (b13 m c t) r f = Spec.uc (ops m c) (low t r) f := by
  unfold uc Spec.uc
  simp only [h2At_eq, blk13, row_pred]

theorem uv_eq (t : Fin cfg0.N) (r : Fin 512) (f : Fin 2816) : uv (h2At m c (pred t)) (b13 m c t) r f = Spec.uv (ops m c) (low t r) f := by
  unfold uv Spec.uv
  simp only [h2At_eq, blk13, row_pred]

/-- The carried rows, the two before the next tile: at first those the call is given. -/
theorem tailAt_first (t : Fin cfg0.N) (h : t.val = 0) (p : Fin 2) (f : Fin 2816) :
    tailAt m c t (ix2 ⟨6 + p.val, by omega⟩ f) = (ops m c).buf p f := by
  refine Eq.trans ?_ (blk5 m c t p f)
  unfold tailAt
  rw [View.read_writes_junk_eq_canon]
  refine (congrArg (fun L => View.canon L (ix2 ⟨6 + p.val, by omega⟩ f)) (dif_pos h)).trans ?_
  refine (tail_A (y := ix2 ⟨6 + p.val, by omega⟩ f) (hy := show 6 ≤ 6 + p.val by omega) ..).trans ?_
  exact congrArg (fun a => b5 m c t (ix3 0 a f)) (Fin.ext (by show 6 + p.val - 6 = p.val; omega))

theorem tailAt_eq (t : Fin cfg0.N) (h : ¬t.val = 0) (p : Fin 2) (f : Fin 2816) :
    tailAt m c t (ix2 ⟨6 + p.val, by omega⟩ f) = Spec.uc (ops m c) (low t ⟨510 + p.val, by omega⟩) f := by
  refine Eq.trans ?_ (uc_eq m c t _ f)
  rw [tailAt_later m c t h (any _ _) (any _ _), View.read_writes_junk_eq_canon]
  refine (tail_B ..).trans ?_
  exact congrArg (fun a => uc (h2At m c (pred t)) (b13 m c t) a f) (Fin.ext (by show 504 + (6 + p.val) = 510 + p.val; omega))

/-- What enters the down projection at a later point. -/
theorem mid_eq (t : Fin cfg0.N) (h : ¬t.val = 0) (r : Fin 512) (f : Fin 2816) :
    mid (b13 m c t) (b14 m c t) (b15 m c t) (tailAt m c (pred t)) (h2At m c (pred t)) r f = Spec.mid (ops m c) (low t r) f := by
  have ht := lt33 t
  have hr := r.isLt
  have e : ∀ p : Fin 2, tailAt m c (pred t) (ix2 ⟨6 + p.val, by omega⟩ f) = if h1 : t.val = 1 then (ops m c).buf p f
      else Spec.uc (ops m c) ⟨512 * (t.val - 2) + 510 + p.val, by omega⟩ f := fun p => by
    by_cases h1 : t.val = 1
    · rw [dif_pos h1]
      exact tailAt_first m c (pred t) (by show t.val - 1 = 0; omega) p f
    · rw [dif_neg h1]
      refine (tailAt_eq m c (pred t) (by show ¬t.val - 1 = 0; omega) p f).trans ?_
      exact congrArg (fun a => Spec.uc (ops m c) a f) (Fin.ext (by show 512 * (t.val - 1 - 1) + (510 + p.val) = 512 * (t.val - 2) + 510 + p.val; omega))
  have e6 : tailAt m c (pred t) (ix2 6 f) = _ := e 0
  have e7 : tailAt m c (pred t) (ix2 7 f) = _ := e 1
  have low0 : (low t r).val = 512 * (t.val - 1) + r.val := rfl
  unfold mid Spec.mid
  rw [blk15, blk14, blk14, blk14]
  refine congr (congr (congr (congr rfl ?_) ?_) (uc_eq m c t r f)) (uv_eq m c t r f)
  · by_cases h0 : r.val = 0
    · rw [if_pos h0, e6]
      by_cases h1 : t.val = 1
      · rw [dif_pos h1, if_pos (by omega)]
      · rw [dif_neg h1, if_neg (by omega), if_neg (by omega)]
        exact congrArg (fun a => Spec.uc (ops m c) a f) (Fin.ext (by show 512 * (t.val - 2) + 510 + 0 = 512 * (t.val - 1) + r.val - 2; omega))
    · rw [if_neg h0]
      by_cases h2 : r.val = 1
      · rw [if_pos h2, e7]
        by_cases h1 : t.val = 1
        · rw [dif_pos h1, if_neg (by omega), if_pos (by omega)]
        · rw [dif_neg h1, if_neg (by omega), if_neg (by omega)]
          exact congrArg (fun a => Spec.uc (ops m c) a f) (Fin.ext (by show 512 * (t.val - 2) + 510 + 1 = 512 * (t.val - 1) + r.val - 2; omega))
      · rw [if_neg h2, if_neg (by omega), if_neg (by omega), uc_eq]
        exact congrArg (fun a => Spec.uc (ops m c) a f) (Fin.ext (by show 512 * (t.val - 1) + (r.val - 2) = 512 * (t.val - 1) + r.val - 2; omega))
  · by_cases h0 : r.val = 0
    · rw [if_pos h0, e7]
      by_cases h1 : t.val = 1
      · rw [dif_pos h1, if_pos (by omega)]
      · rw [dif_neg h1, if_neg (by omega)]
        exact congrArg (fun a => Spec.uc (ops m c) a f) (Fin.ext (by show 512 * (t.val - 2) + 510 + 1 = 512 * (t.val - 1) + r.val - 1; omega))
    · rw [if_neg h0, if_neg (by omega), uc_eq]
      exact congrArg (fun a => Spec.uc (ops m c) a f) (Fin.ext (by show 512 * (t.val - 1) + (r.val - 1) = 512 * (t.val - 1) + r.val - 1; omega))

/-- The rows a later point writes. -/
theorem yAt_eq (t : Fin cfg0.N) (h : ¬t.val = 0) (r : Fin 512) (d : Fin 1024) : yAt m c t (ix2 r d) = Spec.y (ops m c) (low t r) d := by
  rw [yAt_later m c t h (tailAt m c (pred t)) (fun _ _ => rfl), View.read_writes_junk_eq_canon]
  refine (y_B ..).trans ?_
  show rowY (b4 m c t) (b8 m c t) (b9 m c t) (b16 m c t) (x1At m c (pred t)) (midV (b13 m c t) (b14 m c t) (b15 m c t) (tailAt m c (pred t)) (h2At m c (pred t))) r d = _
  unfold rowY Spec.y
  simp only [blk4, blk8, blk9, blk16, x1At_eq, row_pred]
  refine congrArg (fun z => Row.norm z (ops m c).g2 (ops m c).b2 d) (funext fun j => ?_)
  refine congrArg (fun z => Spec.alpha * Spec.x1 (ops m c) (low t r) j + (1 + (ops m c).md 5 j) * z) (Finset.sum_congr rfl fun k _ => ?_)
  exact congrArg (· * (ops m c).wdn k j) (mid_eq m c t h r k)

theorem convAt_eq (t : Fin cfg0.N) (h : ¬t.val = 0) (p : Fin 2) (f : Fin 2816) :
    convAt m c t (ix3 0 p f) = Spec.uc (ops m c) (low t ⟨510 + p.val, by omega⟩) f := by
  refine Eq.trans ?_ (uc_eq m c t _ f)
  rw [convAt_later m c t h (any _ _) (any _ _), View.read_writes_junk_eq_canon]
  exact conv_B ..

/-- The rows' array after the run. -/
theorem final_y : (dats m 0 c).arrAt 17 cfg0.N = fun i : S16384x1024.Idx => Spec.y (ops m c) (i 0) (i 1) := by
  refine (dats m 0 c).arrAt_eq_of_covers 17 _ (by decide +kernel) fun t hf y => ?_
  have ht := lt33 t
  have h : ¬t.val = 0 := by
    intro h0
    have : t = ⟨0, by decide⟩ := Fin.ext h0
    subst this
    exact absurd hf (by decide +kernel)
  blk_simp
  rw [after_17]
  obtain ⟨r, d, rfl⟩ : ∃ (r : Fin 512) (d : Fin 1024), y = ix2 r d := ⟨y 0, y 1, by funext a; fin_cases a <;> rfl⟩
  refine (yAt_eq m c t h r d).trans ?_
  refine congrArg₂ (Spec.y (ops m c)) (Fin.ext ?_) (Fin.ext ?_)
  · blk_simp [idx t]
    show 512 * (t.val - 1) + r.val = (t.val - 1) * 512 + r.val
    omega
  · blk_simp [idx t]

/-- The last point. -/
abbrev tLast : Fin cfg0.N := ⟨32, by decide⟩

/-- The convolution rows' array after the run. -/
theorem final_conv : (dats m 0 c).arrAt 18 cfg0.N = fun i : S1x2x2816.Idx => Spec.uc (ops m c) ⟨16382 + (i 1).val, by have : (i 1).val < 2 := (i 1).isLt; omega⟩ (i 2) := by
  refine (dats m 0 c).arrAt_eq_of_after_last 18 tLast (by decide +kernel) _ fun j => ?_
  blk_simp
  rw [after_18]
  obtain ⟨r, d, rfl⟩ : ∃ (r : Fin 2) (d : Fin 2816), j = ix3 0 r d := ⟨j 1, j 2, by
    funext a
    fin_cases a
    · exact Fin.ext (by have : (j 0).val < 1 := (j 0).isLt; show (j 0).val = 0; omega)
    · rfl
    · rfl⟩
  refine (convAt_eq m c tLast (by decide) r d).trans ?_
  exact congrArg (fun a => Spec.uc (ops m c) a d) (Fin.ext (by show 512 * (32 - 1) + (510 + r.val) = 16382 + r.val; omega))

end Cert.MixIdeal.Arr

end
-- ==== Proof.MixRef.lean ====
/-
  The reference's rows and convolution rows, one number at a time: its composed terms, read at an index, are the layer's.
-/
module

public import proofs.«01_k».proof.Proof.Gen.MixReferenceIdeal.Run
public import proofs.«01_k».proof.Proof.MixSpec
public import Idealize.ShloMosaic.PureOps.Ideal
public import Idealize.ShloMosaic.Lib.Pointwise

@[expose] public section

set_option maxRecDepth 16384

noncomputable section

namespace Cert.MixReferenceIdeal.Terms

open Cert.MixReferenceIdeal Cert.MixReferenceIdeal.Gen Cert.MixReferenceIdeal.Value Idealize.ShloMosaic Idealize.ShloMosaic.TcCoe

variable (V : Valuation τ sig (Elt Ideal))

/-- The arguments. -/
abbrev a0 : S1x16384x1024.Idx → EReal := V (Proc.devRef .tc main_arg0)
abbrev a1 : S1x16384x8x64.Idx → EReal := V (Proc.devRef .tc main_arg1)
abbrev a2 : S1x16384x512.Idx → EReal := V (Proc.devRef .tc main_arg2)
abbrev a3 : S1x16384x2048.Idx → EReal := V (Proc.devRef .tc main_arg3)
abbrev a4 : S1x6144.Idx → EReal := V (Proc.devRef .tc main_arg4)
abbrev a5 : S1x2x2816.Idx → EReal := V (Proc.devRef .tc main_arg5)
abbrev a6 : S512x1024.Idx → EReal := V (Proc.devRef .tc main_arg6)
abbrev a7 : S512x1024.Idx → EReal := V (Proc.devRef .tc main_arg7)
abbrev a8 : S1024x1024.Idx → EReal := V (Proc.devRef .tc main_arg8)
abbrev a9 : S1024.Idx → EReal := V (Proc.devRef .tc main_arg9)
abbrev a10 : S1024.Idx → EReal := V (Proc.devRef .tc main_arg10)
abbrev a11 : S1024.Idx → EReal := V (Proc.devRef .tc main_arg11)
abbrev a12 : S1024.Idx → EReal := V (Proc.devRef .tc main_arg12)
abbrev a13 : S1024x5632.Idx → EReal := V (Proc.devRef .tc main_arg13)
abbrev a14 : S3x2816.Idx → EReal := V (Proc.devRef .tc main_arg14)
abbrev a15 : S2816.Idx → EReal := V (Proc.devRef .tc main_arg15)
abbrev a16 : S2816x1024.Idx → EReal := V (Proc.devRef .tc main_arg16)

/-- The operands that the arguments give. -/
abbrev ops : Spec.Ops where
  x R d := a0 V (ix3 0 R d)
  att R l := a1 V (ix4 0 R ⟨l.val / 64, by omega⟩ ⟨l.val % 64, by omega⟩)
  rw R l := a2 V (ix3 0 R l)
  gt R l := a3 V (ix3 0 R l)
  md p d := a4 V (ix2 0 ⟨1024 * p.val + d.val, by omega⟩)
  buf r f := a5 V (ix3 0 r f)
  wa k d := a6 V (ix2 k d)
  wr k d := a7 V (ix2 k d)
  wo k d := a8 V (ix2 k d)
  g1 d := a9 V (ix1 d)
  b1 d := a10 V (ix1 d)
  g2 d := a11 V (ix1 d)
  b2 d := a12 V (ix1 d)
  wup k f := a13 V (ix2 k f)
  cw r f := a14 V (ix2 r f)
  cb f := a15 V (ix1 f)
  wdn f d := a16 V (ix2 f d)

theorem v0_apply (l : Fin 6144) : res_main_v0 V (ix3 0 0 l) = a4 V (ix2 0 l) := by
  unfold res_main_v0
  pointwise

/-- The rows under the two layer norms. -/
abbrev z1 : S1x16384x1024.Idx → EReal := res_main_v22 V
abbrev z2 : S1x16384x1024.Idx → EReal := res_main_v90 V

theorem v22_apply (R : Fin 16384) (d : Fin 1024) : res_main_v22 V (ix3 0 R d)
    = Spec.alpha * (ops V).x R d + (1 + (ops V).md 2 d) * (∑ k : Fin 1024, Spec.merge (ops V) R k * (ops V).wo k d) := by
  unfold res_main_v22 Spec.merge
  pointwise [v0_apply]

theorem v26_apply (R : Fin 16384) : res_main_v26 V (ix3 0 R 0) = Row.mean fun j => z1 V (ix3 0 R j) := by
  unfold res_main_v26
  pointwise
  rfl

theorem v28_apply (R : Fin 16384) (d : Fin 1024) : res_main_v28 V (ix3 0 R d) = z1 V (ix3 0 R d) - Row.mean fun j => z1 V (ix3 0 R j) := by
  unfold res_main_v28
  pointwise [v26_apply]

theorem v46_apply (R : Fin 16384) (d : Fin 1024) : res_main_v46 V (ix3 0 R d) = Spec.x1 (ops V) R d := by
  refine Eq.trans (b := Row.norm (fun j => z1 V (ix3 0 R j)) (ops V).g1 (ops V).b1 d) ?_ ?_
  · unfold res_main_v46
    pointwise [v26_apply, v28_apply]
    rfl
  · exact congrArg (fun z => Row.norm z (ops V).g1 (ops V).b1 d) (funext fun j => v22_apply V R j)

theorem v53_apply (R : Fin 16384) (f : Fin 5632) : res_main_v53 V (ix3 0 R f) = ∑ k : Fin 1024, Spec.h2 (ops V) R k * (ops V).wup k f := by
  unfold res_main_v53 Spec.h2
  pointwise [v0_apply, v46_apply]

theorem v56_apply (R : Fin 16386) (f : Fin 2816) : res_main_v56 V (ix3 0 R f)
    = if h : R.val < 2 then (ops V).buf ⟨R.val, h⟩ f else Spec.uc (ops V) ⟨R.val - 2, by omega⟩ f := by
  unfold res_main_v56 Spec.uc
  pointwise [v53_apply]

theorem v79_apply (R : Fin 16384) (f : Fin 2816) : res_main_v79 V (ix3 0 R f)
    = (ops V).cb f + (if R.val = 0 then (ops V).buf 0 f else if R.val = 1 then (ops V).buf 1 f else Spec.uc (ops V) ⟨R.val - 2, by omega⟩ f) * (ops V).cw 0 f
      + (if R.val = 0 then (ops V).buf 1 f else Spec.uc (ops V) ⟨R.val - 1, by omega⟩ f) * (ops V).cw 1 f + Spec.uc (ops V) R f * (ops V).cw 2 f := by
  have e0 : res_main_v56 V (ix3 0 ⟨R.val, by omega⟩ f)
      = if R.val = 0 then (ops V).buf 0 f else if R.val = 1 then (ops V).buf 1 f else Spec.uc (ops V) ⟨R.val - 2, by omega⟩ f := by
    refine (v56_apply V _ f).trans ?_
    by_cases h0 : R.val = 0
    · exact (dif_pos (show R.val < 2 by omega)).trans ((congrArg (fun a => (ops V).buf a f) (Fin.ext h0 : (⟨R.val, by omega⟩ : Fin 2) = 0)).trans (if_pos h0).symm)
    · refine Eq.trans ?_ (if_neg h0).symm
      by_cases h1 : R.val = 1
      · exact (dif_pos (show R.val < 2 by omega)).trans ((congrArg (fun a => (ops V).buf a f) (Fin.ext h1 : (⟨R.val, by omega⟩ : Fin 2) = 1)).trans (if_pos h1).symm)
      · exact (dif_neg (show ¬R.val < 2 by omega)).trans (if_neg h1).symm
  have e1 : res_main_v56 V (ix3 0 ⟨1 + R.val, by omega⟩ f) = if R.val = 0 then (ops V).buf 1 f else Spec.uc (ops V) ⟨R.val - 1, by omega⟩ f := by
    refine (v56_apply V _ f).trans ?_
    by_cases h0 : R.val = 0
    · exact (dif_pos (show 1 + R.val < 2 by omega)).trans ((congrArg (fun a => (ops V).buf a f) (Fin.ext (by show 1 + R.val = 1; omega) : (⟨1 + R.val, by omega⟩ : Fin 2) = 1)).trans (if_pos h0).symm)
    · exact (dif_neg (show ¬1 + R.val < 2 by omega)).trans ((congrArg (fun a => Spec.uc (ops V) a f) (Fin.ext (by show 1 + R.val - 2 = R.val - 1; omega))).trans (if_neg h0).symm)
  have e2 : res_main_v56 V (ix3 0 ⟨2 + R.val, by omega⟩ f) = Spec.uc (ops V) R f :=
    (v56_apply V _ f).trans ((dif_neg (show ¬2 + R.val < 2 by omega)).trans (congrArg (fun a => Spec.uc (ops V) a f) (Fin.ext (by show 2 + R.val - 2 = R.val; omega))))
  unfold res_main_v79
  pointwise [e0, e1, e2]

theorem v90_apply (R : Fin 16384) (d : Fin 1024) : res_main_v90 V (ix3 0 R d)
    = Spec.alpha * Spec.x1 (ops V) R d + (1 + (ops V).md 5 d) * (∑ f : Fin 2816, Spec.mid (ops V) R f * (ops V).wdn f d) := by
  unfold res_main_v90 Spec.mid Spec.uv
  pointwise [v0_apply, v46_apply, v79_apply, v53_apply]
  rfl

theorem v94_apply (R : Fin 16384) : res_main_v94 V (ix3 0 R 0) = Row.mean fun j => z2 V (ix3 0 R j) := by
  unfold res_main_v94
  pointwise
  rfl

theorem v96_apply (R : Fin 16384) (d : Fin 1024) : res_main_v96 V (ix3 0 R d) = z2 V (ix3 0 R d) - Row.mean fun j => z2 V (ix3 0 R j) := by
  unfold res_main_v96
  pointwise [v94_apply]

/-- The reference's rows. -/
theorem y_apply (R : Fin 16384) (d : Fin 1024) : shapeCast S16384x1024 (addf (mulf (mulf (subf (res_main_v90 V) (broadcastInDim S1x16384x1024 ![0, 1, 2] bcast_S1x16384x1_S1x16384x1024_0_1_2 (res_main_v94 V))) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (res_main_v96 V) (res_main_v96 V)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x3727C5AC#32)))))) (broadcastInDim S1x16384x1024 ![0, 1, 2] bcast_S1x1x1024_S1x16384x1024_0_1_2 (broadcastInDim S1x1x1024 ![2] bcast_S1024_S1x1x1024_2 (V (Proc.devRef .tc main_arg11))))) (broadcastInDim S1x16384x1024 ![0, 1, 2] bcast_S1x1x1024_S1x16384x1024_0_1_2 (broadcastInDim S1x1x1024 ![2] bcast_S1024_S1x1x1024_2 (V (Proc.devRef .tc main_arg12))))) shapeCasts_S1x16384x1024_S16384x1024 (ix2 R d)
    = Spec.y (ops V) R d := by
  refine Eq.trans (b := Row.norm (fun j => z2 V (ix3 0 R j)) (ops V).g2 (ops V).b2 d) ?_ ?_
  · pointwise [v94_apply, v96_apply]
    rfl
  · exact congrArg (fun z => Row.norm z (ops V).g2 (ops V).b2 d) (funext fun j => v90_apply V R j)

/-- The reference's convolution rows. -/
theorem conv_apply (r : Fin 2) (f : Fin 2816) : extractStridedSlice S1x2x2816 ![0, 16384, 0] (res_main_v56 V) slices_S1x16386x2816_S1x2x2816_0_16384_0 (ix3 0 r f)
    = Spec.uc (ops V) ⟨16382 + r.val, by omega⟩ f := by
  refine Eq.trans (b := res_main_v56 V (ix3 0 ⟨16384 + r.val, by omega⟩ f)) ?_ ?_
  · pointwise
  · exact (v56_apply V _ f).trans ((dif_neg (show ¬16384 + r.val < 2 by omega)).trans (congrArg (fun a => Spec.uc (ops V) a f) (Fin.ext (by show 16384 + r.val - 2 = 16382 + r.val; omega))))

end Cert.MixReferenceIdeal.Terms

end
-- ==== Proof.MixClose.lean ====
/-
  The mixing call's claims: its frames, and its two results against the reference's.
-/
module

public import proofs.«01_k».proof.Defs
public import proofs.«01_k».proof.Proof.MixArr
public import proofs.«01_k».proof.Proof.MixRef
public import proofs.«01_k».proof.Proof.Gen.Mix

@[expose] public section

set_option maxRecDepth 200000
set_option maxHeartbeats 1000000

noncomputable section

namespace Cert.MixIdeal.Close

open Cert.MixIdeal Cert.MixIdeal.Gen Cert.MixIdeal.Run Cert.MixIdeal.Arr Idealize.ShloMosaic Idealize.ShloMosaic.TcCoe Idealize.SL.Sem
open Idealize.ShloMosaic.StableHlo (launchContents)

section
variable {F : FTy → Type} [FloatOps F]
variable (m : (ℓ : Loc nD τ sig) → Buf (Elt F) ℓ) (ρ : Dev nD → PrngReg)

/-- The run's arrays, over any floats. -/
theorem ends : θ_run defs (onTc (τ := τ) (main (F := F))) (s₀ m ρ) (Pipeline.FramePost cfgs (dats m) 0 (V m)) :=
  (θ_run defs _ _).mono (fun _ h => h.1) (run m ρ)

/-- Every semaphore counter ends at zero. -/
theorem quiet : θ_run defs (onTc (τ := τ) (main (F := F))) (s₀ m ρ) (fun r => r.2.sem = fun _ => 0) :=
  (θ_run defs _ _).mono (fun _ h => h.2) (run m ρ)

end

/-- The two programs have the same text: their body tables are the same. -/
theorem bodies_eq : @Cert.Mix.defs₀ Bits _ _ = @defs₀ Bits _ _ := by
  refine congrArg Defs.onTc ?_
  funext l x
  match l, x with
  | 0, (t, s) => rfl
  | ⟨_ + 1, h⟩, _ => exact absurd h (Nat.not_lt.2 (Nat.le_add_left _ _))

theorem defs_eq : @Cert.Mix.defs Bits _ _ = @defs Bits _ _ := congrArg (Pipeline.defs pcfgs) bodies_eq

theorem main_eq : @Cert.Mix.main Bits _ _ = @main Bits _ _ := rfl

theorem frame_kernel : Cert.quiescent_Mix := by
  intro m ρ _
  rw [defs_eq, main_eq]
  exact (θ_run defs _ _).mono (fun _ h => h)
    (θ_run_and (frame_of (F := Bits) m ρ (dats m) (A_eq m) (ends m ρ)) (quiet m ρ))

theorem frame_ideal : Cert.quiescent_MixIdeal := fun m ρ _ => θ_run_and (frame_of m ρ (dats (F := Ideal) m) (A_eq m) (ends m ρ)) (quiet m ρ)

theorem frame_reference : Cert.quiescent_MixReferenceIdeal := fun m ρ _ =>
  (θ_run Cert.MixReferenceIdeal.defs _ _).mono
    (fun r h => ⟨fun c => (h c).2.2, sem_eq_zero_of_no_sems (by decide) r.2⟩) (Cert.MixReferenceIdeal.Value.run (F := Ideal) m ρ)

/-- From the same arguments, the same operands. -/
theorem ops_eq (m : (ℓ : Loc nD τ sig) → Buf (Elt Ideal) ℓ) (V : Valuation Cert.MixReferenceIdeal.τ Cert.MixReferenceIdeal.sig (Elt Ideal)) (c : Dev nD)
    (h0 : MixReferenceIdeal.Terms.a0 V = a0 m c) (h1 : MixReferenceIdeal.Terms.a1 V = a1 m c) (h2 : MixReferenceIdeal.Terms.a2 V = a2 m c)
    (h3 : MixReferenceIdeal.Terms.a3 V = a3 m c) (h4 : MixReferenceIdeal.Terms.a4 V = a4 m c) (h5 : MixReferenceIdeal.Terms.a5 V = a5 m c)
    (h6 : MixReferenceIdeal.Terms.a6 V = a6 m c) (h7 : MixReferenceIdeal.Terms.a7 V = a7 m c) (h8 : MixReferenceIdeal.Terms.a8 V = a8 m c)
    (h9 : MixReferenceIdeal.Terms.a9 V = a9 m c) (h10 : MixReferenceIdeal.Terms.a10 V = a10 m c) (h11 : MixReferenceIdeal.Terms.a11 V = a11 m c)
    (h12 : MixReferenceIdeal.Terms.a12 V = a12 m c) (h13 : MixReferenceIdeal.Terms.a13 V = a13 m c) (h14 : MixReferenceIdeal.Terms.a14 V = a14 m c)
    (h15 : MixReferenceIdeal.Terms.a15 V = a15 m c) (h16 : MixReferenceIdeal.Terms.a16 V = a16 m c) :
    MixReferenceIdeal.Terms.ops V = ops m c := by
  unfold MixReferenceIdeal.Terms.ops ops
  rw [h0, h1, h2, h3, h4, h5, h6, h7, h8, h9, h10, h11, h12, h13, h14, h15, h16]

/-- Kernel and reference compute the same rows and the same convolution rows. -/
theorem algebraic : Cert.algebraic_MixIdeal_MixReferenceIdeal := by
  intro m ρ m' ρ' _ hagree
  refine ⟨fun c => (dats m 0 c).arrAt 17 cfg0.N, fun c => (dats m 0 c).arrAt 18 cfg0.N, ?_, ?_⟩
  · exact (θ_run defs _ _).mono (fun r h c => ⟨(h.2 c).1 17, (h.2 c).1 18, h.1 c⟩) (θ_run_and (frame_of m ρ (dats m) (A_eq m) (ends m ρ)) (ends m ρ))
  · refine (θ_run Cert.MixReferenceIdeal.defs _ _).mono (fun r h c => ⟨(h c).1.trans ?_, (h c).2.1.trans ?_, (h c).2.2⟩) (Cert.MixReferenceIdeal.Value.run (F := Ideal) m' ρ')
    all_goals
      obtain ⟨h0, h1, h2, h3, h4, h5, h6, h7, h8, h9, h10, h11, h12, h13, h14, h15, h16⟩ := hagree c
      have e := ops_eq m (launchContents m' c) c h0 h1 h2 h3 h4 h5 h6 h7 h8 h9 h10 h11 h12 h13 h14 h15 h16
    · refine Eq.trans ?_ (final_y m c).symm
      funext i
      obtain ⟨R, d, rfl⟩ : ∃ (R : Fin 16384) (d : Fin 1024), i = ix2 R d := ⟨i 0, i 1, by funext a; fin_cases a <;> rfl⟩
      exact (MixReferenceIdeal.Terms.y_apply (launchContents m' c) R d).trans (congrArg (fun o => Spec.y o R d) e)
    · refine Eq.trans ?_ (final_conv m c).symm
      funext i
      obtain ⟨r, f, rfl⟩ : ∃ (r : Fin 2) (f : Fin 2816), i = ix3 0 r f := ⟨i 1, i 2, by
        funext a
        fin_cases a
        · exact Fin.ext (by have : (i 0).val < 1 := (i 0).isLt; show (i 0).val = 0; omega)
        · rfl
        · rfl⟩
      exact (MixReferenceIdeal.Terms.conv_apply (launchContents m' c) r f).trans (congrArg (fun o => Spec.uc o ⟨16382 + r.val, by omega⟩ f) e)

end Cert.MixIdeal.Close

end
-- ==== Proof.InSpec.lean ====
/-
  The layer's way in, one number at a time, over its operands: what the call and the reference both compute.
-/
module

public import proofs.«01_k».proof.Proof.Row

@[expose] public section

noncomputable section

namespace Cert.InSpec

open Idealize.ShloMosaic

/-- The operands: the rows, the modulation, the layer norm's gain and offset, the projection's weights. -/
structure Ops where
  x : Fin 16384 → Fin 1024 → EReal
  md : Fin 6 → Fin 1024 → EReal
  g : Fin 1024 → EReal
  b : Fin 1024 → EReal
  w : Fin 1024 → Fin 5376 → EReal

/-- The queries' factor. -/
abbrev scale : EReal := ((8⁻¹ * (Real.log 2)⁻¹ : ℝ) : EReal)

variable (o : Ops)

/-- The rows after the layer norm. -/
def xn (R : Fin 16384) (d : Fin 1024) : EReal := Row.norm (o.x R) o.g o.b d

/-- The rows under the modulation. -/
def h (R : Fin 16384) (d : Fin 1024) : EReal := xn o R d * (1 + o.md 1 d) + o.md 0 d

/-- The projected rows. -/
def pr (R : Fin 16384) (f : Fin 5376) : EReal := ∑ k : Fin 1024, h o R k * o.w k f

/-- `n` columns of the projected rows, from column `p` on. -/
def cols (p n : ℕ) (hp : p + n ≤ 5376) (R : Fin 16384) (l : Fin n) : EReal := pr o R ⟨p + l.val, by omega⟩

/-- The scaled queries and the gates. -/
def query (R : Fin 16384) (l : Fin 512) : EReal := cols o 0 512 (by omega) R l * scale

def gate (R : Fin 16384) (l : Fin 2048) : EReal := Row.logistic (cols o 3328 2048 (by omega) R l)

/-- 512 columns of the projected rows, with 512 rows of zeros before them. -/
def ext (p : ℕ) (hp : p + 512 ≤ 5376) (R : Fin 16896) (l : Fin 512) : EReal :=
  if h : R.val < 512 then 0 else cols o p 512 hp ⟨R.val - 512, by omega⟩ l

theorem ext_zero (p : ℕ) (hp : p + 512 ≤ 5376) (R : Fin 16896) (l : Fin 512) (h : R.val < 512) : ext o p hp R l = 0 := dif_pos h

theorem ext_cols (p : ℕ) (hp : p + 512 ≤ 5376) (R : Fin 16896) (l : Fin 512) (h : ¬R.val < 512) :
    ext o p hp R l = cols o p 512 hp ⟨R.val - 512, by omega⟩ l := dif_neg h

end Cert.InSpec

end
-- ==== Proof.InLayers.lean ====
/-
  The projecting call's work on half a tile of 256 rows: the operations its body prints, as functions of the loaded blocks, with
  one lemma per operation that reads it at an index.
-/
module

public import proofs.«01_k».proof.Proof.Gen.InIdeal.Skeleton
public import proofs.«01_k».proof.Proof.InSpec
public import Idealize.ShloMosaic.PureOps.Ideal
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InIdeal.Layers

open Cert.InIdeal Cert.InIdeal.Gen Idealize.ShloMosaic Idealize.ShloMosaic.TcCoe

/-- Half `g` of a block of rows. -/
def ldX (x : Vec Ideal S512x1024 .f32) (g : Fin 2) : FVec Ideal S256x1024 .f32 :=
  View.ld x (Rect.unit (s := S512x1024) ![256 * g.val, 0] S256x1024.size (by intro a; fin_cases a <;> simp <;> omega))

/-- Row `k` of the modulation. -/
def ldM (x : Vec Ideal S1x6x1024 .f32) (k : Fin 6) : FVec Ideal S1x1x1024 .f32 :=
  View.ld x (Rect.unit (s := S1x6x1024) ![0, k.val, 0] S1x1x1024.size (by intro a; fin_cases a <;> simp <;> omega))

/-- 512 columns of the weights, and 256. -/
def ldW (x : Vec Ideal S1024x5376 .bf16) (p : ℕ) (hp : p + 512 ≤ 5376) : FVec Ideal S1024x512 .bf16 :=
  View.ld x (Rect.unit (s := S1024x5376) ![0, p] S1024x512.size (by intro a; fin_cases a <;> simp <;> omega))

def ldN (x : Vec Ideal S1024x5376 .bf16) (p : ℕ) (hp : p + 256 ≤ 5376) : FVec Ideal S1024x256 .bf16 :=
  View.ld x (Rect.unit (s := S1024x5376) ![0, p] S1024x256.size (by intro a; fin_cases a <;> simp <;> omega))

theorem ldX_apply (x : Vec Ideal S512x1024 .f32) (g : Fin 2) (r : Fin 256) (l : Fin 1024) : ldX x g (ix2 r l) = x (ix2 ⟨256 * g.val + r.val, by omega⟩ l) := by
  unfold ldX
  pointwise
  blk_ext

theorem ldM_apply (x : Vec Ideal S1x6x1024 .f32) (k : Fin 6) (l : Fin 1024) : ldM x k (ix3 0 0 l) = x (ix3 0 k l) := by
  unfold ldM
  pointwise
  blk_ext

theorem ldW_apply (x : Vec Ideal S1024x5376 .bf16) (p : ℕ) (hp : p + 512 ≤ 5376) (k : Fin 1024) (l : Fin 512) : ldW x p hp (ix2 k l) = x (ix2 k ⟨p + l.val, by omega⟩) := by
  unfold ldW
  pointwise
  blk_ext

theorem ldN_apply (x : Vec Ideal S1024x5376 .bf16) (p : ℕ) (hp : p + 256 ≤ 5376) (k : Fin 1024) (l : Fin 256) : ldN x p hp (ix2 k l) = x (ix2 k ⟨p + l.val, by omega⟩) := by
  unfold ldN
  pointwise
  blk_ext

/-- Each row's mean. -/
def mean (z : FVec Ideal S256x1024 .f32) : FVec Ideal S256x1 .f32 :=
  divf (shapeCast S256x1 (multiReduction .add [1] S256 z 0x00000000#32 reduces_S256x1024_S256 (.inl rfl) rfl) shapeCasts_S256_S256x1)
    (broadcast S256x1 (Scalar.ofBits (F := Ideal) .f32 0x44800000#32))

/-- Each row less its mean. -/
def centred (z : FVec Ideal S256x1024 .f32) : FVec Ideal S256x1024 .f32 := subf z (broadcastTo S256x1024 (mean z) broadcasts_S256x1_S256x1024)

/-- Each row's layer norm. -/
def normed (z : FVec Ideal S256x1024 .f32) (g b : FVec Ideal S1x1024 .f32) : FVec Ideal S256x1024 .f32 :=
  addf (mulf (mulf (centred z) (broadcastTo S256x1024 (rsqrt (addf (mean (mulf (centred z) (centred z)))
      (broadcast S256x1 (Scalar.ofBits (F := Ideal) .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

/-- A row under a scale and a shift. -/
def modulated (x : FVec Ideal S256x1024 .f32) (s b : FVec Ideal S1x1x1024 .f32) : FVec Ideal S256x1024 .bf16 :=
  truncf .bf16 (addf (mulf x (broadcastTo S256x1024 (addf (broadcast S1x1024 (Scalar.ofBits (F := Ideal) .f32 0x3F800000#32))
      (shapeCast S1x1024 (shapeCast S1x1x1024 s shapeCasts_S1x1x1024_S1x1x1024) shapeCasts_S1x1x1024_S1x1024)) broadcasts_S1x1024_S256x1024))
    (broadcastTo S256x1024 (shapeCast S1x1024 (shapeCast S1x1x1024 b shapeCasts_S1x1x1024_S1x1x1024) shapeCasts_S1x1x1024_S1x1024) broadcasts_S1x1024_S256x1024)) bitsLt_bf16_f32

theorem mean_apply (z : FVec Ideal S256x1024 .f32) (r : Fin 256) (o : Fin 1) : mean z (ix2 r o) = Row.mean fun j => z (ix2 r j) := by
  unfold mean
  pointwise
  rfl

theorem centred_apply (z : FVec Ideal S256x1024 .f32) (r : Fin 256) (d : Fin 1024) : centred z (ix2 r d) = z (ix2 r d) - Row.mean fun j => z (ix2 r j) := by
  unfold centred
  pointwise [mean_apply]

theorem normed_apply (z : FVec Ideal S256x1024 .f32) (g b : FVec Ideal S1x1024 .f32) (r : Fin 256) (d : Fin 1024) :
    normed z g b (ix2 r d) = Row.norm (fun j => z (ix2 r j)) (fun j => g (ix2 0 j)) (fun j => b (ix2 0 j)) d := by
  unfold normed
  pointwise [mean_apply, centred_apply]
  rfl

theorem modulated_apply (x : FVec Ideal S256x1024 .f32) (s b : FVec Ideal S1x1x1024 .f32) (r : Fin 256) (d : Fin 1024) :
    modulated x s b (ix2 r d) = x (ix2 r d) * (1 + s (ix3 0 0 d)) + b (ix3 0 0 d) := by
  unfold modulated
  pointwise

/-- A row after the layer norm, and under the modulation, from the blocks. -/
abbrev rowN (x : Vec Ideal S512x1024 .f32) (g b : Vec Ideal S1x1024 .f32) (r : Fin 512) (d : Fin 1024) : EReal :=
  Row.norm (fun j => x (ix2 r j)) (fun j => g (ix2 0 j)) (fun j => b (ix2 0 j)) d

abbrev rowH (x : Vec Ideal S512x1024 .f32) (md : Vec Ideal S1x6x1024 .f32) (g b : Vec Ideal S1x1024 .f32) (r : Fin 512) (d : Fin 1024) : EReal :=
  rowN x g b r d * (1 + md (ix3 0 1 d)) + md (ix3 0 0 d)

/-- Half a block after the layer norm, and under the modulation. -/
def half (x : Vec Ideal S512x1024 .f32) (g b : Vec Ideal S1x1024 .f32) (p : Fin 2) : FVec Ideal S256x1024 .f32 :=
  normed (shapeCast S256x1024 (ldX x p) shapeCasts_S256x1024_S256x1024) g b

def halfH (x : Vec Ideal S512x1024 .f32) (md : Vec Ideal S1x6x1024 .f32) (g b : Vec Ideal S1x1024 .f32) (p : Fin 2) : FVec Ideal S256x1024 .bf16 :=
  modulated (half x g b p) (ldM md 1) (ldM md 0)

theorem half_at (x : Vec Ideal S512x1024 .f32) (g b : Vec Ideal S1x1024 .f32) (p : Fin 2) (Y0 : Fin 512) (r : Fin 256) (d : Fin 1024)
    (h : Y0.val = 256 * p.val + r.val) : half x g b p (ix2 r d) = rowN x g b Y0 d := by
  have e : Y0 = ⟨256 * p.val + r.val, by omega⟩ := Fin.ext h
  unfold half
  rw [normed_apply, shapeCast_id, e]
  simp only [ldX_apply]

theorem halfH_at (x : Vec Ideal S512x1024 .f32) (md : Vec Ideal S1x6x1024 .f32) (g b : Vec Ideal S1x1024 .f32) (p : Fin 2) (Y0 : Fin 512) (r : Fin 256) (d : Fin 1024)
    (h : Y0.val = 256 * p.val + r.val) : halfH x md g b p (ix2 r d) = rowH x md g b Y0 d := by
  unfold halfH
  rw [modulated_apply, half_at x g b p Y0 r d h, ldM_apply, ldM_apply]

section
variable (H : Fin 512 → Fin 1024 → EReal) (hv : FVec Ideal S256x1024 .bf16) (x : Vec Ideal S1024x5376 .bf16) (b : ℕ)
variable (hH : ∀ (Y0 : Fin 512) (r : Fin 256) (k : Fin 1024), Y0.val = b + r.val → hv (ix2 r k) = H Y0 k)
include hH

/-- A block of 512 columns of a half's projection. -/
theorem wide_at (p : ℕ) (hp : p + 512 ≤ 5376) (Y0 : Fin 512) (C : Fin 5376) (y : S256x512.Idx) (h0 : Y0.val = b + (y 0).val) (h1 : C.val = p + (y 1).val) :
    k0_pay18 (F := Ideal) hv (ldW x p hp) y = ∑ k : Fin 1024, H Y0 k * x (ix2 k C) := by
  obtain ⟨r, l, rfl⟩ : ∃ (r : Fin 256) (l : Fin 512), y = ix2 r l := ⟨y 0, y 1, by funext a; fin_cases a <;> rfl⟩
  have e : C = ⟨p + l.val, by omega⟩ := Fin.ext h1
  have eH : ∀ k, hv (ix2 r k) = H Y0 k := fun k => hH Y0 r k h0
  unfold k0_pay18
  pointwise [ldW_apply, eH, ← e]

/-- A block of 256 columns. -/
theorem narrow_at (p : ℕ) (hp : p + 256 ≤ 5376) (Y0 : Fin 512) (C : Fin 5376) (y : S256x256.Idx) (h0 : Y0.val = b + (y 0).val) (h1 : C.val = p + (y 1).val) :
    k0_pay3 (F := Ideal) hv (ldN x p hp) y = ∑ k : Fin 1024, H Y0 k * x (ix2 k C) := by
  obtain ⟨r, l, rfl⟩ : ∃ (r : Fin 256) (l : Fin 256), y = ix2 r l := ⟨y 0, y 1, by funext a; fin_cases a <;> rfl⟩
  have e : C = ⟨p + l.val, by omega⟩ := Fin.ext h1
  have eH : ∀ k, hv (ix2 r k) = H Y0 k := fun k => hH Y0 r k h0
  unfold k0_pay3
  pointwise [ldN_apply, eH, ← e]

/-- A block of the gates. -/
theorem gate_at (p : ℕ) (hp : p + 512 ≤ 5376) (Y0 : Fin 512) (C : Fin 5376) (y : S256x512.Idx) (h0 : Y0.val = b + (y 0).val) (h1 : C.val = p + (y 1).val) :
    k0_pay12 (F := Ideal) hv (ldW x p hp) y = Row.logistic (∑ k : Fin 1024, H Y0 k * x (ix2 k C)) := by
  obtain ⟨r, l, rfl⟩ : ∃ (r : Fin 256) (l : Fin 512), y = ix2 r l := ⟨y 0, y 1, by funext a; fin_cases a <;> rfl⟩
  have e : C = ⟨p + l.val, by omega⟩ := Fin.ext h1
  have eH : ∀ k, hv (ix2 r k) = H Y0 k := fun k => hH Y0 r k h0
  unfold k0_pay12 Row.logistic
  pointwise [ldW_apply, eH, ← e, zero_sub]

/-- A block of the scaled queries. -/
theorem query_at (p : ℕ) (hp : p + 512 ≤ 5376) (Y0 : Fin 512) (C : Fin 5376) (y : S256x512.Idx) (h0 : Y0.val = b + (y 0).val) (h1 : C.val = p + (y 1).val) :
    k0_pay17 (F := Ideal) hv (ldW x p hp) y = (∑ k : Fin 1024, H Y0 k * x (ix2 k C)) * InSpec.scale := by
  obtain ⟨r, l, rfl⟩ : ∃ (r : Fin 256) (l : Fin 512), y = ix2 r l := ⟨y 0, y 1, by funext a; fin_cases a <;> rfl⟩
  have e : C = ⟨p + l.val, by omega⟩ := Fin.ext h1
  have eH : ∀ k, hv (ix2 r k) = H Y0 k := fun k => hH Y0 r k h0
  have hs : Named.named (F := Ideal) Cert.InIdeal.κ "scale" (φ := .f32) 0x3E38AA3B#32 = InSpec.scale := IdealRules.named_const.ideal_named_scalar _ _ _ _ rfl
  unfold k0_pay17
  pointwise [ldW_apply, eH, ← e, hs]

end

end Cert.InIdeal.Layers

end
-- ==== Proof.InState.lean ====
module

public import proofs.«01_k».proof.Proof.Gen.InIdeal.Frame.RunA
public import proofs.«01_k».proof.Proof.Gen.InIdeal.Frame.RunB

@[expose] public section

/-! What each grid point of the in-projection leaves: in its scratch buffers and in the results' blocks. -/

set_option maxRecDepth 16384

noncomputable section

namespace Cert.InIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.InIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem first_iff (t : Fin cfg0.N) : cond0_0 (grid0.coords t) ↔ t.val = 0 := by
  have h : t.val < 33 := t.isLt
  rw [hcond0_0]
  omega

/-- The first point's run on the buffers the pipeline hands it. -/
abbrev atA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    ((first_iff t).mpr h) (fun h' => absurd ((hcond0_1 t).mp h') (by omega)) (iblk m c 0 t) (iblk m c 1 t) (iblk m c 2 t) (iblk m c 3 t) (iblk m c 4 t) (iblk m c 5 t)

/-- A later point's run, the scratch buffers entering it at `s0` and `s1`. -/
abbrev atB (c : Dev nD) (t : Fin cfg0.N) (h : ¬t.val = 0) (s0 : Vec F S256x1024 .f32) (s1 : Vec F S256x1024 .bf16) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (fun h' => h ((first_iff t).mp h')) ((hcond0_1 t).mpr (by omega)) (iblk m c 0 t) (iblk m c 1 t) (iblk m c 2 t) (iblk m c 3 t) (iblk m c 4 t) (iblk m c 5 t) s0 s1

theorem coverA7 (c : Dev nD) (t : Fin cfg0.N) (h : t.val = 0) (y : S512x512.Idx) : ∃ pc ∈ (atA m c t h).2.1, y ∈ pc.1.set :=
  View.cover_of_tiledL (atA m c t h).2.1 S512x512.size (by sl_kernel_rfl) y

theorem coverA8 (c : Dev nD) (t : Fin cfg0.N) (h : t.val = 0) (y : S512x512.Idx) : ∃ pc ∈ (atA m c t h).2.2.1, y ∈ pc.1.set :=
  View.cover_of_tiledL (atA m c t h).2.2.1 S512x512.size (by sl_kernel_rfl) y

theorem coverAX (c : Dev nD) (t : Fin cfg0.N) (h : t.val = 0) (y : S256x1024.Idx) : ∃ pc ∈ (atA m c t h).2.2.2.2.2.2.2.2.1, y ∈ pc.1.set :=
  View.cover_of_tiledL (atA m c t h).2.2.2.2.2.2.2.2.1 S256x1024.size (by sl_kernel_rfl) y

theorem coverAH (c : Dev nD) (t : Fin cfg0.N) (h : t.val = 0) (y : S256x1024.Idx) : ∃ pc ∈ (atA m c t h).2.2.2.2.2.2.2.2.2.1, y ∈ pc.1.set :=
  View.cover_of_tiledL (atA m c t h).2.2.2.2.2.2.2.2.2.1 S256x1024.size (by sl_kernel_rfl) y

theorem coverB6 (c : Dev nD) (t : Fin cfg0.N) (h : ¬t.val = 0) (s0 : Vec F S256x1024 .f32) (s1 : Vec F S256x1024 .bf16) (y : S512x512.Idx) : ∃ pc ∈ (atB m c t h s0 s1).1, y ∈ pc.1.set :=
  View.cover_of_tiledL (atB m c t h s0 s1).1 S256x512.size (by sl_kernel_rfl) y

theorem coverB7 (c : Dev nD) (t : Fin cfg0.N) (h : ¬t.val = 0) (s0 : Vec F S256x1024 .f32) (s1 : Vec F S256x1024 .bf16) (y : S512x512.Idx) : ∃ pc ∈ (atB m c t h s0 s1).2.1, y ∈ pc.1.set :=
  View.cover_of_tiledL (atB m c t h s0 s1).2.1 S256x512.size (by sl_kernel_rfl) y

theorem coverB8 (c : Dev nD) (t : Fin cfg0.N) (h : ¬t.val = 0) (s0 : Vec F S256x1024 .f32) (s1 : Vec F S256x1024 .bf16) (y : S512x512.Idx) : ∃ pc ∈ (atB m c t h s0 s1).2.2.1, y ∈ pc.1.set :=
  View.cover_of_tiledL (atB m c t h s0 s1).2.2.1 S256x512.size (by sl_kernel_rfl) y

theorem coverB9 (c : Dev nD) (t : Fin cfg0.N) (h : ¬t.val = 0) (s0 : Vec F S256x1024 .f32) (s1 : Vec F S256x1024 .bf16) (y : S512x512.Idx) : ∃ pc ∈ (atB m c t h s0 s1).2.2.2.1, y ∈ pc.1.set :=
  View.cover_of_tiledL (atB m c t h s0 s1).2.2.2.1 S256x512.size (by sl_kernel_rfl) y

theorem coverB10 (c : Dev nD) (t : Fin cfg0.N) (h : ¬t.val = 0) (s0 : Vec F S256x1024 .f32) (s1 : Vec F S256x1024 .bf16) (y : S512x512.Idx) : ∃ pc ∈ (atB m c t h s0 s1).2.2.2.2.1, y ∈ pc.1.set :=
  View.cover_of_tiledL (atB m c t h s0 s1).2.2.2.2.1 S256x512.size (by sl_kernel_rfl) y

theorem coverB11 (c : Dev nD) (t : Fin cfg0.N) (h : ¬t.val = 0) (s0 : Vec F S256x1024 .f32) (s1 : Vec F S256x1024 .bf16) (y : S512x1792.Idx) : ∃ pc ∈ (atB m c t h s0 s1).2.2.2.2.2.1, y ∈ pc.1.set :=
  View.cover_of_tiledL (atB m c t h s0 s1).2.2.2.2.2.1 S256x256.size (by sl_kernel_rfl) y

theorem coverB12 (c : Dev nD) (t : Fin cfg0.N) (h : ¬t.val = 0) (s0 : Vec F S256x1024 .f32) (s1 : Vec F S256x1024 .bf16) (y : S512x2048.Idx) : ∃ pc ∈ (atB m c t h s0 s1).2.2.2.2.2.2.1, y ∈ pc.1.set :=
  View.cover_of_tiledL (atB m c t h s0 s1).2.2.2.2.2.2.1 S256x512.size (by sl_kernel_rfl) y

theorem coverB13 (c : Dev nD) (t : Fin cfg0.N) (h : ¬t.val = 0) (s0 : Vec F S256x1024 .f32) (s1 : Vec F S256x1024 .bf16) (y : S512x1024.Idx) : ∃ pc ∈ (atB m c t h s0 s1).2.2.2.2.2.2.2.1, y ∈ pc.1.set :=
  View.cover_of_tiledL (atB m c t h s0 s1).2.2.2.2.2.2.2.1 S256x1024.size (by sl_kernel_rfl) y

theorem coverBX (c : Dev nD) (t : Fin cfg0.N) (h : ¬t.val = 0) (s0 : Vec F S256x1024 .f32) (s1 : Vec F S256x1024 .bf16) (y : S256x1024.Idx) : ∃ pc ∈ (atB m c t h s0 s1).2.2.2.2.2.2.2.2.1, y ∈ pc.1.set :=
  View.cover_of_tiledL (atB m c t h s0 s1).2.2.2.2.2.2.2.2.1 S256x1024.size (by sl_kernel_rfl) y

theorem coverBH (c : Dev nD) (t : Fin cfg0.N) (h : ¬t.val = 0) (s0 : Vec F S256x1024 .f32) (s1 : Vec F S256x1024 .bf16) (y : S256x1024.Idx) : ∃ pc ∈ (atB m c t h s0 s1).2.2.2.2.2.2.2.2.2.1, y ∈ pc.1.set :=
  View.cover_of_tiledL (atB m c t h s0 s1).2.2.2.2.2.2.2.2.2.1 S256x1024.size (by sl_kernel_rfl) y

/-- Contents nothing depends on. -/
abbrev any (s : Shape) (e : EltTy) : Vec F s e := fun _ => Classical.arbitrary _

/-- The next tile's first half of normalised rows, as point `t` leaves it. -/
def xnAt (c : Dev nD) (t : Fin cfg0.N) : Vec F S256x1024 .f32 :=
  VS0_0.read (Elt F) (VS0_0.writes (Elt F) VS0_0.junk (if h : t.val = 0 then (atA m c t h).2.2.2.2.2.2.2.2.1 else (atB m c t h (any _ _) (any _ _)).2.2.2.2.2.2.2.2.1))

/-- The next tile's first half of modulated rows, as point `t` leaves it. -/
def hbAt (c : Dev nD) (t : Fin cfg0.N) : Vec F S256x1024 .bf16 :=
  VS0_1.read (Elt F) (VS0_1.writes (Elt F) VS0_1.junk (if h : t.val = 0 then (atA m c t h).2.2.2.2.2.2.2.2.2.1 else (atB m c t h (any _ _) (any _ _)).2.2.2.2.2.2.2.2.2.1))

/-- What a later point leaves for the next does not depend on what the point before left. -/
theorem kept_indep (c : Dev nD) (t : Fin cfg0.N) (h : ¬t.val = 0) (s0 s0' : Vec F S256x1024 .f32) (s1 s1' : Vec F S256x1024 .bf16) :
    (atB m c t h s0 s1).2.2.2.2.2.2.2.2.1 = (atB m c t h s0' s1').2.2.2.2.2.2.2.2.1 ∧ (atB m c t h s0 s1).2.2.2.2.2.2.2.2.2.1 = (atB m c t h s0' s1').2.2.2.2.2.2.2.2.2.1 := by
  unfold atB kernelRun0_B
  simp only [and_self]

theorem xnAt_later (c : Dev nD) (t : Fin cfg0.N) (h : ¬t.val = 0) (s0 : Vec F S256x1024 .f32) (s1 : Vec F S256x1024 .bf16) :
    xnAt m c t = VS0_0.read (Elt F) (VS0_0.writes (Elt F) VS0_0.junk (atB m c t h s0 s1).2.2.2.2.2.2.2.2.1) := by
  unfold xnAt
  exact congrArg (fun L => VS0_0.read (Elt F) (VS0_0.writes (Elt F) VS0_0.junk L)) ((dif_neg h).trans (kept_indep m c t h (any _ _) s0 (any _ _) s1).1)

theorem hbAt_later (c : Dev nD) (t : Fin cfg0.N) (h : ¬t.val = 0) (s0 : Vec F S256x1024 .f32) (s1 : Vec F S256x1024 .bf16) :
    hbAt m c t = VS0_1.read (Elt F) (VS0_1.writes (Elt F) VS0_1.junk (atB m c t h s0 s1).2.2.2.2.2.2.2.2.2.1) := by
  unfold hbAt
  exact congrArg (fun L => VS0_1.read (Elt F) (VS0_1.writes (Elt F) VS0_1.junk L)) ((dif_neg h).trans (kept_indep m c t h (any _ _) s0 (any _ _) s1).2)

/-- The point before. -/
abbrev pred (t : Fin cfg0.N) : Fin cfg0.N := ⟨t.val - 1, Nat.lt_of_le_of_lt (Nat.sub_le _ _) t.isLt⟩

/-- A later point's run on what the point before left. -/
def later (c : Dev nD) (t : Fin cfg0.N) (h : ¬t.val = 0) := atB m c t h (xnAt m c (pred t)) (hbAt m c (pred t))

theorem later_eq_6 (c : Dev nD) (t : Fin cfg0.N) (h : ¬t.val = 0) : (later m c t h).1 = (atB m c t h (xnAt m c (pred t)) (hbAt m c (pred t))).1 := rfl
theorem later_eq_7 (c : Dev nD) (t : Fin cfg0.N) (h : ¬t.val = 0) : (later m c t h).2.1 = (atB m c t h (xnAt m c (pred t)) (hbAt m c (pred t))).2.1 := rfl
theorem later_eq_8 (c : Dev nD) (t : Fin cfg0.N) (h : ¬t.val = 0) : (later m c t h).2.2.1 = (atB m c t h (xnAt m c (pred t)) (hbAt m c (pred t))).2.2.1 := rfl
theorem later_eq_9 (c : Dev nD) (t : Fin cfg0.N) (h : ¬t.val = 0) : (later m c t h).2.2.2.1 = (atB m c t h (xnAt m c (pred t)) (hbAt m c (pred t))).2.2.2.1 := rfl
theorem later_eq_10 (c : Dev nD) (t : Fin cfg0.N) (h : ¬t.val = 0) : (later m c t h).2.2.2.2.1 = (atB m c t h (xnAt m c (pred t)) (hbAt m c (pred t))).2.2.2.2.1 := rfl
theorem later_eq_11 (c : Dev nD) (t : Fin cfg0.N) (h : ¬t.val = 0) : (later m c t h).2.2.2.2.2.1 = (atB m c t h (xnAt m c (pred t)) (hbAt m c (pred t))).2.2.2.2.2.1 := rfl
theorem later_eq_12 (c : Dev nD) (t : Fin cfg0.N) (h : ¬t.val = 0) : (later m c t h).2.2.2.2.2.2.1 = (atB m c t h (xnAt m c (pred t)) (hbAt m c (pred t))).2.2.2.2.2.2.1 := rfl
theorem later_eq_13 (c : Dev nD) (t : Fin cfg0.N) (h : ¬t.val = 0) : (later m c t h).2.2.2.2.2.2.2.1 = (atB m c t h (xnAt m c (pred t)) (hbAt m c (pred t))).2.2.2.2.2.2.2.1 := rfl

/-- The block of the scaled queries that point `t` writes. -/
def qAt (c : Dev nD) (t : Fin cfg0.N) : Vec F S512x512 .bf16 :=
  VO0_6.read (Elt F) (VO0_6.writes (Elt F) VO0_6.junk (if h : t.val = 0 then [] else (later m c t h).1))

/-- The block of the extended keys that point `t` writes. -/
def keyAt (c : Dev nD) (t : Fin cfg0.N) : Vec F S512x512 .bf16 :=
  VO0_7.read (Elt F) (VO0_7.writes (Elt F) VO0_7.junk (if h : t.val = 0 then (atA m c t h).2.1 else (later m c t h).2.1))

/-- The block of the extended values that point `t` writes. -/
def valAt (c : Dev nD) (t : Fin cfg0.N) : Vec F S512x512 .bf16 :=
  VO0_8.read (Elt F) (VO0_8.writes (Elt F) VO0_8.junk (if h : t.val = 0 then (atA m c t h).2.2.1 else (later m c t h).2.2.1))

/-- The block of the last keys that point `t` writes. -/
def key32At (c : Dev nD) (t : Fin cfg0.N) : Vec F S512x512 .f32 :=
  VO0_9.read (Elt F) (VO0_9.writes (Elt F) VO0_9.junk (if h : t.val = 0 then [] else (later m c t h).2.2.2.1))

/-- The block of the last values that point `t` writes. -/
def val32At (c : Dev nD) (t : Fin cfg0.N) : Vec F S512x512 .f32 :=
  VO0_10.read (Elt F) (VO0_10.writes (Elt F) VO0_10.junk (if h : t.val = 0 then [] else (later m c t h).2.2.2.2.1))

/-- The block of the time mixing's columns that point `t` writes. -/
def mixAt (c : Dev nD) (t : Fin cfg0.N) : Vec F S512x1792 .f32 :=
  VO0_11.read (Elt F) (VO0_11.writes (Elt F) VO0_11.junk (if h : t.val = 0 then [] else (later m c t h).2.2.2.2.2.1))

/-- The block of the gates that point `t` writes. -/
def gateAt (c : Dev nD) (t : Fin cfg0.N) : Vec F S512x2048 .f32 :=
  VO0_12.read (Elt F) (VO0_12.writes (Elt F) VO0_12.junk (if h : t.val = 0 then [] else (later m c t h).2.2.2.2.2.2.1))

/-- The block of the normalised rows that point `t` writes. -/
def rowAt (c : Dev nD) (t : Fin cfg0.N) : Vec F S512x1024 .f32 :=
  VO0_13.read (Elt F) (VO0_13.writes (Elt F) VO0_13.junk (if h : t.val = 0 then [] else (later m c t h).2.2.2.2.2.2.2.1))

theorem later_6 (c : Dev nD) (t : Fin cfg0.N) (h : ¬t.val = 0) (f) :
    (ms0_6 t).view.read (Elt F) ((ms0_6 t).view.writes (Elt F) f (later m c t h).1) = qAt m c t := by
  unfold qAt
  exact (View.read_writes_of_cover _ _ _ _ _ (coverB6 m c t h _ _)).trans
    (congrArg (fun L => VO0_6.read (Elt F) (VO0_6.writes (Elt F) VO0_6.junk L)) (dif_neg (e := fun h => (later m c t h).1) h).symm)

theorem later_7 (c : Dev nD) (t : Fin cfg0.N) (h : ¬t.val = 0) (f) :
    (ms0_7 t).view.read (Elt F) ((ms0_7 t).view.writes (Elt F) f (later m c t h).2.1) = keyAt m c t := by
  unfold keyAt
  exact (View.read_writes_of_cover _ _ _ _ _ (coverB7 m c t h _ _)).trans
    (congrArg (fun L => VO0_7.read (Elt F) (VO0_7.writes (Elt F) VO0_7.junk L)) (dif_neg (e := fun h => (later m c t h).2.1) h).symm)

theorem later_8 (c : Dev nD) (t : Fin cfg0.N) (h : ¬t.val = 0) (f) :
    (ms0_8 t).view.read (Elt F) ((ms0_8 t).view.writes (Elt F) f (later m c t h).2.2.1) = valAt m c t := by
  unfold valAt
  exact (View.read_writes_of_cover _ _ _ _ _ (coverB8 m c t h _ _)).trans
    (congrArg (fun L => VO0_8.read (Elt F) (VO0_8.writes (Elt F) VO0_8.junk L)) (dif_neg (e := fun h => (later m c t h).2.2.1) h).symm)

theorem later_9 (c : Dev nD) (t : Fin cfg0.N) (h : ¬t.val = 0) (f) :
    (ms0_9 t).view.read (Elt F) ((ms0_9 t).view.writes (Elt F) f (later m c t h).2.2.2.1) = key32At m c t := by
  unfold key32At
  exact (View.read_writes_of_cover _ _ _ _ _ (coverB9 m c t h _ _)).trans
    (congrArg (fun L => VO0_9.read (Elt F) (VO0_9.writes (Elt F) VO0_9.junk L)) (dif_neg (e := fun h => (later m c t h).2.2.2.1) h).symm)

theorem later_10 (c : Dev nD) (t : Fin cfg0.N) (h : ¬t.val = 0) (f) :
    (ms0_10 t).view.read (Elt F) ((ms0_10 t).view.writes (Elt F) f (later m c t h).2.2.2.2.1) = val32At m c t := by
  unfold val32At
  exact (View.read_writes_of_cover _ _ _ _ _ (coverB10 m c t h _ _)).trans
    (congrArg (fun L => VO0_10.read (Elt F) (VO0_10.writes (Elt F) VO0_10.junk L)) (dif_neg (e := fun h => (later m c t h).2.2.2.2.1) h).symm)

theorem later_11 (c : Dev nD) (t : Fin cfg0.N) (h : ¬t.val = 0) (f) :
    (ms0_11 t).view.read (Elt F) ((ms0_11 t).view.writes (Elt F) f (later m c t h).2.2.2.2.2.1) = mixAt m c t := by
  unfold mixAt
  exact (View.read_writes_of_cover _ _ _ _ _ (coverB11 m c t h _ _)).trans
    (congrArg (fun L => VO0_11.read (Elt F) (VO0_11.writes (Elt F) VO0_11.junk L)) (dif_neg (e := fun h => (later m c t h).2.2.2.2.2.1) h).symm)

theorem later_12 (c : Dev nD) (t : Fin cfg0.N) (h : ¬t.val = 0) (f) :
    (ms0_12 t).view.read (Elt F) ((ms0_12 t).view.writes (Elt F) f (later m c t h).2.2.2.2.2.2.1) = gateAt m c t := by
  unfold gateAt
  exact (View.read_writes_of_cover _ _ _ _ _ (coverB12 m c t h _ _)).trans
    (congrArg (fun L => VO0_12.read (Elt F) (VO0_12.writes (Elt F) VO0_12.junk L)) (dif_neg (e := fun h => (later m c t h).2.2.2.2.2.2.1) h).symm)

theorem later_13 (c : Dev nD) (t : Fin cfg0.N) (h : ¬t.val = 0) (f) :
    (ms0_13 t).view.read (Elt F) ((ms0_13 t).view.writes (Elt F) f (later m c t h).2.2.2.2.2.2.2.1) = rowAt m c t := by
  unfold rowAt
  exact (View.read_writes_of_cover _ _ _ _ _ (coverB13 m c t h _ _)).trans
    (congrArg (fun L => VO0_13.read (Elt F) (VO0_13.writes (Elt F) VO0_13.junk L)) (dif_neg (e := fun h => (later m c t h).2.2.2.2.2.2.2.1) h).symm)

theorem later_xnAt (c : Dev nD) (t : Fin cfg0.N) (h : ¬t.val = 0) (f) :
    VS0_0.read (Elt F) (VS0_0.writes (Elt F) f (later m c t h).2.2.2.2.2.2.2.2.1) = xnAt m c t :=
  (View.read_writes_of_cover _ _ _ _ _ (coverBX m c t h _ _)).trans (xnAt_later m c t h _ _).symm

theorem later_hbAt (c : Dev nD) (t : Fin cfg0.N) (h : ¬t.val = 0) (f) :
    VS0_1.read (Elt F) (VS0_1.writes (Elt F) f (later m c t h).2.2.2.2.2.2.2.2.2.1) = hbAt m c t :=
  (View.read_writes_of_cover _ _ _ _ _ (coverBH m c t h _ _)).trans (hbAt_later m c t h _ _).symm

attribute [irreducible] later

end Cert.InIdeal.Run

end
-- ==== Proof.InBlocks.lean ====
/-
  What one grid point of the projecting call writes: the stored pieces of each buffer, read at an index.
-/
module

public import proofs.«01_k».proof.Proof.InLayers
public import proofs.«01_k».proof.Proof.InState

@[expose] public section

set_option maxRecDepth 16384

noncomputable section

namespace Cert.InIdeal.Blocks

open Cert.InIdeal Cert.InIdeal.Gen Cert.InIdeal.Run Cert.InIdeal.Layers Idealize.ShloMosaic Idealize.ShloMosaic.TcCoe

variable (m : (ℓ : Loc nD τ sig) → Buf (Elt Ideal) ℓ) (c : Dev nD) (t : Fin cfg0.N)

/-- The windows' blocks at a grid point. -/
abbrev b0 : Vec Ideal S512x1024 .f32 := iblk m c 0 t
abbrev b1 : Vec Ideal S512x1024 .f32 := iblk m c 1 t
abbrev b2 : Vec Ideal S1x6x1024 .f32 := iblk m c 2 t
abbrev b3 : Vec Ideal S1x1024 .f32 := iblk m c 3 t
abbrev b4 : Vec Ideal S1x1024 .f32 := iblk m c 4 t
abbrev b5 : Vec Ideal S1024x5376 .bf16 := iblk m c 5 t

/-- The tile's rows under the modulation: its first half as the point before left it, its second from the block. -/
def tile (s1 : Vec Ideal S256x1024 .bf16) (r : Fin 512) (k : Fin 1024) : EReal :=
  if h : r.val < 256 then s1 (ix2 ⟨r.val, h⟩ k) else rowH (b0 m c t) (b2 m c t) (b3 m c t) (b4 m c t) r k

/-- The same after the layer norm. -/
def tileN (s0 : Vec Ideal S256x1024 .f32) (r : Fin 512) (k : Fin 1024) : EReal :=
  if h : r.val < 256 then s0 (ix2 ⟨r.val, h⟩ k) else rowN (b0 m c t) (b3 m c t) (b4 m c t) r k

theorem tile_front (s1 : Vec Ideal S256x1024 .bf16) (Y0 : Fin 512) (r : Fin 256) (k : Fin 1024) (h : Y0.val = 0 + r.val) :
    s1 (ix2 r k) = tile m c t s1 Y0 k := by
  have hr := r.isLt
  refine Eq.trans ?_ (dif_pos (show Y0.val < 256 by omega)).symm
  exact congrArg (fun z => s1 (ix2 z k)) (Fin.ext (by show r.val = Y0.val; omega))

theorem tile_back (s1 : Vec Ideal S256x1024 .bf16) (Y0 : Fin 512) (r : Fin 256) (k : Fin 1024) (h : Y0.val = 256 + r.val) :
    halfH (b0 m c t) (b2 m c t) (b3 m c t) (b4 m c t) 1 (ix2 r k) = tile m c t s1 Y0 k := by
  unfold tile
  rw [dif_neg (show ¬Y0.val < 256 by omega), halfH_at _ _ _ _ 1 Y0 r k h]

theorem norm_front (s0 : Vec Ideal S256x1024 .f32) (Y0 : Fin 512) (Y1 : Fin 1024) (x : S256x1024.Idx) (h0 : Y0.val = (x 0).val) (h1 : Y1.val = (x 1).val) :
    s0 x = tileN m c t s0 Y0 Y1 := by
  have hr : (x 0).val < 256 := (x 0).isLt
  unfold tileN
  rw [dif_pos (show Y0.val < 256 by omega)]
  refine congrArg s0 ?_
  funext a
  fin_cases a
  · exact Fin.ext h0.symm
  · exact Fin.ext h1.symm

theorem norm_back (s0 : Vec Ideal S256x1024 .f32) (Y0 : Fin 512) (Y1 : Fin 1024) (x : S256x1024.Idx) (h0 : Y0.val = 256 + (x 0).val) (h1 : Y1.val = (x 1).val) :
    half (b0 m c t) (b3 m c t) (b4 m c t) 1 x = tileN m c t s0 Y0 Y1 := by
  obtain ⟨r, d, rfl⟩ : ∃ (r : Fin 256) (d : Fin 1024), x = ix2 r d := ⟨x 0, x 1, by funext a; fin_cases a <;> rfl⟩
  have e : Y1 = d := Fin.ext h1
  unfold tileN
  rw [dif_neg (show ¬Y0.val < 256 by omega), half_at _ _ _ 1 Y0 r d h0, e]

/-- What the next tile's first half is, from the block. -/
theorem next_norm (y : S256x1024.Idx) : shapeCast S256x1024 (half (b1 m c t) (b3 m c t) (b4 m c t) 0) shapeCasts_S256x1024_S256x1024 y
    = rowN (b1 m c t) (b3 m c t) (b4 m c t) ⟨(y 0).val, by have : (y 0).val < 256 := (y 0).isLt; omega⟩ (y 1) := by
  obtain ⟨r, d, rfl⟩ : ∃ (r : Fin 256) (d : Fin 1024), y = ix2 r d := ⟨y 0, y 1, by funext a; fin_cases a <;> rfl⟩
  rw [shapeCast_id]
  exact half_at _ _ _ 0 _ r d (by show r.val = 256 * 0 + r.val; omega)

theorem next_row (y : S256x1024.Idx) : shapeCast S256x1024 (halfH (b1 m c t) (b2 m c t) (b3 m c t) (b4 m c t) 0) shapeCasts_S256x1024_S256x1024 y
    = rowH (b1 m c t) (b2 m c t) (b3 m c t) (b4 m c t) ⟨(y 0).val, by have : (y 0).val < 256 := (y 0).isLt; omega⟩ (y 1) := by
  obtain ⟨r, d, rfl⟩ : ∃ (r : Fin 256) (d : Fin 1024), y = ix2 r d := ⟨y 0, y 1, by funext a; fin_cases a <;> rfl⟩
  rw [shapeCast_id]
  exact halfH_at _ _ _ _ 0 _ r d (by show r.val = 256 * 0 + r.val; omega)

theorem read0 (s0 : Vec Ideal S256x1024 .f32) : View.read (Elt Ideal) (View.whole cc0_scratch0) ((Memref.isWhole_whole cc0_scratch0).unread s0) = s0 :=
  Memref.IsWhole.read_unread _ _

theorem read1 (s1 : Vec Ideal S256x1024 .bf16) : View.read (Elt Ideal) (View.whole cc0_scratch1) ((Memref.isWhole_whole cc0_scratch1).unread s1) = s1 :=
  Memref.IsWhole.read_unread _ _

/-- A later point's scaled queries. -/
theorem q_B (h : ¬t.val = 0) (s0 : Vec Ideal S256x1024 .f32) (s1 : Vec Ideal S256x1024 .bf16) (y : S512x512.Idx) :
    View.canon (atB m c t h s0 s1).1 y = (∑ k : Fin 1024, tile m c t s1 (y 0) k * b5 m c t (ix2 k ⟨0 + (y 1).val, by have : (y 1).val < 512 := (y 1).isLt; omega⟩)) * InSpec.scale := by
  have k0 := fun (p : ℕ) (hp : p + 512 ≤ 5376) => query_at (tile m c t s1) s1 (b5 m c t) 0 (tile_front m c t s1) p hp (y 0) ⟨0 + (y 1).val, by have : (y 1).val < 512 := (y 1).isLt; omega⟩
  have k1 := fun (p : ℕ) (hp : p + 512 ≤ 5376) => query_at (tile m c t s1) _ (b5 m c t) 256 (tile_back m c t s1) p hp (y 0) ⟨0 + (y 1).val, by have : (y 1).val < 512 := (y 1).isLt; omega⟩
  unfold atB kernelRun0_B
  dsimp only
  frame_out
  canon_tiles x h
  · exact k1 0 (by omega) x (by omega) (by show 0 + (y 1).val = 0 + (x 1).val; omega)
  · rw [read1 s1]
    exact k0 0 (by omega) x (by omega) (by show 0 + (y 1).val = 0 + (x 1).val; omega)

/-- Its keys, in either format. -/
theorem k_B (h : ¬t.val = 0) (s0 : Vec Ideal S256x1024 .f32) (s1 : Vec Ideal S256x1024 .bf16) (y : S512x512.Idx) :
    View.canon (atB m c t h s0 s1).2.1 y = ∑ k : Fin 1024, tile m c t s1 (y 0) k * b5 m c t (ix2 k ⟨512 + (y 1).val, by have : (y 1).val < 512 := (y 1).isLt; omega⟩) := by
  have k0 := fun (p : ℕ) (hp : p + 512 ≤ 5376) => wide_at (tile m c t s1) s1 (b5 m c t) 0 (tile_front m c t s1) p hp (y 0) ⟨512 + (y 1).val, by have : (y 1).val < 512 := (y 1).isLt; omega⟩
  have k1 := fun (p : ℕ) (hp : p + 512 ≤ 5376) => wide_at (tile m c t s1) _ (b5 m c t) 256 (tile_back m c t s1) p hp (y 0) ⟨512 + (y 1).val, by have : (y 1).val < 512 := (y 1).isLt; omega⟩
  unfold atB kernelRun0_B
  dsimp only
  frame_out
  canon_tiles x h
  · exact k1 512 (by omega) x (by omega) (by show 512 + (y 1).val = 512 + (x 1).val; omega)
  · rw [read1 s1]
    exact k0 512 (by omega) x (by omega) (by show 512 + (y 1).val = 512 + (x 1).val; omega)

theorem k32_B (h : ¬t.val = 0) (s0 : Vec Ideal S256x1024 .f32) (s1 : Vec Ideal S256x1024 .bf16) (y : S512x512.Idx) :
    View.canon (atB m c t h s0 s1).2.2.2.1 y = ∑ k : Fin 1024, tile m c t s1 (y 0) k * b5 m c t (ix2 k ⟨512 + (y 1).val, by have : (y 1).val < 512 := (y 1).isLt; omega⟩) := by
  have k0 := fun (p : ℕ) (hp : p + 512 ≤ 5376) => wide_at (tile m c t s1) s1 (b5 m c t) 0 (tile_front m c t s1) p hp (y 0) ⟨512 + (y 1).val, by have : (y 1).val < 512 := (y 1).isLt; omega⟩
  have k1 := fun (p : ℕ) (hp : p + 512 ≤ 5376) => wide_at (tile m c t s1) _ (b5 m c t) 256 (tile_back m c t s1) p hp (y 0) ⟨512 + (y 1).val, by have : (y 1).val < 512 := (y 1).isLt; omega⟩
  unfold atB kernelRun0_B
  dsimp only
  frame_out
  canon_tiles x h
  · exact k1 512 (by omega) x (by omega) (by show 512 + (y 1).val = 512 + (x 1).val; omega)
  · rw [read1 s1]
    exact k0 512 (by omega) x (by omega) (by show 512 + (y 1).val = 512 + (x 1).val; omega)

/-- Its values. -/
theorem v_B (h : ¬t.val = 0) (s0 : Vec Ideal S256x1024 .f32) (s1 : Vec Ideal S256x1024 .bf16) (y : S512x512.Idx) :
    View.canon (atB m c t h s0 s1).2.2.1 y = ∑ k : Fin 1024, tile m c t s1 (y 0) k * b5 m c t (ix2 k ⟨1024 + (y 1).val, by have : (y 1).val < 512 := (y 1).isLt; omega⟩) := by
  have k0 := fun (p : ℕ) (hp : p + 512 ≤ 5376) => wide_at (tile m c t s1) s1 (b5 m c t) 0 (tile_front m c t s1) p hp (y 0) ⟨1024 + (y 1).val, by have : (y 1).val < 512 := (y 1).isLt; omega⟩
  have k1 := fun (p : ℕ) (hp : p + 512 ≤ 5376) => wide_at (tile m c t s1) _ (b5 m c t) 256 (tile_back m c t s1) p hp (y 0) ⟨1024 + (y 1).val, by have : (y 1).val < 512 := (y 1).isLt; omega⟩
  unfold atB kernelRun0_B
  dsimp only
  frame_out
  canon_tiles x h
  · exact k1 1024 (by omega) x (by omega) (by show 1024 + (y 1).val = 1024 + (x 1).val; omega)
  · rw [read1 s1]
    exact k0 1024 (by omega) x (by omega) (by show 1024 + (y 1).val = 1024 + (x 1).val; omega)

theorem v32_B (h : ¬t.val = 0) (s0 : Vec Ideal S256x1024 .f32) (s1 : Vec Ideal S256x1024 .bf16) (y : S512x512.Idx) :
    View.canon (atB m c t h s0 s1).2.2.2.2.1 y = ∑ k : Fin 1024, tile m c t s1 (y 0) k * b5 m c t (ix2 k ⟨1024 + (y 1).val, by have : (y 1).val < 512 := (y 1).isLt; omega⟩) := by
  have k0 := fun (p : ℕ) (hp : p + 512 ≤ 5376) => wide_at (tile m c t s1) s1 (b5 m c t) 0 (tile_front m c t s1) p hp (y 0) ⟨1024 + (y 1).val, by have : (y 1).val < 512 := (y 1).isLt; omega⟩
  have k1 := fun (p : ℕ) (hp : p + 512 ≤ 5376) => wide_at (tile m c t s1) _ (b5 m c t) 256 (tile_back m c t s1) p hp (y 0) ⟨1024 + (y 1).val, by have : (y 1).val < 512 := (y 1).isLt; omega⟩
  unfold atB kernelRun0_B
  dsimp only
  frame_out
  canon_tiles x h
  · exact k1 1024 (by omega) x (by omega) (by show 1024 + (y 1).val = 1024 + (x 1).val; omega)
  · rw [read1 s1]
    exact k0 1024 (by omega) x (by omega) (by show 1024 + (y 1).val = 1024 + (x 1).val; omega)

/-- Its mixing columns. -/
theorem p_B (h : ¬t.val = 0) (s0 : Vec Ideal S256x1024 .f32) (s1 : Vec Ideal S256x1024 .bf16) (y : S512x1792.Idx) :
    View.canon (atB m c t h s0 s1).2.2.2.2.2.1 y = ∑ k : Fin 1024, tile m c t s1 (y 0) k * b5 m c t (ix2 k ⟨1536 + (y 1).val, by have : (y 1).val < 1792 := (y 1).isLt; omega⟩) := by
  have k0 := fun (p : ℕ) (hp : p + 256 ≤ 5376) => narrow_at (tile m c t s1) s1 (b5 m c t) 0 (tile_front m c t s1) p hp (y 0) ⟨1536 + (y 1).val, by have : (y 1).val < 1792 := (y 1).isLt; omega⟩
  have k1 := fun (p : ℕ) (hp : p + 256 ≤ 5376) => narrow_at (tile m c t s1) _ (b5 m c t) 256 (tile_back m c t s1) p hp (y 0) ⟨1536 + (y 1).val, by have : (y 1).val < 1792 := (y 1).isLt; omega⟩
  unfold atB kernelRun0_B
  dsimp only
  frame_out
  canon_tiles x h
  · exact k1 3072 (by omega) x (by omega) (by show 1536 + (y 1).val = 3072 + (x 1).val; omega)
  · exact k1 2816 (by omega) x (by omega) (by show 1536 + (y 1).val = 2816 + (x 1).val; omega)
  · exact k1 2560 (by omega) x (by omega) (by show 1536 + (y 1).val = 2560 + (x 1).val; omega)
  · exact k1 2304 (by omega) x (by omega) (by show 1536 + (y 1).val = 2304 + (x 1).val; omega)
  · exact k1 2048 (by omega) x (by omega) (by show 1536 + (y 1).val = 2048 + (x 1).val; omega)
  · exact k1 1792 (by omega) x (by omega) (by show 1536 + (y 1).val = 1792 + (x 1).val; omega)
  · exact k1 1536 (by omega) x (by omega) (by show 1536 + (y 1).val = 1536 + (x 1).val; omega)
  · rw [read1 s1]
    exact k0 3072 (by omega) x (by omega) (by show 1536 + (y 1).val = 3072 + (x 1).val; omega)
  · rw [read1 s1]
    exact k0 2816 (by omega) x (by omega) (by show 1536 + (y 1).val = 2816 + (x 1).val; omega)
  · rw [read1 s1]
    exact k0 2560 (by omega) x (by omega) (by show 1536 + (y 1).val = 2560 + (x 1).val; omega)
  · rw [read1 s1]
    exact k0 2304 (by omega) x (by omega) (by show 1536 + (y 1).val = 2304 + (x 1).val; omega)
  · rw [read1 s1]
    exact k0 2048 (by omega) x (by omega) (by show 1536 + (y 1).val = 2048 + (x 1).val; omega)
  · rw [read1 s1]
    exact k0 1792 (by omega) x (by omega) (by show 1536 + (y 1).val = 1792 + (x 1).val; omega)
  · rw [read1 s1]
    exact k0 1536 (by omega) x (by omega) (by show 1536 + (y 1).val = 1536 + (x 1).val; omega)

/-- Its gates. -/
theorem g_B (h : ¬t.val = 0) (s0 : Vec Ideal S256x1024 .f32) (s1 : Vec Ideal S256x1024 .bf16) (y : S512x2048.Idx) :
    View.canon (atB m c t h s0 s1).2.2.2.2.2.2.1 y = Row.logistic (∑ k : Fin 1024, tile m c t s1 (y 0) k * b5 m c t (ix2 k ⟨3328 + (y 1).val, by have : (y 1).val < 2048 := (y 1).isLt; omega⟩)) := by
  have k0 := fun (p : ℕ) (hp : p + 512 ≤ 5376) => gate_at (tile m c t s1) s1 (b5 m c t) 0 (tile_front m c t s1) p hp (y 0) ⟨3328 + (y 1).val, by have : (y 1).val < 2048 := (y 1).isLt; omega⟩
  have k1 := fun (p : ℕ) (hp : p + 512 ≤ 5376) => gate_at (tile m c t s1) _ (b5 m c t) 256 (tile_back m c t s1) p hp (y 0) ⟨3328 + (y 1).val, by have : (y 1).val < 2048 := (y 1).isLt; omega⟩
  unfold atB kernelRun0_B
  dsimp only
  frame_out
  canon_tiles x h
  · exact k1 4864 (by omega) x (by omega) (by show 3328 + (y 1).val = 4864 + (x 1).val; omega)
  · exact k1 4352 (by omega) x (by omega) (by show 3328 + (y 1).val = 4352 + (x 1).val; omega)
  · exact k1 3840 (by omega) x (by omega) (by show 3328 + (y 1).val = 3840 + (x 1).val; omega)
  · exact k1 3328 (by omega) x (by omega) (by show 3328 + (y 1).val = 3328 + (x 1).val; omega)
  · rw [read1 s1]
    exact k0 4864 (by omega) x (by omega) (by show 3328 + (y 1).val = 4864 + (x 1).val; omega)
  · rw [read1 s1]
    exact k0 4352 (by omega) x (by omega) (by show 3328 + (y 1).val = 4352 + (x 1).val; omega)
  · rw [read1 s1]
    exact k0 3840 (by omega) x (by omega) (by show 3328 + (y 1).val = 3840 + (x 1).val; omega)
  · rw [read1 s1]
    exact k0 3328 (by omega) x (by omega) (by show 3328 + (y 1).val = 3328 + (x 1).val; omega)

/-- Its rows. -/
theorem x_B (h : ¬t.val = 0) (s0 : Vec Ideal S256x1024 .f32) (s1 : Vec Ideal S256x1024 .bf16) (y : S512x1024.Idx) :
    View.canon (atB m c t h s0 s1).2.2.2.2.2.2.2.1 y = tileN m c t s0 (y 0) (y 1) := by
  unfold atB kernelRun0_B
  dsimp only
  frame_out
  canon_tiles x h
  · exact norm_back m c t s0 (y 0) (y 1) x (by omega) (by omega)
  · rw [read0 s0]
    exact norm_front m c t s0 (y 0) (y 1) x (by omega) (by omega)

/-- What a later point leaves for the next. -/
theorem xn_B (h : ¬t.val = 0) (s0 : Vec Ideal S256x1024 .f32) (s1 : Vec Ideal S256x1024 .bf16) (y : S256x1024.Idx) : View.canon (atB m c t h s0 s1).2.2.2.2.2.2.2.2.1 y
    = rowN (b1 m c t) (b3 m c t) (b4 m c t) ⟨(y 0).val, by have : (y 0).val < 256 := (y 0).isLt; omega⟩ (y 1) := by
  unfold atB kernelRun0_B
  dsimp only
  frame_out
  exact next_norm m c t y

theorem hb_B (h : ¬t.val = 0) (s0 : Vec Ideal S256x1024 .f32) (s1 : Vec Ideal S256x1024 .bf16) (y : S256x1024.Idx) : View.canon (atB m c t h s0 s1).2.2.2.2.2.2.2.2.2.1 y
    = rowH (b1 m c t) (b2 m c t) (b3 m c t) (b4 m c t) ⟨(y 0).val, by have : (y 0).val < 256 := (y 0).isLt; omega⟩ (y 1) := by
  unfold atB kernelRun0_B
  dsimp only
  frame_out
  exact next_row m c t y

/-- What the first point leaves for the next. -/
theorem xn_A (h : t.val = 0) (y : S256x1024.Idx) : View.canon (atA m c t h).2.2.2.2.2.2.2.2.1 y
    = rowN (b1 m c t) (b3 m c t) (b4 m c t) ⟨(y 0).val, by have : (y 0).val < 256 := (y 0).isLt; omega⟩ (y 1) := by
  unfold atA kernelRun0_A
  dsimp only
  frame_out
  exact next_norm m c t y

theorem hb_A (h : t.val = 0) (y : S256x1024.Idx) : View.canon (atA m c t h).2.2.2.2.2.2.2.2.2.1 y
    = rowH (b1 m c t) (b2 m c t) (b3 m c t) (b4 m c t) ⟨(y 0).val, by have : (y 0).val < 256 := (y 0).isLt; omega⟩ (y 1) := by
  unfold atA kernelRun0_A
  dsimp only
  frame_out
  exact next_row m c t y

/-- The first point's keys and values: the rows of zeros before the sequence. -/
theorem k_A (h : t.val = 0) (y : S512x512.Idx) : View.canon (atA m c t h).2.1 y = 0 := by
  have key : k0_pay8 (F := Ideal) y = 0 := by
    unfold k0_pay8
    pointwise
  unfold atA kernelRun0_A
  dsimp only
  frame_out
  exact key

theorem v_A (h : t.val = 0) (y : S512x512.Idx) : View.canon (atA m c t h).2.2.1 y = 0 := by
  have key : k0_pay9 (F := Ideal) y = 0 := by
    unfold k0_pay9
    pointwise
  unfold atA kernelRun0_A
  dsimp only
  frame_out
  exact key

end Cert.InIdeal.Blocks

end
-- ==== Proof.InFrame.lean ====
module

public import proofs.«01_k».proof.Proof.InState

@[expose] public section

/-! The in-projection's run over its grid: the contents of its buffers at every point, and where its arrays end. -/

set_option maxRecDepth 16384

noncomputable section

namespace Cert.InIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.InIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the scratch buffers hold after point `t`. -/
def kept (c : Dev nD) (t : Fin cfg0.N) : sProp 𝕄 :=
  iprop((owns (c : Thread nD τ) scM0_0 fullShare (xnAt m c t) ∗ owns (c : Thread nD τ) scM0_1 fullShare (hbAt m c t)) ∗ (∃ r, prngReg c r))

/-- What they hold between points. -/
def inv (c : Dev nD) : (n : ℕ) → n ≤ cfg0.N → sProp 𝕄
  | 0, _ => Pipeline.ΦA spec0 c
  | n + 1, hn => kept m c ⟨n, hn⟩

theorem inv_pos (c : Dev nD) (t : Fin cfg0.N) (h : ¬t.val = 0) : inv m c t.val t.isLt.le = kept m c (pred t) := by
  obtain ⟨n, hn⟩ := t
  cases n with
  | zero => exact absurd rfl h
  | succ n => rfl

/-- Each window's buffer after each point, over the arrays the call finds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAt m c t
    | ⟨7, _⟩ => keyAt m c t
    | ⟨8, _⟩ => valAt m c t
    | ⟨9, _⟩ => key32At m c t
    | ⟨10, _⟩ => val32At m c t
    | ⟨11, _⟩ => mixAt m c t
    | ⟨12, _⟩ => gateAt m c t
    | ⟨13, _⟩ => rowAt m c t
    | ⟨_ + 14, h⟩ => absurd h (Nat.not_lt.2 (Nat.le_add_left _ _))
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = qAt m c t := by dsimp only [dats]
theorem after_7 (c : Dev nD) (t : Fin cfg0.N) : (dats m 0 c).after 7 t = keyAt m c t := by dsimp only [dats]
theorem after_8 (c : Dev nD) (t : Fin cfg0.N) : (dats m 0 c).after 8 t = valAt m c t := by dsimp only [dats]
theorem after_9 (c : Dev nD) (t : Fin cfg0.N) : (dats m 0 c).after 9 t = key32At m c t := by dsimp only [dats]
theorem after_10 (c : Dev nD) (t : Fin cfg0.N) : (dats m 0 c).after 10 t = val32At m c t := by dsimp only [dats]
theorem after_11 (c : Dev nD) (t : Fin cfg0.N) : (dats m 0 c).after 11 t = mixAt m c t := by dsimp only [dats]
theorem after_12 (c : Dev nD) (t : Fin cfg0.N) : (dats m 0 c).after 12 t = gateAt m c t := by dsimp only [dats]
theorem after_13 (c : Dev nD) (t : Fin cfg0.N) : (dats m 0 c).after 13 t = rowAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]

/-- What the pipeline hands the body. -/
def given (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- What the body hands back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

theorem idle_first : ∀ t : Fin cfg0.N, t.val = 0 → (cfg0.idle 6 (grid0.coords t) = true ∧ (cfg0.win 6).flush t = false) ∧ (cfg0.idle 9 (grid0.coords t) = true ∧ (cfg0.win 9).flush t = false) ∧ (cfg0.idle 10 (grid0.coords t) = true ∧ (cfg0.win 10).flush t = false) ∧ (cfg0.idle 11 (grid0.coords t) = true ∧ (cfg0.win 11).flush t = false) ∧ (cfg0.idle 12 (grid0.coords t) = true ∧ (cfg0.win 12).flush t = false) ∧ (cfg0.idle 13 (grid0.coords t) = true ∧ (cfg0.win 13).flush t = false) := by decide +kernel

theorem live_keys : ∀ t : Fin cfg0.N, cfg0.idle 7 (grid0.coords t) = false ∧ cfg0.idle 8 (grid0.coords t) = false := by decide +kernel

theorem live_later : ∀ t : Fin cfg0.N, ¬t.val = 0 → cfg0.idle 6 (grid0.coords t) = false ∧ cfg0.idle 9 (grid0.coords t) = false ∧ cfg0.idle 10 (grid0.coords t) = false ∧ cfg0.idle 11 (grid0.coords t) = false ∧ cfg0.idle 12 (grid0.coords t) = false ∧ cfg0.idle 13 (grid0.coords t) = false := by decide +kernel

set_option maxHeartbeats 6400000 in
theorem body_first (c : Dev nD) (t : Fin cfg0.N) (h : t.val = 0) :
    given m c t ⊢ wp frame (wpE (defs₀ (F := F)) Variants.none c none) Set.univ (bodyAt0 t) (fun _ => returned m c t) := by
  unfold given returned bodyAt0
  simp only [before_0, before_1, before_2, before_3, before_4, before_5, leaves_0, leaves_1, leaves_2, leaves_3, leaves_4, leaves_5]
  have hi := idle_first t h
  rw [show (dats m 0 c).owesAt () t.succ = (dats m 0 c).owesAt () t.castSucc from rfl,
    show (dats m 0 c).Φ t.succ = kept m c t from rfl,
    show (dats m 0 c).Φ t.castSucc = Pipeline.ΦA spec0 c from by
      rw [show (dats m 0 c).Φ t.castSucc = inv m c t.val t.isLt.le from rfl]
      obtain ⟨n, hn⟩ := t
      obtain rfl : n = 0 := h
      rfl,
    PhiA0_eq,
    Dat.leavesExact_idle (dats m 0 c) 6 t hi.1.1 hi.1.2,
    Dat.leavesExact_idle (dats m 0 c) 9 t hi.2.1.1 hi.2.1.2,
    Dat.leavesExact_idle (dats m 0 c) 10 t hi.2.2.1.1 hi.2.2.1.2,
    Dat.leavesExact_idle (dats m 0 c) 11 t hi.2.2.2.1.1 hi.2.2.2.1.2,
    Dat.leavesExact_idle (dats m 0 c) 12 t hi.2.2.2.2.1.1 hi.2.2.2.2.1.2,
    Dat.leavesExact_idle (dats m 0 c) 13 t hi.2.2.2.2.2.1 hi.2.2.2.2.2.2,
    show (dats m 0 c).leavesExact 7 t = owns (c : Thread nD τ) (win0_7.stage (cfg0.slots t 7)) fullShare (keyAt m c t) from by
      unfold Dat.leavesExact; rw [(live_keys t).1, after_7],
    show (dats m 0 c).leavesExact 8 t = owns (c : Thread nD τ) (win0_8.stage (cfg0.slots t 8)) fullShare (valAt m c t) from by
      unfold Dat.leavesExact; rw [(live_keys t).2, after_8]]
  unfold kept
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((atA m c t h).2.2.2.2.2.2.2.2.2.2 _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, ⟨%f7, H7⟩, ⟨%f8, H8⟩, H9, H10, H11, H12, H13, ⟨%g0, HS0⟩, ⟨%g1, HS1⟩⟩
  isplitl [HS0 HS1 Hg]
  · isplitl [HS0 HS1]
    · isplitl [HS0]
      · unfold owns; iexists _; isplitr
        swap; · iexact HS0
        ipureintro; unfold xnAt; rw [dif_pos h]; exact View.read_writes_of_cover _ _ _ _ _ (coverAX m c t h)
      unfold owns; iexists _; isplitr
      swap; · iexact HS1
      ipureintro; unfold hbAt; rw [dif_pos h]; exact View.read_writes_of_cover _ _ _ _ _ (coverAH m c t h)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · unfold owns; iexists _; isplitr
    swap; · iexact H7
    ipureintro; unfold keyAt; rw [dif_pos h]; exact View.read_writes_of_cover _ _ _ _ _ (coverA7 m c t h)
  isplitl [H8]
  · unfold owns; iexists _; isplitr
    swap; · iexact H8
    ipureintro; unfold valAt; rw [dif_pos h]; exact View.read_writes_of_cover _ _ _ _ _ (coverA8 m c t h)
  isplitl [H9]
  · iexists _; iexact H9
  isplitl [H10]
  · iexists _; iexact H10
  isplitl [H11]
  · iexists _; iexact H11
  isplitl [H12]
  · iexists _; iexact H12
  iexists _; iexact H13

set_option maxHeartbeats 6400000 in
theorem body_later (c : Dev nD) (t : Fin cfg0.N) (h : ¬t.val = 0) :
    given m c t ⊢ wp frame (wpE (defs₀ (F := F)) Variants.none c none) Set.univ (bodyAt0 t) (fun _ => returned m c t) := by
  unfold given returned bodyAt0
  simp only [before_0, before_1, before_2, before_3, before_4, before_5, leaves_0, leaves_1, leaves_2, leaves_3, leaves_4, leaves_5]
  have hl := live_later t h
  rw [show (dats m 0 c).owesAt () t.succ = (dats m 0 c).owesAt () t.castSucc from rfl,
    show (dats m 0 c).Φ t.succ = kept m c t from rfl,
    show (dats m 0 c).Φ t.castSucc = kept m c (pred t) from inv_pos m c t h,
    show (dats m 0 c).leavesExact 6 t = owns (c : Thread nD τ) (win0_6.stage (cfg0.slots t 6)) fullShare (qAt m c t) from by
      unfold Dat.leavesExact; rw [hl.1, after_6],
    show (dats m 0 c).leavesExact 9 t = owns (c : Thread nD τ) (win0_9.stage (cfg0.slots t 9)) fullShare (key32At m c t) from by
      unfold Dat.leavesExact; rw [hl.2.1, after_9],
    show (dats m 0 c).leavesExact 10 t = owns (c : Thread nD τ) (win0_10.stage (cfg0.slots t 10)) fullShare (val32At m c t) from by
      unfold Dat.leavesExact; rw [hl.2.2.1, after_10],
    show (dats m 0 c).leavesExact 11 t = owns (c : Thread nD τ) (win0_11.stage (cfg0.slots t 11)) fullShare (mixAt m c t) from by
      unfold Dat.leavesExact; rw [hl.2.2.2.1, after_11],
    show (dats m 0 c).leavesExact 12 t = owns (c : Thread nD τ) (win0_12.stage (cfg0.slots t 12)) fullShare (gateAt m c t) from by
      unfold Dat.leavesExact; rw [hl.2.2.2.2.1, after_12],
    show (dats m 0 c).leavesExact 13 t = owns (c : Thread nD τ) (win0_13.stage (cfg0.slots t 13)) fullShare (rowAt m c t) from by
      unfold Dat.leavesExact; rw [hl.2.2.2.2.2, after_13],
    show (dats m 0 c).leavesExact 7 t = owns (c : Thread nD τ) (win0_7.stage (cfg0.slots t 7)) fullShare (keyAt m c t) from by
      unfold Dat.leavesExact; rw [(live_keys t).1, after_7],
    show (dats m 0 c).leavesExact 8 t = owns (c : Thread nD τ) (win0_8.stage (cfg0.slots t 8)) fullShare (valAt m c t) from by
      unfold Dat.leavesExact; rw [(live_keys t).2, after_8]]
  unfold kept
  have e0 := later_6 m c t h
  have e1 := later_7 m c t h
  have e2 := later_8 m c t h
  have e3 := later_9 m c t h
  have e4 := later_10 m c t h
  have e5 := later_11 m c t h
  have e6 := later_12 m c t h
  have e7 := later_13 m c t h
  have e8 := later_xnAt m c t h
  have e9 := later_hbAt m c t h
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((later m c t h).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS0]; · iexact HS0
  isplitl [HS1]; · iexact HS1
  iintro ⟨H0, H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%g0, HS0⟩, ⟨%g1, HS1⟩⟩
  isplitl [HS0 HS1 Hg]
  · isplitl [HS0 HS1]
    · isplitl [HS0]
      · unfold owns; iexists _; isplitr
        swap; · iexact HS0
        ipureintro; exact e8 _
      unfold owns; iexists _; isplitr
      swap; · iexact HS1
      ipureintro; exact e9 _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact e0 _
  isplitl [H7]
  · unfold owns; iexists _; isplitr
    swap; · iexact H7
    ipureintro; exact e1 _
  isplitl [H8]
  · unfold owns; iexists _; isplitr
    swap; · iexact H8
    ipureintro; exact e2 _
  isplitl [H9]
  · unfold owns; iexists _; isplitr
    swap; · iexact H9
    ipureintro; exact e3 _
  isplitl [H10]
  · unfold owns; iexists _; isplitr
    swap; · iexact H10
    ipureintro; exact e4 _
  isplitl [H11]
  · unfold owns; iexists _; isplitr
    swap; · iexact H11
    ipureintro; exact e5 _
  isplitl [H12]
  · unfold owns; iexists _; isplitr
    swap; · iexact H12
    ipureintro; exact e6 _
  unfold owns; iexists _; isplitr
  swap; · iexact H13
  ipureintro; exact e7 _

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  refine triple_restated (P := given m c t) (Q := fun _ => returned m c t) ?_ rfl .rfl fun _ => .rfl
  by_cases h : t.val = 0
  · exact body_first m c t h
  · exact body_later m c t h

theorem enters (c : Dev nD) : Pipeline.ΦA spec0 c ⊢ (dats m 0 c).Φ 0 := by
  rw [show (dats m 0 c).Φ 0 = Pipeline.ΦA spec0 c from rfl]

theorem leaves (c : Dev nD) : (dats m 0 c).Φ (Fin.last cfg0.N) ⊢ Pipeline.ΦA spec0 c := by
  rw [show (dats m 0 c).Φ (Fin.last cfg0.N) = kept m c ⟨32, by rw [show cfg0.N = 33 from N_0]; decide⟩ from rfl, PhiA0_eq]
  unfold kept
  iintro ⟨⟨HS0, HS1⟩, Hg⟩
  isplitl [HS0 HS1]
  · isplitl [HS0]; · iexists _; iexact HS0
    iexists _; iexact HS1
  iexact Hg

set_option backward.isDefEq.respectTransparency.types false in
/-- The call's run: every array ends where the points' blocks put it, and every counter at zero. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hin := enters m) (hout := leaves m)

end Cert.InIdeal.Run

end
-- ==== Proof.InArr.lean ====
/-
  The projecting call's result arrays: what each grid point's buffers hold, in terms of the call's arguments, and where the eight
  results end.
-/
module

public import proofs.«01_k».proof.Proof.InBlocks
public import proofs.«01_k».proof.Proof.InFrame

@[expose] public section

set_option maxRecDepth 16384

noncomputable section

namespace Cert.InIdeal.Arr

open Cert.InIdeal Cert.InIdeal.Gen Cert.InIdeal.Run Idealize.ShloMosaic Idealize.ShloMosaic.TcCoe
open Cert.InIdeal.Layers Cert.InIdeal.Blocks Idealize.ShloMosaic.Pipeline

variable (m : (ℓ : Loc nD τ sig) → Buf (Elt Ideal) ℓ) (c : Dev nD)

/-- The windows' places at every grid point. -/
theorem idx : ∀ t : Fin cfg0.N, win0_0.index t = ![t.val - 1, 0] ∧ win0_1.index t = ![min t.val 31, 0] ∧ win0_2.index t = ![0, 0, 0]
    ∧ win0_3.index t = ![0, 0] ∧ win0_4.index t = ![0, 0] ∧ win0_5.index t = ![0, 0] ∧ win0_6.index t = ![t.val - 1, 0]
    ∧ win0_7.index t = ![t.val, 0] ∧ win0_8.index t = ![t.val, 0] ∧ win0_9.index t = ![0, 0] ∧ win0_10.index t = ![0, 0]
    ∧ win0_11.index t = ![t.val - 1, 0] ∧ win0_12.index t = ![t.val - 1, 0] ∧ win0_13.index t = ![t.val - 1, 0] :=
  (by decide +kernel : ∀ t : Fin grid0.N, _)

theorem lt33 (t : Fin cfg0.N) : t.val < 33 := lt_of_lt_of_eq t.isLt N_0

/-- The arguments, at launch. -/
abbrev a0 : S1x16384x1024.Idx → EReal := m ((c : Thread nD τ).loc main_arg0)
abbrev a1 : S1x6144.Idx → EReal := m ((c : Thread nD τ).loc main_arg1)
abbrev a2 : S1024.Idx → EReal := m ((c : Thread nD τ).loc main_arg2)
abbrev a3 : S1024.Idx → EReal := m ((c : Thread nD τ).loc main_arg3)
abbrev a4 : S1024x5376.Idx → EReal := m ((c : Thread nD τ).loc main_arg4)

/-- The operands that the arguments give. -/
def ops : InSpec.Ops where
  x R d := a0 m c (ix3 0 R d)
  md p d := a1 m c (ix2 0 ⟨1024 * p.val + d.val, by omega⟩)
  g d := a2 m c (ix1 d)
  b d := a3 m c (ix1 d)
  w k f := a4 m c (ix2 k f)

/-- The row of the arrays that row `r` of the tile a point works on is. -/
abbrev low (t : Fin cfg0.N) (r : Fin 512) : Fin 16384 := ⟨512 * (t.val - 1) + r.val, by have := lt33 t; omega⟩

/-- The row of the arrays that row `r` of the next tile is. -/
abbrev next (t : Fin cfg0.N) (r : Fin 512) : Fin 16384 := ⟨512 * min t.val 31 + r.val, by omega⟩

/-- What the host operations before the call leave in its operands. -/
theorem op0 (R : Fin 16384) (d : Fin 1024) : V m c main_v0 (ix2 R d) = (ops m c).x R d := by
  show _ = a0 m c (ix3 0 R d)
  entry_read
  pointwise

theorem op1 (p : Fin 6) (d : Fin 1024) : V m c main_v1 (ix3 0 p d) = (ops m c).md p d := by
  show _ = a1 m c (ix2 0 ⟨1024 * p.val + d.val, by omega⟩)
  entry_read
  pointwise
  exact congrArg (fun z => a1 m c (ix2 0 z)) (Fin.ext (by show p.val * 1024 + d.val = 1024 * p.val + d.val; omega))

theorem op2 (d : Fin 1024) : V m c main_v2 (ix2 0 d) = (ops m c).g d := by
  show _ = a2 m c (ix1 d)
  entry_read
  pointwise

theorem op3 (d : Fin 1024) : V m c main_v3 (ix2 0 d) = (ops m c).b d := by
  show _ = a3 m c (ix1 d)
  entry_read
  pointwise

theorem op4 (k : Fin 1024) (f : Fin 5376) : V m c main_v4 (ix2 k f) = (ops m c).w k f := by
  show _ = a4 m c (ix2 k f)
  entry_read
  pointwise

/-- The blocks, in terms of the operands. -/
theorem blk0 (t : Fin cfg0.N) (r : Fin 512) (d : Fin 1024) : b0 m c t (ix2 r d) = (ops m c).x (low t r) d := by
  refine Eq.trans (b := V m c main_v0 (ix2 (low t r) d)) ?_ (op0 m c (low t r) d)
  blk_ext [iblk, idx t]

theorem blk1 (t : Fin cfg0.N) (r : Fin 512) (d : Fin 1024) : b1 m c t (ix2 r d) = (ops m c).x (next t r) d := by
  refine Eq.trans (b := V m c main_v0 (ix2 (next t r) d)) ?_ (op0 m c (next t r) d)
  blk_ext [iblk, idx t]

theorem blk2 (t : Fin cfg0.N) (p : Fin 6) (d : Fin 1024) : b2 m c t (ix3 0 p d) = (ops m c).md p d := by
  refine Eq.trans (b := V m c main_v1 (ix3 0 p d)) ?_ (op1 m c p d)
  blk_ext [iblk, idx t]

theorem blk3 (t : Fin cfg0.N) (d : Fin 1024) : b3 m c t (ix2 0 d) = (ops m c).g d := by
  refine Eq.trans (b := V m c main_v2 (ix2 0 d)) ?_ (op2 m c d)
  blk_ext [iblk, idx t]

theorem blk4 (t : Fin cfg0.N) (d : Fin 1024) : b4 m c t (ix2 0 d) = (ops m c).b d := by
  refine Eq.trans (b := V m c main_v3 (ix2 0 d)) ?_ (op3 m c d)
  blk_ext [iblk, idx t]

theorem blk5 (t : Fin cfg0.N) (k : Fin 1024) (f : Fin 5376) : b5 m c t (ix2 k f) = (ops m c).w k f := by
  refine Eq.trans (b := V m c main_v4 (ix2 k f)) ?_ (op4 m c k f)
  blk_ext [iblk, idx t]

/-- The tile's rows are the layer's, and so are the next tile's. -/
theorem rowN_eq (t : Fin cfg0.N) (r : Fin 512) (d : Fin 1024) : rowN (b0 m c t) (b3 m c t) (b4 m c t) r d = InSpec.xn (ops m c) (low t r) d := by
  unfold rowN InSpec.xn
  simp only [blk0, blk3, blk4]

theorem rowH_eq (t : Fin cfg0.N) (r : Fin 512) (d : Fin 1024) : rowH (b0 m c t) (b2 m c t) (b3 m c t) (b4 m c t) r d = InSpec.h (ops m c) (low t r) d := by
  unfold rowH InSpec.h
  simp only [rowN_eq, blk2]

theorem nextN_eq (t : Fin cfg0.N) (r : Fin 512) (d : Fin 1024) : rowN (b1 m c t) (b3 m c t) (b4 m c t) r d = InSpec.xn (ops m c) (next t r) d := by
  unfold rowN InSpec.xn
  simp only [blk1, blk3, blk4]

theorem nextH_eq (t : Fin cfg0.N) (r : Fin 512) (d : Fin 1024) : rowH (b1 m c t) (b2 m c t) (b3 m c t) (b4 m c t) r d = InSpec.h (ops m c) (next t r) d := by
  unfold rowH InSpec.h
  simp only [nextN_eq, blk2]

/-- What the scratch buffers hold after a point. -/
theorem xnAt_eq (t : Fin cfg0.N) (r : Fin 256) (d : Fin 1024) : xnAt m c t (ix2 r d) = InSpec.xn (ops m c) (next t ⟨r.val, by omega⟩) d := by
  refine Eq.trans ?_ (nextN_eq m c t _ d)
  by_cases h : t.val = 0
  · unfold xnAt
    rw [View.read_writes_junk_eq_canon]
    refine (congrArg (fun L => View.canon L (ix2 r d)) (dif_pos h)).trans ?_
    exact xn_A ..
  · rw [xnAt_later m c t h (any _ _) (any _ _), View.read_writes_junk_eq_canon]
    exact xn_B ..

theorem hbAt_eq (t : Fin cfg0.N) (r : Fin 256) (d : Fin 1024) : hbAt m c t (ix2 r d) = InSpec.h (ops m c) (next t ⟨r.val, by omega⟩) d := by
  refine Eq.trans ?_ (nextH_eq m c t _ d)
  by_cases h : t.val = 0
  · unfold hbAt
    rw [View.read_writes_junk_eq_canon]
    refine (congrArg (fun L => View.canon L (ix2 r d)) (dif_pos h)).trans ?_
    exact hb_A ..
  · rw [hbAt_later m c t h (any _ _) (any _ _), View.read_writes_junk_eq_canon]
    exact hb_B ..

theorem next_pred (t : Fin cfg0.N) (r : Fin 512) : next (pred t) r = low t r :=
  Fin.ext (by
    have := lt33 t
    show 512 * min (t.val - 1) 31 + r.val = 512 * (t.val - 1) + r.val
    omega)

/-- A later point's tile, both halves. -/
theorem tile_eq (t : Fin cfg0.N) (r : Fin 512) (k : Fin 1024) : tile m c t (hbAt m c (pred t)) r k = InSpec.h (ops m c) (low t r) k := by
  unfold tile
  by_cases h : r.val < 256
  · rw [dif_pos h, hbAt_eq, next_pred]
  · rw [dif_neg h, rowH_eq]

theorem tileN_eq (t : Fin cfg0.N) (r : Fin 512) (k : Fin 1024) : tileN m c t (xnAt m c (pred t)) r k = InSpec.xn (ops m c) (low t r) k := by
  unfold tileN
  by_cases h : r.val < 256
  · rw [dif_pos h, xnAt_eq, next_pred]
  · rw [dif_neg h, rowN_eq]

/-- A later point's projection. -/
theorem proj_eq (t : Fin cfg0.N) (r : Fin 512) (f : Fin 5376) :
    ∑ k : Fin 1024, tile m c t (hbAt m c (pred t)) r k * b5 m c t (ix2 k f) = InSpec.pr (ops m c) (low t r) f := by
  unfold InSpec.pr
  simp only [tile_eq, blk5]

/-- What a later point writes. -/
theorem qAt_eq (t : Fin cfg0.N) (h : ¬t.val = 0) (r : Fin 512) (l : Fin 512) : qAt m c t (ix2 r l) = InSpec.query (ops m c) (low t r) l := by
  unfold qAt
  rw [View.read_writes_junk_eq_canon]
  refine (congrArg (fun L => View.canon L (ix2 r l)) ((dif_neg (e := fun h => (later m c t h).1) h).trans (later_eq_6 m c t h))).trans ?_
  refine (q_B m c t h (xnAt m c (pred t)) (hbAt m c (pred t)) (ix2 r l)).trans ?_
  exact congrArg (· * InSpec.scale) (proj_eq m c t r _)

theorem key32At_eq (t : Fin cfg0.N) (h : ¬t.val = 0) (r : Fin 512) (l : Fin 512) : key32At m c t (ix2 r l) = InSpec.cols (ops m c) 512 512 (by omega) (low t r) l := by
  unfold key32At
  rw [View.read_writes_junk_eq_canon]
  refine (congrArg (fun L => View.canon L (ix2 r l)) ((dif_neg (e := fun h => (later m c t h).2.2.2.1) h).trans (later_eq_9 m c t h))).trans ?_
  refine (k32_B m c t h (xnAt m c (pred t)) (hbAt m c (pred t)) (ix2 r l)).trans ?_
  exact proj_eq m c t r _

theorem val32At_eq (t : Fin cfg0.N) (h : ¬t.val = 0) (r : Fin 512) (l : Fin 512) : val32At m c t (ix2 r l) = InSpec.cols (ops m c) 1024 512 (by omega) (low t r) l := by
  unfold val32At
  rw [View.read_writes_junk_eq_canon]
  refine (congrArg (fun L => View.canon L (ix2 r l)) ((dif_neg (e := fun h => (later m c t h).2.2.2.2.1) h).trans (later_eq_10 m c t h))).trans ?_
  refine (v32_B m c t h (xnAt m c (pred t)) (hbAt m c (pred t)) (ix2 r l)).trans ?_
  exact proj_eq m c t r _

theorem mixAt_eq (t : Fin cfg0.N) (h : ¬t.val = 0) (r : Fin 512) (l : Fin 1792) : mixAt m c t (ix2 r l) = InSpec.cols (ops m c) 1536 1792 (by omega) (low t r) l := by
  unfold mixAt
  rw [View.read_writes_junk_eq_canon]
  refine (congrArg (fun L => View.canon L (ix2 r l)) ((dif_neg (e := fun h => (later m c t h).2.2.2.2.2.1) h).trans (later_eq_11 m c t h))).trans ?_
  refine (p_B m c t h (xnAt m c (pred t)) (hbAt m c (pred t)) (ix2 r l)).trans ?_
  exact proj_eq m c t r _

theorem gateAt_eq (t : Fin cfg0.N) (h : ¬t.val = 0) (r : Fin 512) (l : Fin 2048) : gateAt m c t (ix2 r l) = InSpec.gate (ops m c) (low t r) l := by
  unfold gateAt
  rw [View.read_writes_junk_eq_canon]
  refine (congrArg (fun L => View.canon L (ix2 r l)) ((dif_neg (e := fun h => (later m c t h).2.2.2.2.2.2.1) h).trans (later_eq_12 m c t h))).trans ?_
  refine (g_B m c t h (xnAt m c (pred t)) (hbAt m c (pred t)) (ix2 r l)).trans ?_
  exact congrArg Row.logistic (proj_eq m c t r _)

theorem rowAt_eq (t : Fin cfg0.N) (h : ¬t.val = 0) (r : Fin 512) (l : Fin 1024) : rowAt m c t (ix2 r l) = InSpec.xn (ops m c) (low t r) l := by
  unfold rowAt
  rw [View.read_writes_junk_eq_canon]
  refine (congrArg (fun L => View.canon L (ix2 r l)) ((dif_neg (e := fun h => (later m c t h).2.2.2.2.2.2.2.1) h).trans (later_eq_13 m c t h))).trans ?_
  refine (x_B m c t h (xnAt m c (pred t)) (hbAt m c (pred t)) (ix2 r l)).trans ?_
  exact tileN_eq m c t r l

theorem keyAt_eq (t : Fin cfg0.N) (r l : Fin 512) :
    keyAt m c t (ix2 r l) = InSpec.ext (ops m c) 512 (by omega) ⟨512 * t.val + r.val, by have := lt33 t; omega⟩ l := by
  have hr := r.isLt
  unfold keyAt
  rw [View.read_writes_junk_eq_canon]
  by_cases h : t.val = 0
  · refine (congrArg (fun L => View.canon L (ix2 r l)) (dif_pos h)).trans ?_
    refine (k_A ..).trans ?_
    exact (InSpec.ext_zero _ _ _ _ _ (by show 512 * t.val + r.val < 512; omega)).symm
  · refine (congrArg (fun L => View.canon L (ix2 r l)) ((dif_neg (e := fun h => (later m c t h).2.1) h).trans (later_eq_7 m c t h))).trans ?_
    refine (k_B m c t h (xnAt m c (pred t)) (hbAt m c (pred t)) (ix2 r l)).trans ?_
    refine (proj_eq m c t r _).trans ?_
    refine Eq.trans ?_ (InSpec.ext_cols _ _ _ _ _ (by show ¬512 * t.val + r.val < 512; omega)).symm
    exact congrArg (fun a => InSpec.cols (ops m c) 512 512 (by omega) a l) (Fin.ext (by show 512 * (t.val - 1) + r.val = 512 * t.val + r.val - 512; omega))

theorem valAt_eq (t : Fin cfg0.N) (r l : Fin 512) :
    valAt m c t (ix2 r l) = InSpec.ext (ops m c) 1024 (by omega) ⟨512 * t.val + r.val, by have := lt33 t; omega⟩ l := by
  have hr := r.isLt
  unfold valAt
  rw [View.read_writes_junk_eq_canon]
  by_cases h : t.val = 0
  · refine (congrArg (fun L => View.canon L (ix2 r l)) (dif_pos h)).trans ?_
    refine (v_A ..).trans ?_
    exact (InSpec.ext_zero _ _ _ _ _ (by show 512 * t.val + r.val < 512; omega)).symm
  · refine (congrArg (fun L => View.canon L (ix2 r l)) ((dif_neg (e := fun h => (later m c t h).2.2.1) h).trans (later_eq_8 m c t h))).trans ?_
    refine (v_B m c t h (xnAt m c (pred t)) (hbAt m c (pred t)) (ix2 r l)).trans ?_
    refine (proj_eq m c t r _).trans ?_
    refine Eq.trans ?_ (InSpec.ext_cols _ _ _ _ _ (by show ¬512 * t.val + r.val < 512; omega)).symm
    exact congrArg (fun a => InSpec.cols (ops m c) 1024 512 (by omega) a l) (Fin.ext (by show 512 * (t.val - 1) + r.val = 512 * t.val + r.val - 512; omega))

/-- The last point. -/
abbrev tLast : Fin cfg0.N := ⟨32, by decide⟩

/-- The eight arrays after the run. -/
theorem final_q : (dats m 0 c).arrAt 6 cfg0.N = fun i : S16384x512.Idx => InSpec.query (ops m c) (i 0) (i 1) := by
  refine (dats m 0 c).arrAt_eq_of_covers 6 _ (by decide +kernel) fun t hf y => ?_
  have ht := lt33 t
  have h : ¬t.val = 0 := by
    intro h0
    have : t = ⟨0, by decide⟩ := Fin.ext h0
    subst this
    exact absurd hf (by decide +kernel)
  blk_simp
  rw [after_6]
  obtain ⟨r, l, rfl⟩ : ∃ (r : Fin 512) (l : Fin 512), y = ix2 r l := ⟨y 0, y 1, by funext a; fin_cases a <;> rfl⟩
  refine (qAt_eq m c t h r l).trans ?_
  refine congrArg₂ (fun (R : Fin 16384) (C : Fin 512) => InSpec.query (ops m c) R C) (Fin.ext ?_ : (low t r) = _) (Fin.ext ?_ : l = _)
  · blk_simp [idx t]
    show 512 * (t.val - 1) + r.val = (t.val - 1) * 512 + r.val
    omega
  · blk_simp [idx t]

theorem final_key32 : (dats m 0 c).arrAt 9 cfg0.N = fun i : S512x512.Idx => InSpec.cols (ops m c) 512 512 (by omega) ⟨15872 + (i 0).val, by have : (i 0).val < 512 := (i 0).isLt; omega⟩ (i 1) := by
  refine (dats m 0 c).arrAt_eq_of_after_last 9 tLast (by decide +kernel) _ fun j => ?_
  blk_simp
  rw [after_9]
  obtain ⟨r, l, rfl⟩ : ∃ (r : Fin 512) (l : Fin 512), j = ix2 r l := ⟨j 0, j 1, by funext a; fin_cases a <;> rfl⟩
  refine (key32At_eq m c tLast (by decide) r l).trans ?_
  exact congrArg (fun a => InSpec.cols (ops m c) 512 512 (by omega) a l) (Fin.ext (by show 512 * (32 - 1) + r.val = 15872 + r.val; omega))

theorem final_val32 : (dats m 0 c).arrAt 10 cfg0.N = fun i : S512x512.Idx => InSpec.cols (ops m c) 1024 512 (by omega) ⟨15872 + (i 0).val, by have : (i 0).val < 512 := (i 0).isLt; omega⟩ (i 1) := by
  refine (dats m 0 c).arrAt_eq_of_after_last 10 tLast (by decide +kernel) _ fun j => ?_
  blk_simp
  rw [after_10]
  obtain ⟨r, l, rfl⟩ : ∃ (r : Fin 512) (l : Fin 512), j = ix2 r l := ⟨j 0, j 1, by funext a; fin_cases a <;> rfl⟩
  refine (val32At_eq m c tLast (by decide) r l).trans ?_
  exact congrArg (fun a => InSpec.cols (ops m c) 1024 512 (by omega) a l) (Fin.ext (by show 512 * (32 - 1) + r.val = 15872 + r.val; omega))

theorem final_mix : (dats m 0 c).arrAt 11 cfg0.N = fun i : S16384x1792.Idx => InSpec.cols (ops m c) 1536 1792 (by omega) (i 0) (i 1) := by
  refine (dats m 0 c).arrAt_eq_of_covers 11 _ (by decide +kernel) fun t hf y => ?_
  have ht := lt33 t
  have h : ¬t.val = 0 := by
    intro h0
    have : t = ⟨0, by decide⟩ := Fin.ext h0
    subst this
    exact absurd hf (by decide +kernel)
  blk_simp
  rw [after_11]
  obtain ⟨r, l, rfl⟩ : ∃ (r : Fin 512) (l : Fin 1792), y = ix2 r l := ⟨y 0, y 1, by funext a; fin_cases a <;> rfl⟩
  refine (mixAt_eq m c t h r l).trans ?_
  refine congrArg₂ (fun (R : Fin 16384) (C : Fin 1792) => InSpec.cols (ops m c) 1536 1792 (by omega) R C) (Fin.ext ?_ : (low t r) = _) (Fin.ext ?_ : l = _)
  · blk_simp [idx t]
    show 512 * (t.val - 1) + r.val = (t.val - 1) * 512 + r.val
    omega
  · blk_simp [idx t]

theorem final_gate : (dats m 0 c).arrAt 12 cfg0.N = fun i : S16384x2048.Idx => InSpec.gate (ops m c) (i 0) (i 1) := by
  refine (dats m 0 c).arrAt_eq_of_covers 12 _ (by decide +kernel) fun t hf y => ?_
  have ht := lt33 t
  have h : ¬t.val = 0 := by
    intro h0
    have : t = ⟨0, by decide⟩ := Fin.ext h0
    subst this
    exact absurd hf (by decide +kernel)
  blk_simp
  rw [after_12]
  obtain ⟨r, l, rfl⟩ : ∃ (r : Fin 512) (l : Fin 2048), y = ix2 r l := ⟨y 0, y 1, by funext a; fin_cases a <;> rfl⟩
  refine (gateAt_eq m c t h r l).trans ?_
  refine congrArg₂ (fun (R : Fin 16384) (C : Fin 2048) => InSpec.gate (ops m c) R C) (Fin.ext ?_ : (low t r) = _) (Fin.ext ?_ : l = _)
  · blk_simp [idx t]
    show 512 * (t.val - 1) + r.val = (t.val - 1) * 512 + r.val
    omega
  · blk_simp [idx t]

theorem final_row : (dats m 0 c).arrAt 13 cfg0.N = fun i : S16384x1024.Idx => InSpec.xn (ops m c) (i 0) (i 1) := by
  refine (dats m 0 c).arrAt_eq_of_covers 13 _ (by decide +kernel) fun t hf y => ?_
  have ht := lt33 t
  have h : ¬t.val = 0 := by
    intro h0
    have : t = ⟨0, by decide⟩ := Fin.ext h0
    subst this
    exact absurd hf (by decide +kernel)
  blk_simp
  rw [after_13]
  obtain ⟨r, l, rfl⟩ : ∃ (r : Fin 512) (l : Fin 1024), y = ix2 r l := ⟨y 0, y 1, by funext a; fin_cases a <;> rfl⟩
  refine (rowAt_eq m c t h r l).trans ?_
  refine congrArg₂ (fun (R : Fin 16384) (C : Fin 1024) => InSpec.xn (ops m c) R C) (Fin.ext ?_ : (low t r) = _) (Fin.ext ?_ : l = _)
  · blk_simp [idx t]
    show 512 * (t.val - 1) + r.val = (t.val - 1) * 512 + r.val
    omega
  · blk_simp [idx t]

theorem final_key : (dats m 0 c).arrAt 7 cfg0.N = fun i : S16896x512.Idx => InSpec.ext (ops m c) 512 (by omega) (i 0) (i 1) := by
  refine (dats m 0 c).arrAt_eq_of_covers 7 _ (by decide +kernel) fun t hf y => ?_
  have ht := lt33 t
  blk_simp
  rw [after_7]
  obtain ⟨r, l, rfl⟩ : ∃ (r l : Fin 512), y = ix2 r l := ⟨y 0, y 1, by funext a; fin_cases a <;> rfl⟩
  refine (keyAt_eq m c t r l).trans ?_
  refine congrArg₂ (InSpec.ext (ops m c) 512 (by omega)) (Fin.ext ?_) (Fin.ext ?_)
  · blk_simp [idx t]
    show 512 * t.val + r.val = t.val * 512 + r.val
    omega
  · blk_simp [idx t]

theorem final_val : (dats m 0 c).arrAt 8 cfg0.N = fun i : S16896x512.Idx => InSpec.ext (ops m c) 1024 (by omega) (i 0) (i 1) := by
  refine (dats m 0 c).arrAt_eq_of_covers 8 _ (by decide +kernel) fun t hf y => ?_
  have ht := lt33 t
  blk_simp
  rw [after_8]
  obtain ⟨r, l, rfl⟩ : ∃ (r l : Fin 512), y = ix2 r l := ⟨y 0, y 1, by funext a; fin_cases a <;> rfl⟩
  refine (valAt_eq m c t r l).trans ?_
  refine congrArg₂ (InSpec.ext (ops m c) 1024 (by omega)) (Fin.ext ?_) (Fin.ext ?_)
  · blk_simp [idx t]
    show 512 * t.val + r.val = t.val * 512 + r.val
    omega
  · blk_simp [idx t]

end Cert.InIdeal.Arr

end
-- ==== Proof.InRef.lean ====
/-
  The projecting call's reference, one number at a time: its composed terms, read at an index, are the layer's.
-/
module

public import proofs.«01_k».proof.Proof.Gen.InReferenceIdeal.Run
public import proofs.«01_k».proof.Proof.InSpec
public import Idealize.ShloMosaic.PureOps.Ideal
public import Idealize.ShloMosaic.Lib.Pointwise

@[expose] public section

set_option maxRecDepth 16384

noncomputable section

namespace Cert.InReferenceIdeal.Terms

open Cert.InReferenceIdeal Cert.InReferenceIdeal.Gen Cert.InReferenceIdeal.Value Idealize.ShloMosaic Idealize.ShloMosaic.TcCoe

variable (x : FVec Ideal S1x16384x1024 .f32) (md : FVec Ideal S1x6144 .f32) (g b : FVec Ideal S1024 .f32) (w : FVec Ideal S1024x5376 .f32)

/-- The operands that the arguments give. -/
abbrev ops : InSpec.Ops where
  x R d := x (ix3 0 R d)
  md p d := md (ix2 0 ⟨1024 * p.val + d.val, by omega⟩)
  g d := g (ix1 d)
  b d := b (ix1 d)
  w k f := w (ix2 k f)

/-- Every row's mean, and every row less its mean. -/
def meanV : FVec Ideal S1x16384x1 .f32 :=
  Host.divf (broadcastInDim S1x16384x1 ![0, 1] bcast_S1x16384_S1x16384x1_0_1 (Host.reduceAdd x (constant S_ .f32 0x00000000#32) reducesTo_S1x16384x1024_S1x16384_d2 h_S_)) (broadcastInDim S1x16384x1 ![] bcast_S_S1x16384x1 (constant S_ .f32 0x44800000#32))

def offV : FVec Ideal S1x16384x1024 .f32 := subf x (broadcastInDim S1x16384x1024 ![0, 1, 2] bcast_S1x16384x1_S1x16384x1024_0_1_2 (meanV x))

/-- The rows under the layer norm, under the modulation, and projected. -/
def normV : FVec Ideal S1x16384x1024 .f32 :=
  addf (mulf (mulf (offV x) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (offV x) (offV x)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x3727C5AC#32))))))
    (broadcastInDim S1x16384x1024 ![0, 1, 2] bcast_S1x1x1024_S1x16384x1024_0_1_2 (broadcastInDim S1x1x1024 ![2] bcast_S1024_S1x1x1024_2 g))) (broadcastInDim S1x16384x1024 ![0, 1, 2] bcast_S1x1x1024_S1x16384x1024_0_1_2 (broadcastInDim S1x1x1024 ![2] bcast_S1024_S1x1x1024_2 b))

def modV : FVec Ideal S1x16384x1024 .f32 :=
  addf (mulf (normV x g b) (broadcastInDim S1x16384x1024 ![0, 1, 2] bcast_S1x1x1024_S1x16384x1024_0_1_2 (addf (broadcastInDim S1x1x1024 ![] bcast_S_S1x1x1024 (constant S_ .f32 0x3F800000#32)) (extractStridedSlice S1x1x1024 ![0, 0, 1024] (broadcastInDim S1x1x6144 ![0, 2] bcast_S1x6144_S1x1x6144_0_2 md) slices_S1x1x6144_S1x1x1024_0_0_1024))))
    (broadcastInDim S1x16384x1024 ![0, 1, 2] bcast_S1x1x1024_S1x16384x1024_0_1_2 (extractStridedSlice S1x1x1024 ![0, 0, 0] (broadcastInDim S1x1x6144 ![0, 2] bcast_S1x6144_S1x1x6144_0_2 md) slices_S1x1x6144_S1x1x1024_0_0_0))

def projV : FVec Ideal S16384x5376 .f32 :=
  shapeCast _ (Host.dotGeneral dot_S1x16384x1024_S1024x5376_S1x16384x5376_2_0_01_1_n_n none (modV x md g b) w) shapeCasts_S1x16384x5376_S16384x5376

theorem meanV_apply (R : Fin 16384) : meanV x (ix3 0 R 0) = Row.mean fun j => x (ix3 0 R j) := by
  unfold meanV
  pointwise
  rfl

theorem offV_apply (R : Fin 16384) (d : Fin 1024) : offV x (ix3 0 R d) = x (ix3 0 R d) - Row.mean fun j => x (ix3 0 R j) := by
  unfold offV
  pointwise [meanV_apply]

theorem normV_apply (R : Fin 16384) (d : Fin 1024) : normV x g b (ix3 0 R d) = InSpec.xn (ops x md g b w) R d := by
  unfold normV InSpec.xn
  pointwise [offV_apply]
  rfl

theorem modV_apply (R : Fin 16384) (d : Fin 1024) : modV x md g b (ix3 0 R d) = InSpec.h (ops x md g b w) R d := by
  unfold modV InSpec.h
  pointwise [normV_apply x md g b w]

theorem projV_apply (R : Fin 16384) (f : Fin 5376) : projV x md g b w (ix2 R f) = InSpec.pr (ops x md g b w) R f := by
  unfold projV InSpec.pr
  pointwise [modV_apply x md g b w]

/-- The eight results. -/
def qV : FVec Ideal S16384x512 .bf16 :=
  truncf .bf16 (mulf (mulf (extractStridedSlice S16384x512 ![0, 0] (projV x md g b w) slices_S16384x5376_S16384x512_0_0) (broadcastInDim S16384x512 ![] bcast_S_S16384x512 (constant S_ .f32 0x3E000000#32)))
    (broadcastInDim S16384x512 ![] bcast_S_S16384x512 (Host.divf (constant S_ .f32 0x3F800000#32) (Host.log (constant S_ .f32 0x40000000#32))))) bitsLt_bf16_f32

def zeroV : FVec Ideal S512x512 .f32 := broadcastInDim S512x512 ![] bcast_S_S512x512 (constant S_ .f32 0x00000000#32)

def keyV : FVec Ideal S16896x512 .bf16 :=
  truncf .bf16 (concatenate S16896x512 0 [⟨S512x512, zeroV⟩, ⟨S16384x512, (extractStridedSlice S16384x512 ![0, 512] (projV x md g b w) slices_S16384x5376_S16384x512_0_512)⟩] concatenates_S512x512_S16384x512_S16896x512_d0) bitsLt_bf16_f32

def valV : FVec Ideal S16896x512 .bf16 :=
  truncf .bf16 (concatenate S16896x512 0 [⟨S512x512, zeroV⟩, ⟨S16384x512, (extractStridedSlice S16384x512 ![0, 1024] (projV x md g b w) slices_S16384x5376_S16384x512_0_1024)⟩] concatenates_S512x512_S16384x512_S16896x512_d0) bitsLt_bf16_f32

def key32V : FVec Ideal S512x512 .f32 :=
  extractStridedSlice S512x512 ![15872, 0] (extractStridedSlice S16384x512 ![0, 512] (projV x md g b w) slices_S16384x5376_S16384x512_0_512) slices_S16384x512_S512x512_15872_0

def val32V : FVec Ideal S512x512 .f32 :=
  extractStridedSlice S512x512 ![15872, 0] (extractStridedSlice S16384x512 ![0, 1024] (projV x md g b w) slices_S16384x5376_S16384x512_0_1024) slices_S16384x512_S512x512_15872_0

def mixV : FVec Ideal S16384x1792 .f32 := extractStridedSlice S16384x1792 ![0, 1536] (projV x md g b w) slices_S16384x5376_S16384x1792_0_1536

def gateV : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32))
    (Host.exp (Host.negf (extractStridedSlice S16384x2048 ![0, 3328] (projV x md g b w) slices_S16384x5376_S16384x2048_0_3328))))

def rowV : FVec Ideal S16384x1024 .f32 := shapeCast _ (normV x g b) shapeCasts_S1x16384x1024_S16384x1024

/-- An eighth, and one over the logarithm of two: the queries' two factors. -/
theorem eighth : Ideal.ofBits .f32 0x3E000000#32 = ((8⁻¹ : ℝ) : EReal) := by
  simp [Ideal.ofBits, Ideal.ieee]
  refine (EReal.coe_mul (8388608 : ℝ) ((2 ^ 26)⁻¹ : ℝ)).symm.trans (congrArg _ ?_)
  norm_num

theorem two : Ideal.ofBits .f32 0x40000000#32 = ((2 : ℝ) : EReal) := by
  simp [Ideal.ofBits, Ideal.ieee]
  refine (EReal.coe_mul (8388608 : ℝ) ((2 ^ 22)⁻¹ : ℝ)).symm.trans (congrArg _ ?_)
  norm_num

theorem scale_eq : Ideal.ofBits .f32 0x3E000000#32 * Ideal.div 1 (Ideal.log (Ideal.ofBits .f32 0x40000000#32)) = InSpec.scale := by
  have hl : 0 < Real.log 2 := Real.log_pos (by norm_num)
  have e : Ideal.log ((2 : ℝ) : EReal) = ((Real.log 2 : ℝ) : EReal) := if_neg (by norm_num)
  rw [eighth, two, e, Ideal.div, if_neg (by rw [EReal.coe_eq_zero]; exact hl.ne'), one_mul, ← EReal.coe_inv, ← EReal.coe_mul]

theorem qV_apply (R : Fin 16384) (l : Fin 512) : qV x md g b w (ix2 R l) = InSpec.query (ops x md g b w) R l := by
  refine Eq.trans (b := InSpec.pr (ops x md g b w) R ⟨l.val, by omega⟩ * Ideal.ofBits .f32 0x3E000000#32 * Ideal.div 1 (Ideal.log (Ideal.ofBits .f32 0x40000000#32))) ?_ ?_
  · unfold qV
    pointwise [projV_apply]
  · rw [mul_assoc, scale_eq]
    exact congrArg (fun f => InSpec.pr (ops x md g b w) R f * InSpec.scale) (Fin.ext (by show l.val = 0 + l.val; omega))

theorem zeroV_apply (i j : Fin 512) : zeroV (ix2 i j) = 0 := by
  unfold zeroV
  pointwise

theorem keyV_apply (R : Fin 16896) (l : Fin 512) : keyV x md g b w (ix2 R l) = InSpec.ext (ops x md g b w) 512 (by omega) R l := by
  unfold keyV InSpec.ext InSpec.cols
  pointwise [projV_apply, zeroV_apply]

theorem valV_apply (R : Fin 16896) (l : Fin 512) : valV x md g b w (ix2 R l) = InSpec.ext (ops x md g b w) 1024 (by omega) R l := by
  unfold valV InSpec.ext InSpec.cols
  pointwise [projV_apply, zeroV_apply]

theorem key32V_apply (r l : Fin 512) : key32V x md g b w (ix2 r l) = InSpec.cols (ops x md g b w) 512 512 (by omega) ⟨15872 + r.val, by omega⟩ l := by
  unfold key32V InSpec.cols
  pointwise [projV_apply]

theorem val32V_apply (r l : Fin 512) : val32V x md g b w (ix2 r l) = InSpec.cols (ops x md g b w) 1024 512 (by omega) ⟨15872 + r.val, by omega⟩ l := by
  unfold val32V InSpec.cols
  pointwise [projV_apply]

theorem mixV_apply (R : Fin 16384) (l : Fin 1792) : mixV x md g b w (ix2 R l) = InSpec.cols (ops x md g b w) 1536 1792 (by omega) R l := by
  unfold mixV InSpec.cols
  pointwise [projV_apply]

theorem gateV_apply (R : Fin 16384) (l : Fin 2048) : gateV x md g b w (ix2 R l) = InSpec.gate (ops x md g b w) R l := by
  unfold gateV InSpec.gate InSpec.cols Row.logistic
  pointwise [projV_apply]

theorem rowV_apply (R : Fin 16384) (d : Fin 1024) : rowV x g b (ix2 R d) = InSpec.xn (ops x md g b w) R d := by
  unfold rowV
  pointwise [normV_apply x md g b w]

end Cert.InReferenceIdeal.Terms

end
-- ==== Proof.InClose.lean ====
/-
  The projecting call's claims: its frames, its idealization, and its eight results against the reference's.
-/
module

public import proofs.«01_k».proof.Defs
public import proofs.«01_k».proof.Proof.InArr
public import proofs.«01_k».proof.Proof.InRef
public import proofs.«01_k».proof.Proof.InBitsFrame
public import proofs.«01_k».proof.Proof.Gen.In

@[expose] public section

set_option maxRecDepth 200000
set_option maxHeartbeats 1000000

noncomputable section

namespace Cert.InIdeal.Close

open Cert.InIdeal Cert.InIdeal.Gen Cert.InIdeal.Run Cert.InIdeal.Arr Idealize.ShloMosaic Idealize.ShloMosaic.TcCoe Idealize.SL.Sem

theorem frame_kernel : Cert.quiescent_In := fun m ρ _ =>
  θ_run_and (Cert.In.Gen.frame_of (F := Bits) m ρ (Cert.In.Run.dats m) (Cert.In.Run.A_eq m)
      ((θ_run Cert.In.defs _ _).mono (fun _ h => h.1) (Cert.In.Run.run m ρ)))
    ((θ_run Cert.In.defs _ _).mono (fun _ h => h.2) (Cert.In.Run.run m ρ))

section
variable (m : (ℓ : Loc nD τ sig) → Buf (Elt Ideal) ℓ) (ρ : Dev nD → PrngReg)

/-- The run's arrays. -/
theorem ends : θ_run defs (onTc (τ := τ) (main (F := Ideal))) (s₀ m ρ) (Pipeline.FramePost cfgs (dats m) 0 (V m)) :=
  (θ_run defs _ _).mono (fun _ h => h.1) (run m ρ)

/-- Every semaphore counter ends at zero. -/
theorem quiet : θ_run defs (onTc (τ := τ) (main (F := Ideal))) (s₀ m ρ) (fun r => r.2.sem = fun _ => 0) :=
  (θ_run defs _ _).mono (fun _ h => h.2) (run m ρ)

end

theorem frame_ideal : Cert.quiescent_InIdeal := fun m ρ _ => θ_run_and (frame_of m ρ (dats (F := Ideal) m) (A_eq m) (ends m ρ)) (quiet m ρ)

theorem frame_reference : Cert.quiescent_InReferenceIdeal := fun m ρ _ =>
  (θ_run Cert.InReferenceIdeal.defs _ _).mono
    (fun r h => ⟨fun c => (h c).2.2.2.2.2.2.2.2, sem_eq_zero_of_no_sems (by decide) r.2⟩) (Cert.InReferenceIdeal.Value.run (F := Ideal) m ρ)

/-- The queries' factor is the rounding of the real number it is named for. -/
theorem preserves : Cert.preserves_In_InIdeal :=
  IdealRules.named_const.statement Cert.InIdeal.κ "scale" .f32 0x3E38AA3B#32 ((8⁻¹ * (Real.log 2)⁻¹ : ℝ) : EReal) rfl

variable (m : (ℓ : Loc nD τ sig) → Buf (Elt Ideal) ℓ) (c : Dev nD)

/-- The kernel's arrays are the reference's terms over the same arguments. -/
theorem q_eq : InReferenceIdeal.Terms.qV (a0 m c) (a1 m c) (a2 m c) (a3 m c) (a4 m c) = (dats m 0 c).arrAt 6 cfg0.N := by
  refine Eq.trans ?_ (final_q m c).symm
  funext i
  obtain ⟨R, l, rfl⟩ : ∃ (R : Fin 16384) (l : Fin 512), i = ix2 R l := ⟨i 0, i 1, by funext a; fin_cases a <;> rfl⟩
  exact InReferenceIdeal.Terms.qV_apply (a0 m c) (a1 m c) (a2 m c) (a3 m c) (a4 m c) R l

theorem key_eq : InReferenceIdeal.Terms.keyV (a0 m c) (a1 m c) (a2 m c) (a3 m c) (a4 m c) = (dats m 0 c).arrAt 7 cfg0.N := by
  refine Eq.trans ?_ (final_key m c).symm
  funext i
  obtain ⟨R, l, rfl⟩ : ∃ (R : Fin 16896) (l : Fin 512), i = ix2 R l := ⟨i 0, i 1, by funext a; fin_cases a <;> rfl⟩
  exact InReferenceIdeal.Terms.keyV_apply (a0 m c) (a1 m c) (a2 m c) (a3 m c) (a4 m c) R l

theorem val_eq : InReferenceIdeal.Terms.valV (a0 m c) (a1 m c) (a2 m c) (a3 m c) (a4 m c) = (dats m 0 c).arrAt 8 cfg0.N := by
  refine Eq.trans ?_ (final_val m c).symm
  funext i
  obtain ⟨R, l, rfl⟩ : ∃ (R : Fin 16896) (l : Fin 512), i = ix2 R l := ⟨i 0, i 1, by funext a; fin_cases a <;> rfl⟩
  exact InReferenceIdeal.Terms.valV_apply (a0 m c) (a1 m c) (a2 m c) (a3 m c) (a4 m c) R l

theorem key32_eq : InReferenceIdeal.Terms.key32V (a0 m c) (a1 m c) (a2 m c) (a3 m c) (a4 m c) = (dats m 0 c).arrAt 9 cfg0.N := by
  refine Eq.trans ?_ (final_key32 m c).symm
  funext i
  obtain ⟨R, l, rfl⟩ : ∃ (R : Fin 512) (l : Fin 512), i = ix2 R l := ⟨i 0, i 1, by funext a; fin_cases a <;> rfl⟩
  exact InReferenceIdeal.Terms.key32V_apply (a0 m c) (a1 m c) (a2 m c) (a3 m c) (a4 m c) R l

theorem val32_eq : InReferenceIdeal.Terms.val32V (a0 m c) (a1 m c) (a2 m c) (a3 m c) (a4 m c) = (dats m 0 c).arrAt 10 cfg0.N := by
  refine Eq.trans ?_ (final_val32 m c).symm
  funext i
  obtain ⟨R, l, rfl⟩ : ∃ (R : Fin 512) (l : Fin 512), i = ix2 R l := ⟨i 0, i 1, by funext a; fin_cases a <;> rfl⟩
  exact InReferenceIdeal.Terms.val32V_apply (a0 m c) (a1 m c) (a2 m c) (a3 m c) (a4 m c) R l

theorem mix_eq : InReferenceIdeal.Terms.mixV (a0 m c) (a1 m c) (a2 m c) (a3 m c) (a4 m c) = (dats m 0 c).arrAt 11 cfg0.N := by
  refine Eq.trans ?_ (final_mix m c).symm
  funext i
  obtain ⟨R, l, rfl⟩ : ∃ (R : Fin 16384) (l : Fin 1792), i = ix2 R l := ⟨i 0, i 1, by funext a; fin_cases a <;> rfl⟩
  exact InReferenceIdeal.Terms.mixV_apply (a0 m c) (a1 m c) (a2 m c) (a3 m c) (a4 m c) R l

theorem gate_eq : InReferenceIdeal.Terms.gateV (a0 m c) (a1 m c) (a2 m c) (a3 m c) (a4 m c) = (dats m 0 c).arrAt 12 cfg0.N := by
  refine Eq.trans ?_ (final_gate m c).symm
  funext i
  obtain ⟨R, l, rfl⟩ : ∃ (R : Fin 16384) (l : Fin 2048), i = ix2 R l := ⟨i 0, i 1, by funext a; fin_cases a <;> rfl⟩
  exact InReferenceIdeal.Terms.gateV_apply (a0 m c) (a1 m c) (a2 m c) (a3 m c) (a4 m c) R l

theorem row_eq : InReferenceIdeal.Terms.rowV (a0 m c) (a2 m c) (a3 m c) = (dats m 0 c).arrAt 13 cfg0.N := by
  refine Eq.trans ?_ (final_row m c).symm
  funext i
  obtain ⟨R, l, rfl⟩ : ∃ (R : Fin 16384) (l : Fin 1024), i = ix2 R l := ⟨i 0, i 1, by funext a; fin_cases a <;> rfl⟩
  exact InReferenceIdeal.Terms.rowV_apply (a0 m c) (a1 m c) (a2 m c) (a3 m c) (a4 m c) R l

/-- Kernel and reference compute the same eight arrays. -/
theorem algebraic : Cert.algebraic_InIdeal_InReferenceIdeal := by
  intro m ρ m' ρ' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, ?_, ?_⟩
  · exact (θ_run defs _ _).mono (fun r h c => ⟨(h.2 c).1 6, (h.2 c).1 7, (h.2 c).1 8, (h.2 c).1 9, (h.2 c).1 10, (h.2 c).1 11, (h.2 c).1 12, (h.2 c).1 13, h.1 c⟩) (θ_run_and (frame_of m ρ (dats m) (A_eq m) (ends m ρ)) (ends m ρ))
  · refine (θ_run Cert.InReferenceIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.InReferenceIdeal.Value.run (F := Ideal) m' ρ')
    all_goals
      obtain ⟨h0, h1, h2, h3, h4⟩ := hagree c
    · rw [h0, h1, h2, h3, h4]
      exact q_eq m c
    · rw [h0, h1, h2, h3, h4]
      exact key_eq m c
    · rw [h0, h1, h2, h3, h4]
      exact val_eq m c
    · rw [h0, h1, h2, h3, h4]
      exact key32_eq m c
    · rw [h0, h1, h2, h3, h4]
      exact val32_eq m c
    · rw [h0, h1, h2, h3, h4]
      exact mix_eq m c
    · rw [h0, h1, h2, h3, h4]
      exact gate_eq m c
    · rw [h0, h2, h3]
      exact row_eq m c

end Cert.InIdeal.Close

end
-- ==== Proof.lean ====
/-
  The proof of `Cert.Claim`: the frames, idealizations and equalities with the reference of the attention call,
  of the mixing call and of the projecting call.
-/
module

public import proofs.«01_k».proof.Defs
public import proofs.«01_k».proof.Proof.Close
public import proofs.«01_k».proof.Proof.MixClose
public import proofs.«01_k».proof.Proof.InClose
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame.Runs
public import proofs.«01_k».proof.Proof.Gen.In.Frame.RunA
public import proofs.«01_k».proof.Proof.Gen.In.Frame.RunB
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame.Runs
public import proofs.«01_k».proof.Proof.Gen.InIdeal.Frame.RunA
public import proofs.«01_k».proof.Proof.Gen.InIdeal.Frame.RunB
public import proofs.«01_k».proof.Proof.Gen.InReferenceIdeal
public import proofs.«01_k».proof.Proof.Gen.InReferenceIdeal.Run
public import Idealize.ShloMosaic.Adequacy
public import Idealize.ShloMosaic.Init

@[expose] public section

noncomputable section

namespace Cert.Proof

open Idealize.ShloMosaic Idealize.SL.Sem Cert.KernelIdeal Cert.KernelIdeal.Gen Idealize.ShloMosaic.TcCoe

instance facts_pre : Cert.Pre_finite.Facts := Cert.Close.pre_facts

/-- The reference terminates, keeps its arguments and ends with every semaphore counter at zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The array that the kernel's call returns is the attention's output. -/
theorem array_eq (m : (ℓ : Loc nD τ sig) → Buf (Elt Ideal) ℓ) (hp : Cert.Pre_KernelIdeal_finite m) (c : Dev nD) :
    (dats m 0 c).arrAt 4 cfg0.N = ReferenceIdeal.Layers.out (m ((c.tc : Thread nD τ).loc main_arg0)) (m ((c.tc : Thread nD τ).loc main_arg1))
      (m ((c.tc : Thread nD τ).loc main_arg2)) (m ((c.tc : Thread nD τ).loc main_arg3)) := by
  obtain ⟨⟨q', hq⟩, ⟨k', hk⟩, ⟨T', hT⟩⟩ := Cert.Close.reals _ _ _ _ (hp c)
  rw [Arr.final]
  funext i
  refine (Cert.Close.val_eq m c q' k' T' hq hk hT (i 0) (i 1)).trans (congrArg _ ?_)
  funext a
  fin_cases a <;> rfl

/-- Kernel and reference compute the same array. -/
theorem algebraic : Cert.algebraic_KernelIdeal_ReferenceIdeal_pre_finite := by
  intro m ρ m' ρ' hp hagree
  refine ⟨fun c => (dats m 0 c).arrAt 4 cfg0.N, KernelIdeal.Value.run_blocks m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3⟩ := hagree c
  rw [ReferenceIdeal.Layers.res_eq, h0, h1, h2, h3]
  exact (array_eq m hp c).symm

theorem claim : Cert.Claim :=
  ⟨Cert.Kernel.Gen.facts, Cert.KernelIdeal.Gen.facts, Cert.ReferenceIdeal.Gen.facts,
    Cert.Mix.Gen.facts, Cert.MixIdeal.Gen.facts, Cert.MixReferenceIdeal.Gen.facts,
    Cert.In.Gen.facts, Cert.InIdeal.Gen.facts, Cert.InReferenceIdeal.Gen.facts, facts_pre,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    Cert.MixIdeal.Close.frame_kernel, Cert.MixIdeal.Close.frame_ideal, Cert.MixIdeal.Close.frame_reference,
    Cert.InIdeal.Close.frame_kernel, Cert.InIdeal.Close.frame_ideal, Cert.InIdeal.Close.frame_reference,
    trivial, algebraic, trivial, Cert.MixIdeal.Close.algebraic, Cert.InIdeal.Close.preserves, Cert.InIdeal.Close.algebraic⟩

end Cert.Proof

end
